-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_experts_in_range [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_experts_in_range [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_experts_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_experts_in_range [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_experts_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v112)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v112) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v137) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts) (hPre_experts_in_range : Cert.Pre_experts_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_experts_in_range (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_experts_in_range (hKernel2Ideal := hKernel2Ideal) (hReference2Ideal := hReference2Ideal) (hPre_experts_in_range := hPre_experts_in_range)
-- ==== Pre_experts_in_range.lean ====
abbrev S8x8192x1024 : Shape := ⟨3, ![8, 8192, 1024]⟩
abbrev S2x8x8192 : Shape := ⟨3, ![2, 8, 8192]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S2x8x8192 : S_.BroadcastsInDim S2x8x8192 (![] : Fin 0 → Fin S2x8x8192.rank)
  reducesTo_S2x8x8192_S_d0_1_2 : S2x8x8192.ReducesTo [0, 1, 2] S_
  h_S_ : 0 < S_.numel

variable [Facts]

def fn {F : FTy → Type} [FloatOps F] (main_arg0 : FVec F S8x8192x1024 .f32) (main_arg1 : IVec S2x8x8192 32) (main_arg2 : FVec F S8x1024x3584 .f32) (main_arg3 : FVec F S8x1024x3584 .f32) (main_arg4 : FVec F S8x3584x1024 .f32) : IVec S_ 1 :=
  let main_c : IVec S_ 32 := constantI S_ 32 0#32
  let main_v0 : IVec S2x8x8192 32 := broadcastInDim S2x8x8192 ![] bcast_S_S2x8x8192 main_c
  let main_v1 : IVec S2x8x8192 1 := cmpi .sge main_arg1 main_v0
  let main_c_0 : IVec S_ 1 := constantI S_ 1 1#1
  let main_v2 : IVec S_ 1 := (fun x v => Host.reduce IntOp.andi x v reducesTo_S2x8x8192_S_d0_1_2 h_S_) main_v1 main_c_0
  let main_c_1 : IVec S_ 32 := constantI S_ 32 8#32
  let main_v3 : IVec S2x8x8192 32 := broadcastInDim S2x8x8192 ![] bcast_S_S2x8x8192 main_c_1
  let main_v4 : IVec S2x8x8192 1 := cmpi .slt main_arg1 main_v3
  let main_c_2 : IVec S_ 1 := constantI S_ 1 1#1
  let main_v5 : IVec S_ 1 := (fun x v => Host.reduce IntOp.andi x v reducesTo_S2x8x8192_S_d0_1_2 h_S_) main_v4 main_c_2
  let main_v6 : IVec S_ 1 := andi main_v2 main_v5
  main_v6
-- ==== Pre_finite_scores.lean ====
abbrev S8x8192x1536 : Shape := ⟨3, ![8, 8192, 1536]⟩
abbrev S8x15x31 : Shape := ⟨3, ![8, 15, 31]⟩
abbrev S8x8192x1024 : Shape := ⟨3, ![8, 8192, 1024]⟩
abbrev S_ : Shape := ⟨0, ![]⟩

class Facts : Prop where
  slices_S8x8192x1536_S8x8192x1024_0_0_0 : S8x8192x1536.Slices ![0, 0, 0] S8x8192x1024
  bcast_S_S8x8192x1024 : S_.BroadcastsInDim S8x8192x1024 (![] : Fin 0 → Fin S8x8192x1024.rank)
  bcast_S_S8x15x31 : S_.BroadcastsInDim S8x15x31 (![] : Fin 0 → Fin S8x15x31.rank)

variable [Facts]

def fn {F : FTy → Type} [FloatOps F] (main_arg0 : FVec F S8x8192x1536 .f32) (main_arg1 : FVec F S8x15x31 .f32) : IVec S8x8192x1024 1 × IVec S8x15x31 1 :=
  let main_v0 : FVec F S8x8192x1024 .f32 := (extractStridedSlice S8x8192x1024 ![0, 0, 0] · slices_S8x8192x1536_S8x8192x1024_0_0_0) main_arg0
  let main_v1 : FVec F S8x8192x1024 .f32 := Host.absf main_v0
  let main_cst : FVec F S_ .f32 := constant S_ .f32 0x7F800000#32
  let main_v2 : FVec F S8x8192x1024 .f32 := broadcastInDim S8x8192x1024 ![] bcast_S_S8x8192x1024 main_cst
  let main_v3 : IVec S8x8192x1024 1 := cmpf .olt main_v1 main_v2
  let main_v4 : FVec F S8x15x31 .f32 := Host.absf main_arg1
  let main_cst_0 : FVec F S_ .f32 := constant S_ .f32 0x7F800000#32
  let main_v5 : FVec F S8x15x31 .f32 := broadcastInDim S8x15x31 ![] bcast_S_S8x15x31 main_cst_0
  let main_v6 : IVec S8x15x31 1 := cmpf .olt main_v4 main_v5
  (main_v3, main_v6)
-- ==== Kernel.lean ====
abbrev S8x8192x1536 : Shape := ⟨3, ![8, 8192, 1536]⟩
abbrev S8x15x31 : Shape := ⟨3, ![8, 15, 31]⟩
abbrev S64x64 : Shape := ⟨2, ![64, 64]⟩
abbrev S_ : Shape := ⟨0, ![]⟩
abbrev S512 : Shape := ⟨1, ![512]⟩
abbrev S1024 : Shape := ⟨1, ![1024]⟩
abbrev S1536 : Shape := ⟨1, ![1536]⟩
abbrev S1x1x1536 : Shape := ⟨3, ![1, 1, 1536]⟩
abbrev S1x1x64x64 : Shape := ⟨4, ![1, 1, 64, 64]⟩
abbrev S64x64x1 : Shape := ⟨3, ![64, 64, 1]⟩
abbrev S8x15x64x64 : Shape := ⟨4, ![8, 15, 64, 64]⟩
abbrev S8x8x64x64 : Shape := ⟨4, ![8, 8, 64, 64]⟩
abbrev S1x8x8x64x64 : Shape := ⟨5, ![1, 8, 8, 64, 64]⟩
abbrev S8x8x8x64x64 : Shape := ⟨5, ![8, 8, 8, 64, 64]⟩
abbrev S8x8x64x8x64 : Shape := ⟨5, ![8, 8, 64, 8, 64]⟩
abbrev S8x512x512 : Shape := ⟨3, ![8, 512, 512]⟩
abbrev S8x8192x512 : Shape := ⟨3, ![8, 8192, 512]⟩
abbrev S1x512x512 : Shape := ⟨3, ![1, 512, 512]⟩
abbrev S1x1536x512 : Shape := ⟨3, ![1, 1536, 512]⟩
abbrev S64x128 : Shape := ⟨2, ![64, 128]⟩
abbrev S1x64x512 : Shape := ⟨3, ![1, 64, 512]⟩
abbrev S64x512 : Shape := ⟨2, ![64, 512]⟩
abbrev S128x128 : Shape := ⟨2, ![128, 128]⟩
abbrev S1536x512 : Shape := ⟨2, ![1536, 512]⟩
abbrev S512x128 : Shape := ⟨2, ![512, 128]⟩
abbrev S128x512 : Shape := ⟨2, ![128, 512]⟩
abbrev S512x512 : Shape := ⟨2, ![512, 512]⟩
abbrev S512x1 : Shape := ⟨2, ![512, 1]⟩
abbrev S128x1 : Shape := ⟨2, ![128, 1]⟩
abbrev S1x64x128 : Shape := ⟨3, ![1, 64, 128]⟩

abbrev nBuf : Space → Nat
  | .hbm => 46
  | .vmem => 9
  | .smem => 0
  | _ => 0

abbrev bufTy : (tb : Table) → Fin (tcTables nBuf tb) → BufTy
  | .hbm, ⟨0, _⟩ => ⟨S8x8192x1536, .f32⟩
  | .hbm, ⟨1, _⟩ => ⟨S8x15x31, .f32⟩
  | .hbm, ⟨2, _⟩ => ⟨S64x64, .i1⟩
  | .hbm, ⟨3, _⟩ => ⟨S64x64, .i32⟩
  | .hbm, ⟨4, _⟩ => ⟨S64x64, .i1⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S1024, .f32⟩
  | .hbm, ⟨9, _⟩ => ⟨S1536, .f32⟩
  | .hbm, ⟨10, _⟩ => ⟨S1x1x1536, .f32⟩
  | .hbm, ⟨11, _⟩ => ⟨S8x8192x1536, .f32⟩
  | .hbm, ⟨12, _⟩ => ⟨S8x8192x1536, .f32⟩
  | .hbm, ⟨13, _⟩ => ⟨S8x8192x1536, .bf16⟩
  | .hbm, ⟨14, _⟩ => ⟨S1x1x64x64, .i1⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i32⟩
  | .hbm, ⟨19, _⟩ => ⟨S64x64x1, .i32⟩
  | .hbm, ⟨20, _⟩ => ⟨S8x15x64x64, .f32⟩
  | .hbm, ⟨21, _⟩ => ⟨S_, .f32⟩
  | .hbm, ⟨22, _⟩ => ⟨S_, .f32⟩
  | .hbm, ⟨23, _⟩ => ⟨S8x15x64x64, .i1⟩
  | .hbm, ⟨24, _⟩ => ⟨S8x15x64x64, .f32⟩
  | .hbm, ⟨25, _⟩ => ⟨S8x15x64x64, .f32⟩
  | .hbm, ⟨26, _⟩ => ⟨S8x8x64x64, .f32⟩
  | .hbm, ⟨27, _⟩ => ⟨S8x8x64x64, .f32⟩
  | .hbm, ⟨28, _⟩ => ⟨S8x8x64x64, .f32⟩
  | .hbm, ⟨29, _⟩ => ⟨S8x8x64x64, .f32⟩
  | .hbm, ⟨30, _⟩ => ⟨S8x8x64x64, .f32⟩
  | .hbm, ⟨31, _⟩ => ⟨S8x8x64x64, .f32⟩
  | .hbm, ⟨32, _⟩ => ⟨S8x8x64x64, .f32⟩
  | .hbm, ⟨33, _⟩ => ⟨S8x8x64x64, .f32⟩
  | .hbm, ⟨34, _⟩ => ⟨S1x8x8x64x64, .f32⟩
  | .hbm, ⟨35, _⟩ => ⟨S1x8x8x64x64, .f32⟩
  | .hbm, ⟨36, _⟩ => ⟨S1x8x8x64x64, .f32⟩
  | .hbm, ⟨37, _⟩ => ⟨S1x8x8x64x64, .f32⟩
  | .hbm, ⟨38, _⟩ => ⟨S1x8x8x64x64, .f32⟩
  | .hbm, ⟨39, _⟩ => ⟨S1x8x8x64x64, .f32⟩
  | .hbm, ⟨40, _⟩ => ⟨S1x8x8x64x64, .f32⟩
  | .hbm, ⟨41, _⟩ => ⟨S1x8x8x64x64, .f32⟩
  | .hbm, ⟨42, _⟩ => ⟨S8x8x8x64x64, .f32⟩
  | .hbm, ⟨43, _⟩ => ⟨S8x8x64x8x64, .f32⟩
  | .hbm, ⟨44, _⟩ => ⟨S8x512x512, .f32⟩
  | .hbm, ⟨45, _⟩ => ⟨S8x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x1536x512, .bf16⟩
  | .local _ .vmem, ⟨3, _⟩ => ⟨S1x1536x512, .bf16⟩
  | .local _ .vmem, ⟨4, _⟩ => ⟨S1x1536x512, .bf16⟩
  | .local _ .vmem, ⟨5, _⟩ => ⟨S1x1536x512, .bf16⟩
  | .local _ .vmem, ⟨6, _⟩ => ⟨S8x512x512, .f32⟩
  | .local _ .vmem, ⟨7, _⟩ => ⟨S1x512x512, .bf16⟩
  | .local _ .vmem, ⟨8, _⟩ => ⟨S1x512x512, .bf16⟩
  | _, _ => ⟨S8x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_cst : Ref sig .tc := ⟨.hbm, 5, rfl⟩
abbrev main_v0 : Ref sig .tc := ⟨.hbm, 6, rfl⟩
abbrev main_cst_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c120_i32 : BitVec 32 := 120#32
  let c0_i32_4 : BitVec 32 := 0#32
  let arg1 : BitVec 32 := BitVec.ofNat 32 (i 1).val
  let c8_i32_3 : BitVec 32 := 8#32
  let v7 : BitVec 32 := Scalar.muli arg1 c8_i32_3
  let c0_i32_2 : BitVec 32 := 0#32
  let v8 : BitVec 32 := Scalar.addi v7 c0_i32_2
  let c4_i32 : BitVec 32 := 4#32
  let v9 : BitVec 32 := Scalar.subi v8 c4_i32
  let v10 : BitVec 32 := Scalar.maxsi c0_i32_4 v9
  let v11 : BitVec 32 := Scalar.minsi c120_i32 v10
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v12 : BitVec 32 := Scalar.subi v11 v3
  let c64_i32_5 : BitVec 32 := 64#32
  let v13 : BitVec 32 := Scalar.muli v12 c64_i32_5
  v13
def k0_mult2 : BitVec 32 :=
  let c0_i32_2 : BitVec 32 := 0#32
  let c64_i32_6 : BitVec 32 := 64#32
  let v17 : BitVec 32 := Scalar.muli c0_i32_2 c64_i32_6
  v17
def k0_off1 (c0_i32_2 : BitVec 32) : Fin 3 → Nat :=
  let c0 : Index := 0#32
  let c64_i32_6 : BitVec 32 := 64#32
  let v17 : BitVec 32 := Scalar.muli c0_i32_2 c64_i32_6
  let v18 : BitVec 32 := v17
  let v19 : Index := Scalar.indexCast v18
  let c0_7 : Index := 0#32
  ![0, v19.toNat, 0]
def k0_off2 (i : grid0.Coords) (c0_i32_2 : BitVec 32) : Fin 2 → Nat :=
  let c120_i32 : BitVec 32 := 120#32
  let c0_i32_4 : BitVec 32 := 0#32
  let arg1 : BitVec 32 := BitVec.ofNat 32 (i 1).val
  let c8_i32_3 : BitVec 32 := 8#32
  let v7 : BitVec 32 := Scalar.muli arg1 c8_i32_3
  let v8 : BitVec 32 := Scalar.addi v7 c0_i32_2
  let c4_i32 : BitVec 32 := 4#32
  let v9 : BitVec 32 := Scalar.subi v8 c4_i32
  let v10 : BitVec 32 := Scalar.maxsi c0_i32_4 v9
  let v11 : BitVec 32 := Scalar.minsi c120_i32 v10
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v12 : BitVec 32 := Scalar.subi v11 v3
  let c64_i32_5 : BitVec 32 := 64#32
  let v13 : BitVec 32 := Scalar.muli v12 c64_i32_5
  let v14 : BitVec 32 := v13
  let v29 : Index := Scalar.indexCast v14
  let c0_10 : Index := 0#32
  ![v29.toNat, 0]
def k0_off3 (i : grid0.Coords) (c0_i32_2 : BitVec 32) : Fin 2 → Nat :=
  let c120_i32 : BitVec 32 := 120#32
  let c0_i32_4 : BitVec 32 := 0#32
  let arg1 : BitVec 32 := BitVec.ofNat 32 (i 1).val
  let c8_i32_3 : BitVec 32 := 8#32
  let v7 : BitVec 32 := Scalar.muli arg1 c8_i32_3
  let v8 : BitVec 32 := Scalar.addi v7 c0_i32_2
  let c4_i32 : BitVec 32 := 4#32
  let v9 : BitVec 32 := Scalar.subi v8 c4_i32
  let v10 : BitVec 32 := Scalar.maxsi c0_i32_4 v9
  let v11 : BitVec 32 := Scalar.minsi c120_i32 v10
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v12 : BitVec 32 := Scalar.subi v11 v3
  let c64_i32_5 : BitVec 32 := 64#32
  let v13 : BitVec 32 := Scalar.muli v12 c64_i32_5
  let v14 : BitVec 32 := v13
  let v39 : Index := Scalar.indexCast v14
  let c128 : Index := 128#32
  ![v39.toNat, 128]
def k0_off4 (i : grid0.Coords) (c0_i32_2 : BitVec 32) : Fin 2 → Nat :=
  let c120_i32 : BitVec 32 := 120#32
  let c0_i32_4 : BitVec 32 := 0#32
  let arg1 : BitVec 32 := BitVec.ofNat 32 (i 1).val
  let c8_i32_3 : BitVec 32 := 8#32
  let v7 : BitVec 32 := Scalar.muli arg1 c8_i32_3
  let v8 : BitVec 32 := Scalar.addi v7 c0_i32_2
  let c4_i32 : BitVec 32 := 4#32
  let v9 : BitVec 32 := Scalar.subi v8 c4_i32
  let v10 : BitVec 32 := Scalar.maxsi c0_i32_4 v9
  let v11 : BitVec 32 := Scalar.minsi c120_i32 v10
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v12 : BitVec 32 := Scalar.subi v11 v3
  let c64_i32_5 : BitVec 32 := 64#32
  let v13 : BitVec 32 := Scalar.muli v12 c64_i32_5
  let v14 : BitVec 32 := v13
  let v49 : Index := Scalar.indexCast v14
  let c256 : Index := 256#32
  ![v49.toNat, 256]
def k0_off5 (i : grid0.Coords) (c0_i32_2 : BitVec 32) : Fin 2 → Nat :=
  let c120_i32 : BitVec 32 := 120#32
  let c0_i32_4 : BitVec 32 := 0#32
  let arg1 : BitVec 32 := BitVec.ofNat 32 (i 1).val
  let c8_i32_3 : BitVec 32 := 8#32
  let v7 : BitVec 32 := Scalar.muli arg1 c8_i32_3
  let v8 : BitVec 32 := Scalar.addi v7 c0_i32_2
  let c4_i32 : BitVec 32 := 4#32
  let v9 : BitVec 32 := Scalar.subi v8 c4_i32
  let v10 : BitVec 32 := Scalar.maxsi c0_i32_4 v9
  let v11 : BitVec 32 := Scalar.minsi c120_i32 v10
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v12 : BitVec 32 := Scalar.subi v11 v3
  let c64_i32_5 : BitVec 32 := 64#32
  let v13 : BitVec 32 := Scalar.muli v12 c64_i32_5
  let v14 : BitVec 32 := v13
  let v59 : Index := Scalar.indexCast v14
  let c384 : Index := 384#32
  ![v59.toNat, 384]
def k0_off6 (i : grid0.Coords) (c0_i32_2 : BitVec 32) : Fin 3 → Nat :=
  let c120_i32 : BitVec 32 := 120#32
  let c0_i32_4 : BitVec 32 := 0#32
  let arg1 : BitVec 32 := BitVec.ofNat 32 (i 1).val
  let c8_i32_3 : BitVec 32 := 8#32
  let v7 : BitVec 32 := Scalar.muli arg1 c8_i32_3
  let v8 : BitVec 32 := Scalar.addi v7 c0_i32_2
  let c4_i32 : BitVec 32 := 4#32
  let v9 : BitVec 32 := Scalar.subi v8 c4_i32
  let v10 : BitVec 32 := Scalar.maxsi c0_i32_4 v9
  let v11 : BitVec 32 := Scalar.minsi c120_i32 v10
  let v15 : BitVec 32 := Scalar.subi v11 v8
  let c7_i32 : BitVec 32 := 7#32
  let v16 : BitVec 32 := Scalar.addi v15 c7_i32
  let v64 : Index := Scalar.indexCast v16
  let c0_21 : Index := 0#32
  let c0_22 : Index := 0#32
  ![v64.toNat, 0, 0]
def k0_off7 (c0_i32_2 : BitVec 32) : Fin 3 → Nat :=
  let c0_30 : Index := 0#32
  let c64_i32_6 : BitVec 32 := 64#32
  let v17 : BitVec 32 := Scalar.muli c0_i32_2 c64_i32_6
  let v18 : BitVec 32 := v17
  let v92 : Index := Scalar.indexCast v18
  let c0_31 : Index := 0#32
  ![0, v92.toNat, 0]
def k0_off8 (c0_i32_2 : BitVec 32) : Fin 3 → Nat :=
  let c0_36 : Index := 0#32
  let c64_i32_6 : BitVec 32 := 64#32
  let v17 : BitVec 32 := Scalar.muli c0_i32_2 c64_i32_6
  let v18 : BitVec 32 := v17
  let v110 : Index := Scalar.indexCast v18
  let c128_37 : Index := 128#32
  ![0, v110.toNat, 128]
def k0_off9 (c0_i32_2 : BitVec 32) : Fin 3 → Nat :=
  let c0_42 : Index := 0#32
  let c64_i32_6 : BitVec 32 := 64#32
  let v17 : BitVec 32 := Scalar.muli c0_i32_2 c64_i32_6
  let v18 : BitVec 32 := v17
  let v128 : Index := Scalar.indexCast v18
  let c256_43 : Index := 256#32
  ![0, v128.toNat, 256]
def k0_off10 (c0_i32_2 : BitVec 32) : Fin 3 → Nat :=
  let c0_48 : Index := 0#32
  let c64_i32_6 : BitVec 32 := 64#32
  let v17 : BitVec 32 := Scalar.muli c0_i32_2 c64_i32_6
  let v18 : BitVec 32 := v17
  let v146 : Index := Scalar.indexCast v18
  let c384_49 : Index := 384#32
  ![0, v146.toNat, 384]
def k0_mult3 (i : grid0.Coords) : BitVec 32 :=
  let c120_i32_54 : BitVec 32 := 120#32
  let c0_i32_53 : BitVec 32 := 0#32
  let arg1 : BitVec 32 := BitVec.ofNat 32 (i 1).val
  let c8_i32_51 : BitVec 32 := 8#32
  let v150 : BitVec 32 := Scalar.muli arg1 c8_i32_51
  let c1_i32_50 : BitVec 32 := 1#32
  let v151 : BitVec 32 := Scalar.addi v150 c1_i32_50
  let c4_i32_52 : BitVec 32 := 4#32
  let v152 : BitVec 32 := Scalar.subi v151 c4_i32_52
  let v153 : BitVec 32 := Scalar.maxsi c0_i32_53 v152
  let v154 : BitVec 32 := Scalar.minsi c120_i32_54 v153
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v155 : BitVec 32 := Scalar.subi v154 v3
  let c64_i32_55 : BitVec 32 := 64#32
  let v156 : BitVec 32 := Scalar.muli v155 c64_i32_55
  v156
def k0_mult4 : BitVec 32 :=
  let c1_i32_50 : BitVec 32 := 1#32
  let c64_i32_57 : BitVec 32 := 64#32
  let v160 : BitVec 32 := Scalar.muli c1_i32_50 c64_i32_57
  v160
def k0_mult5 (i : grid0.Coords) : BitVec 32 :=
  let c120_i32_109 : BitVec 32 := 120#32
  let c0_i32_108 : BitVec 32 := 0#32
  let arg1 : BitVec 32 := BitVec.ofNat 32 (i 1).val
  let c8_i32_106 : BitVec 32 := 8#32
  let v293 : BitVec 32 := Scalar.muli arg1 c8_i32_106
  let c2_i32 : BitVec 32 := 2#32
  let v294 : BitVec 32 := Scalar.addi v293 c2_i32
  let c4_i32_107 : BitVec 32 := 4#32
  let v295 : BitVec 32 := Scalar.subi v294 c4_i32_107
  let v296 : BitVec 32 := Scalar.maxsi c0_i32_108 v295
  let v297 : BitVec 32 := Scalar.minsi c120_i32_109 v296
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v298 : BitVec 32 := Scalar.subi v297 v3
  let c64_i32_110 : BitVec 32 := 64#32
  let v299 : BitVec 32 := Scalar.muli v298 c64_i32_110
  v299
def k0_mult6 : BitVec 32 :=
  let c2_i32 : BitVec 32 := 2#32
  let c64_i32_112 : BitVec 32 := 64#32
  let v303 : BitVec 32 := Scalar.muli c2_i32 c64_i32_112
  v303
def k0_mult7 (i : grid0.Coords) : BitVec 32 :=
  let c120_i32_164 : BitVec 32 := 120#32
  let c0_i32_163 : BitVec 32 := 0#32
  let arg1 : BitVec 32 := BitVec.ofNat 32 (i 1).val
  let c8_i32_161 : BitVec 32 := 8#32
  let v436 : BitVec 32 := Scalar.muli arg1 c8_i32_161
  let c3_i32 : BitVec 32 := 3#32
  let v437 : BitVec 32 := Scalar.addi v436 c3_i32
  let c4_i32_162 : BitVec 32 := 4#32
  let v438 : BitVec 32 := Scalar.subi v437 c4_i32_162
  let v439 : BitVec 32 := Scalar.maxsi c0_i32_163 v438
  let v440 : BitVec 32 := Scalar.minsi c120_i32_164 v439
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v441 : BitVec 32 := Scalar.subi v440 v3
  let c64_i32_165 : BitVec 32 := 64#32
  let v442 : BitVec 32 := Scalar.muli v441 c64_i32_165
  v442
def k0_mult8 : BitVec 32 :=
  let c3_i32 : BitVec 32 := 3#32
  let c64_i32_167 : BitVec 32 := 64#32
  let v446 : BitVec 32 := Scalar.muli c3_i32 c64_i32_167
  v446
def k0_mult9 (i : grid0.Coords) : BitVec 32 :=
  let c120_i32_220 : BitVec 32 := 120#32
  let c0_i32_219 : BitVec 32 := 0#32
  let arg1 : BitVec 32 := BitVec.ofNat 32 (i 1).val
  let c8_i32_217 : BitVec 32 := 8#32
  let v579 : BitVec 32 := Scalar.muli arg1 c8_i32_217
  let c4_i32_216 : BitVec 32 := 4#32
  let v580 : BitVec 32 := Scalar.addi v579 c4_i32_216
  let c4_i32_218 : BitVec 32 := 4#32
  let v581 : BitVec 32 := Scalar.subi v580 c4_i32_218
  let v582 : BitVec 32 := Scalar.maxsi c0_i32_219 v581
  let v583 : BitVec 32 := Scalar.minsi c120_i32_220 v582
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v584 : BitVec 32 := Scalar.subi v583 v3
  let c64_i32_221 : BitVec 32 := 64#32
  let v585 : BitVec 32 := Scalar.muli v584 c64_i32_221
  v585
def k0_mult10 : BitVec 32 :=
  let c4_i32_216 : BitVec 32 := 4#32
  let c64_i32_223 : BitVec 32 := 64#32
  let v589 : BitVec 32 := Scalar.muli c4_i32_216 c64_i32_223
  v589
def k0_mult11 (i : grid0.Coords) : BitVec 32 :=
  let c120_i32_275 : BitVec 32 := 120#32
  let c0_i32_274 : BitVec 32 := 0#32
  let arg1 : BitVec 32 := BitVec.ofNat 32 (i 1).val
  let c8_i32_272 : BitVec 32 := 8#32
  let v722 : BitVec 32 := Scalar.muli arg1 c8_i32_272
  let c5_i32 : BitVec 32 := 5#32
  let v723 : BitVec 32 := Scalar.addi v722 c5_i32
  let c4_i32_273 : BitVec 32 := 4#32
  let v724 : BitVec 32 := Scalar.subi v723 c4_i32_273
  let v725 : BitVec 32 := Scalar.maxsi c0_i32_274 v724
  let v726 : BitVec 32 := Scalar.minsi c120_i32_275 v725
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v727 : BitVec 32 := Scalar.subi v726 v3
  let c64_i32_276 : BitVec 32 := 64#32
  let v728 : BitVec 32 := Scalar.muli v727 c64_i32_276
  v728
def k0_mult12 : BitVec 32 :=
  let c5_i32 : BitVec 32 := 5#32
  let c64_i32_278 : BitVec 32 := 64#32
  let v732 : BitVec 32 := Scalar.muli c5_i32 c64_i32_278
  v732
def k0_mult13 (i : grid0.Coords) : BitVec 32 :=
  let c120_i32_330 : BitVec 32 := 120#32
  let c0_i32_329 : BitVec 32 := 0#32
  let arg1 : BitVec 32 := BitVec.ofNat 32 (i 1).val
  let c8_i32_327 : BitVec 32 := 8#32
  let v865 : BitVec 32 := Scalar.muli arg1 c8_i32_327
  let c6_i32 : BitVec 32 := 6#32
  let v866 : BitVec 32 := Scalar.addi v865 c6_i32
  let c4_i32_328 : BitVec 32 := 4#32
  let v867 : BitVec 32 := Scalar.subi v866 c4_i32_328
  let v868 : BitVec 32 := Scalar.maxsi c0_i32_329 v867
  let v869 : BitVec 32 := Scalar.minsi c120_i32_330 v868
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v870 : BitVec 32 := Scalar.subi v869 v3
  let c64_i32_331 : BitVec 32 := 64#32
  let v871 : BitVec 32 := Scalar.muli v870 c64_i32_331
  v871
def k0_mult14 : BitVec 32 :=
  let c6_i32 : BitVec 32 := 6#32
  let c64_i32_333 : BitVec 32 := 64#32
  let v875 : BitVec 32 := Scalar.muli c6_i32 c64_i32_333
  v875
def k0_mult15 (i : grid0.Coords) : BitVec 32 :=
  let c120_i32_386 : BitVec 32 := 120#32
  let c0_i32_385 : BitVec 32 := 0#32
  let arg1 : BitVec 32 := BitVec.ofNat 32 (i 1).val
  let c8_i32_383 : BitVec 32 := 8#32
  let v1008 : BitVec 32 := Scalar.muli arg1 c8_i32_383
  let c7_i32_382 : BitVec 32 := 7#32
  let v1009 : BitVec 32 := Scalar.addi v1008 c7_i32_382
  let c4_i32_384 : BitVec 32 := 4#32
  let v1010 : BitVec 32 := Scalar.subi v1009 c4_i32_384
  let v1011 : BitVec 32 := Scalar.maxsi c0_i32_385 v1010
  let v1012 : BitVec 32 := Scalar.minsi c120_i32_386 v1011
  let c104_i32 : BitVec 32 := 104#32
  let c0_i32 : BitVec 32 := 0#32
  let c1_i32 : BitVec 32 := 1#32
  let v0 : BitVec 32 := Scalar.subi arg1 c1_i32
  let c8_i32 : BitVec 32 := 8#32
  let v1 : BitVec 32 := Scalar.muli v0 c8_i32
  let v2 : BitVec 32 := Scalar.maxsi c0_i32 v1
  let v3 : BitVec 32 := Scalar.minsi c104_i32 v2
  let v1013 : BitVec 32 := Scalar.subi v1012 v3
  let c64_i32_387 : BitVec 32 := 64#32
  let v1014 : BitVec 32 := Scalar.muli v1013 c64_i32_387
  v1014
def k0_mult16 : BitVec 32 :=
  let c7_i32_382 : BitVec 32 := 7#32
  let c64_i32_389 : BitVec 32 := 64#32
  let v1018 : BitVec 32 := Scalar.muli c7_i32_382 c64_i32_389
  v1018
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c8_i32 : BitVec 32 := 8#32
  let v1 : BitVec 32 := Scalar.muli v0 c8_i32
  let c0_i32 : BitVec 32 := 0#32
  let c104_i32 : BitVec 32 := 104#32
  let v2 : BitVec 32 := Scalar.maxsi c0_i32 v1
  let v3 : BitVec 32 := Scalar.minsi c104_i32 v2
  let c64_i32 : BitVec 32 := 64#32
  let v4 : BitVec 32 := Scalar.muli v3 c64_i32
  let c512_i32 : BitVec 32 := 512#32
  let c0_i32_0 : BitVec 32 := 0#32
  ![arg0.toNat, v4.toNat, c512_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c8_i32 : BitVec 32 := 8#32
  let v1 : BitVec 32 := Scalar.muli v0 c8_i32
  let c0_i32 : BitVec 32 := 0#32
  let c104_i32 : BitVec 32 := 104#32
  let v2 : BitVec 32 := Scalar.maxsi c0_i32 v1
  let v3 : BitVec 32 := Scalar.minsi c104_i32 v2
  let c64_i32 : BitVec 32 := 64#32
  let v4 : BitVec 32 := Scalar.muli v3 c64_i32
  let c1024_i32 : BitVec 32 := 1024#32
  let c0_i32_0 : BitVec 32 := 0#32
  ![arg0.toNat, v4.toNat, c1024_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x8192x1536 : Shape := ⟨3, ![8, 8192, 1536]⟩
abbrev S8x15x31 : Shape := ⟨3, ![8, 15, 31]⟩
abbrev S4 : Shape := ⟨1, ![4]⟩
abbrev S_ : Shape := ⟨0, ![]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S16 : Shape := ⟨1, ![16]⟩
abbrev S1x16 : Shape := ⟨2, ![1, 16]⟩
abbrev S4x16 : Shape := ⟨2, ![4, 16]⟩
abbrev S4x1x32 : Shape := ⟨3, ![4, 1, 32]⟩
abbrev S4x16x1 : Shape := ⟨3, ![4, 16, 1]⟩
abbrev S4x16x32 : Shape := ⟨3, ![4, 16, 32]⟩
abbrev S8x8192x512 : Shape := ⟨3, ![8, 8192, 512]⟩
abbrev S8x128x64x8x64 : Shape := ⟨5, ![8, 128, 64, 8, 64]⟩
abbrev S8x128x4x16x8x64 : Shape := ⟨6, ![8, 128, 4, 16, 8, 64]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1x1 : Shape := ⟨4, ![128, 8, 1, 1]⟩
abbrev S1x1x4x32 : Shape := ⟨4, ![1, 1, 4, 32]⟩
abbrev S128x8x4x32 : Shape := ⟨4, ![128, 8, 4, 32]⟩
abbrev S128x8x4x32x1 : Shape := ⟨5, ![128, 8, 4, 32, 1]⟩
abbrev S128x8x4x32x2 : Shape := ⟨5, ![128, 8, 4, 32, 2]⟩
abbrev S8x128x8x4x32x8x64 : Shape := ⟨7, ![8, 128, 8, 4, 32, 8, 64]⟩
abbrev S128x1x1x8x1 : Shape := ⟨5, ![128, 1, 1, 8, 1]⟩
abbrev S1x4x16x1x32 : Shape := ⟨5, ![1, 4, 16, 1, 32]⟩
abbrev S128x4x16x8x32 : Shape := ⟨5, ![128, 4, 16, 8, 32]⟩
abbrev S128x4x16x8x32x1 : Shape := ⟨6, ![128, 4, 16, 8, 32, 1]⟩
abbrev S128x4x16x8x32x2 : Shape := ⟨6, ![128, 4, 16, 8, 32, 2]⟩
abbrev S8x128x4x16x8x32 : Shape := ⟨6, ![8, 128, 4, 16, 8, 32]⟩
abbrev S8x8x128x4x16x8x32 : Shape := ⟨7, ![8, 8, 128, 4, 16, 8, 32]⟩
abbrev S1x1x1x4x16x1x32 : Shape := ⟨7, ![1, 1, 1, 4, 16, 1, 32]⟩
abbrev S1x8x128x4x16x8x32 : Shape := ⟨7, ![1, 8, 128, 4, 16, 8, 32]⟩
abbrev S8x8x128x4x16x256 : Shape := ⟨6, ![8, 8, 128, 4, 16, 256]⟩
abbrev S8x8x128x4x16 : Shape := ⟨5, ![8, 8, 128, 4, 16]⟩
abbrev S8x8x128x4x16x1 : Shape := ⟨6, ![8, 8, 128, 4, 16, 1]⟩
abbrev S8x128x4x8x64x16 : Shape := ⟨6, ![8, 128, 4, 8, 64, 16]⟩

abbrev nBuf : Space → Nat
  | .hbm => 201
  | .vmem => 0
  | .smem => 0
  | _ => 0

abbrev hbmTy0_0 (i : Nat) : BufTy := match i % 128 with
  | 0 => ⟨S8x8192x1536, .f32⟩
  | 1 => ⟨S8x15x31, .f32⟩
  | 2 => ⟨S4, .i32⟩
  | 3 => ⟨S_, .i32⟩
  | 4 => ⟨S4, .i32⟩
  | 5 => ⟨S4, .i32⟩
  | 6 => ⟨S_, .i32⟩
  | 7 => ⟨S4, .i32⟩
  | 8 => ⟨S4, .i32⟩
  | 9 => ⟨S_, .i32⟩
  | 10 => ⟨S_, .i32⟩
  | 11 => ⟨S_, .i32⟩
  | 12 => ⟨S4, .i32⟩
  | 13 => ⟨S4, .i32⟩
  | 14 => ⟨S_, .i32⟩
  | 15 => ⟨S4, .i32⟩
  | 16 => ⟨S4, .i32⟩
  | 17 => ⟨S4x1, .i32⟩
  | 18 => ⟨S32, .i32⟩
  | 19 => ⟨S1x32, .i32⟩
  | 20 => ⟨S4x32, .i32⟩
  | 21 => ⟨S4x32, .i32⟩
  | 22 => ⟨S4x32, .i32⟩
  | 23 => ⟨S4x1, .i32⟩
  | 24 => ⟨S_, .i32⟩
  | 25 => ⟨S4x1, .i32⟩
  | 26 => ⟨S4x1, .i32⟩
  | 27 => ⟨S16, .i32⟩
  | 28 => ⟨S1x16, .i32⟩
  | 29 => ⟨S4x16, .i32⟩
  | 30 => ⟨S4x16, .i32⟩
  | 31 => ⟨S4x16, .i32⟩
  | 32 => ⟨S_, .i32⟩
  | 33 => ⟨S4x16, .i32⟩
  | 34 => ⟨S4x16, .i32⟩
  | 35 => ⟨S_, .i32⟩
  | 36 => ⟨S_, .i32⟩
  | 37 => ⟨S_, .i32⟩
  | 38 => ⟨S4x16, .i32⟩
  | 39 => ⟨S4x16, .i32⟩
  | 40 => ⟨S_, .i32⟩
  | 41 => ⟨S4x16, .i32⟩
  | 42 => ⟨S4x16, .i32⟩
  | 43 => ⟨S4x1x32, .i32⟩
  | 44 => ⟨S4x16x1, .i32⟩
  | 45 => ⟨S4x16x32, .i32⟩
  | 46 => ⟨S4x16x32, .i32⟩
  | 47 => ⟨S4x16x32, .i1⟩
  | 48 => ⟨S4x16x1, .i32⟩
  | 49 => ⟨S_, .i32⟩
  | 50 => ⟨S4x16x1, .i32⟩
  | 51 => ⟨S4x16x1, .i32⟩
  | 52 => ⟨S4x16x32, .i32⟩
  | 53 => ⟨S4x16x32, .i32⟩
  | 54 => ⟨S4x16x32, .i1⟩
  | 55 => ⟨S4x16x32, .i1⟩
  | 56 => ⟨S4x16x1, .i32⟩
  | 57 => ⟨S4x16x32, .i32⟩
  | 58 => ⟨S4x16x32, .i32⟩
  | 59 => ⟨S4x16x32, .i32⟩
  | 60 => ⟨S_, .i32⟩
  | 61 => ⟨S4x16x32, .i32⟩
  | 62 => ⟨S4x16x32, .i32⟩
  | 63 => ⟨S_, .i32⟩
  | 64 => ⟨S_, .i32⟩
  | 65 => ⟨S_, .i32⟩
  | 66 => ⟨S4x16x32, .i32⟩
  | 67 => ⟨S4x16x32, .i32⟩
  | 68 => ⟨S_, .i32⟩
  | 69 => ⟨S4x16x32, .i32⟩
  | 70 => ⟨S4x16x32, .i32⟩
  | 71 => ⟨S8x8192x512, .f32⟩
  | 72 => ⟨S8x8192x512, .f32⟩
  | 73 => ⟨S8x8192x512, .f32⟩
  | 74 => ⟨S8x128x64x8x64, .f32⟩
  | 75 => ⟨S8x128x64x8x64, .f32⟩
  | 76 => ⟨S8x128x64x8x64, .f32⟩
  | 77 => ⟨S8x128x4x16x8x64, .f32⟩
  | 78 => ⟨S128, .i32⟩
  | 79 => ⟨S_, .i32⟩
  | 80 => ⟨S128, .i32⟩
  | 81 => ⟨S128, .i32⟩
  | 82 => ⟨S_, .i32⟩
  | 83 => ⟨S_, .i32⟩
  | 84 => ⟨S_, .i32⟩
  | 85 => ⟨S128, .i32⟩
  | 86 => ⟨S128, .i32⟩
  | 87 => ⟨S_, .i32⟩
  | 88 => ⟨S128, .i32⟩
  | 89 => ⟨S128, .i32⟩
  | 90 => ⟨S128x1, .i32⟩
  | 91 => ⟨S8, .i32⟩
  | 92 => ⟨S1x8, .i32⟩
  | 93 => ⟨S128x8, .i32⟩
  | 94 => ⟨S128x8, .i32⟩
  | 95 => ⟨S128x8, .i32⟩
  | 96 => ⟨S128x1, .i32⟩
  | 97 => ⟨S128x8, .i32⟩
  | 98 => ⟨S128x8, .i32⟩
  | 99 => ⟨S_, .i32⟩
  | 100 => ⟨S128x8, .i32⟩
  | 101 => ⟨S128x8, .i32⟩
  | 102 => ⟨S128x8x1x1, .i32⟩
  | 103 => ⟨S1x1x4x32, .i32⟩
  | 104 => ⟨S_, .i32⟩
  | 105 => ⟨S128x8x1x1, .i32⟩
  | 106 => ⟨S128x8x1x1, .i1⟩
  | 107 => ⟨S_, .i32⟩
  | 108 => ⟨S128x8x1x1, .i32⟩
  | 109 => ⟨S128x8x1x1, .i32⟩
  | 110 => ⟨S128x8x1x1, .i32⟩
  | 111 => ⟨S_, .i32⟩
  | 112 => ⟨S1x1x4x32, .i32⟩
  | 113 => ⟨S1x1x4x32, .i1⟩
  | 114 => ⟨S_, .i32⟩
  | 115 => ⟨S1x1x4x32, .i32⟩
  | 116 => ⟨S1x1x4x32, .i32⟩
  | 117 => ⟨S1x1x4x32, .i32⟩
  | 118 => ⟨S128x8x4x32, .i32⟩
  | 119 => ⟨S128x8x4x32, .i32⟩
  | 120 => ⟨S128x8x4x32x1, .i32⟩
  | 121 => ⟨S128x8x4x32x1, .i32⟩
  | 122 => ⟨S128x8x4x32x2, .i32⟩
  | 123 => ⟨S8x128x8x4x32x8x64, .f32⟩
  | 124 => ⟨S128x8x1x1, .i32⟩
  | 125 => ⟨S1x1x4x32, .i32⟩
  | 126 => ⟨S_, .i32⟩
  | 127 => ⟨S128x8x1x1, .i32⟩
  | _ => ⟨S8x8192x1536, .f32⟩

abbrev hbmTy0_1 (i : Nat) : BufTy := match i % 128 with
  | 0 => ⟨S128x8x1x1, .i1⟩
  | 1 => ⟨S_, .i32⟩
  | 2 => ⟨S128x8x1x1, .i32⟩
  | 3 => ⟨S128x8x1x1, .i32⟩
  | 4 => ⟨S128x8x1x1, .i32⟩
  | 5 => ⟨S_, .i32⟩
  | 6 => ⟨S1x1x4x32, .i32⟩
  | 7 => ⟨S1x1x4x32, .i1⟩
  | 8 => ⟨S_, .i32⟩
  | 9 => ⟨S1x1x4x32, .i32⟩
  | 10 => ⟨S1x1x4x32, .i32⟩
  | 11 => ⟨S1x1x4x32, .i32⟩
  | 12 => ⟨S128x8x4x32, .i32⟩
  | 13 => ⟨S128x8x4x32, .i32⟩
  | 14 => ⟨S128x8x4x32x1, .i32⟩
  | 15 => ⟨S128x8x4x32x1, .i32⟩
  | 16 => ⟨S128x8x4x32x2, .i32⟩
  | 17 => ⟨S8x128x8x4x32x8x64, .f32⟩
  | 18 => ⟨S128x1x1x8x1, .i32⟩
  | 19 => ⟨S1x4x16x1x32, .i32⟩
  | 20 => ⟨S_, .i32⟩
  | 21 => ⟨S128x1x1x8x1, .i32⟩
  | 22 => ⟨S128x1x1x8x1, .i1⟩
  | 23 => ⟨S_, .i32⟩
  | 24 => ⟨S128x1x1x8x1, .i32⟩
  | 25 => ⟨S128x1x1x8x1, .i32⟩
  | 26 => ⟨S128x1x1x8x1, .i32⟩
  | 27 => ⟨S_, .i32⟩
  | 28 => ⟨S1x4x16x1x32, .i32⟩
  | 29 => ⟨S1x4x16x1x32, .i1⟩
  | 30 => ⟨S_, .i32⟩
  | 31 => ⟨S1x4x16x1x32, .i32⟩
  | 32 => ⟨S1x4x16x1x32, .i32⟩
  | 33 => ⟨S1x4x16x1x32, .i32⟩
  | 34 => ⟨S128x4x16x8x32, .i32⟩
  | 35 => ⟨S128x4x16x8x32, .i32⟩
  | 36 => ⟨S128x4x16x8x32x1, .i32⟩
  | 37 => ⟨S128x4x16x8x32x1, .i32⟩
  | 38 => ⟨S128x4x16x8x32x2, .i32⟩
  | 39 => ⟨S8x128x4x16x8x32, .f32⟩
  | 40 => ⟨S8x8x128x4x16x8x32, .f32⟩
  | 41 => ⟨S_, .f32⟩
  | 42 => ⟨S8x8x128x4x16x8x32, .f32⟩
  | 43 => ⟨S8x8x128x4x16x8x32, .f32⟩
  | 44 => ⟨S1x1x1x4x16x1x32, .i1⟩
  | 45 => ⟨S1x8x128x4x16x8x32, .f32⟩
  | 46 => ⟨S8x8x128x4x16x8x32, .f32⟩
  | 47 => ⟨S8x8x128x4x16x8x32, .f32⟩
  | 48 => ⟨S_, .f32⟩
  | 49 => ⟨S_, .f32⟩
  | 50 => ⟨S8x8x128x4x16x8x32, .i1⟩
  | 51 => ⟨S8x8x128x4x16x8x32, .f32⟩
  | 52 => ⟨S8x8x128x4x16x8x32, .f32⟩
  | 53 => ⟨S8x8x128x4x16x256, .f32⟩
  | 54 => ⟨S_, .f32⟩
  | 55 => ⟨S8x8x128x4x16, .f32⟩
  | 56 => ⟨S_, .f32⟩
  | 57 => ⟨S8x8x128x4x16, .f32⟩
  | 58 => ⟨S8x8x128x4x16, .f32⟩
  | 59 => ⟨S8x8x128x4x16x1, .f32⟩
  | 60 => ⟨S8x8x128x4x16x256, .f32⟩
  | 61 => ⟨S8x8x128x4x16x256, .f32⟩
  | 62 => ⟨S8x8x128x4x16x256, .f32⟩
  | 63 => ⟨S_, .f32⟩
  | 64 => ⟨S8x8x128x4x16, .f32⟩
  | 65 => ⟨S8x8x128x4x16x1, .f32⟩
  | 66 => ⟨S8x8x128x4x16x256, .f32⟩
  | 67 => ⟨S8x8x128x4x16x256, .f32⟩
  | 68 => ⟨S8x8x128x4x16x8x32, .f32⟩
  | 69 => ⟨S8x128x4x8x64x16, .f32⟩
  | 70 => ⟨S8x128x4x16x8x64, .f32⟩
  | 71 => ⟨S8x8192x512, .f32⟩
  | 72 => ⟨S8x8192x512, .bf16⟩
  | _ => ⟨S8x8192x1536, .f32⟩

abbrev hbmTy (i : Nat) : BufTy := match i / 128 with
  | 0 => hbmTy0_0 i
  | 1 => hbmTy0_1 i
  | _ => ⟨S8x8192x1536, .f32⟩

abbrev bufTy : (tb : Table) → Fin (tcTables nBuf tb) → BufTy
  | .hbm, ⟨i, _⟩ => hbmTy i
  | _, _ => ⟨S8x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_c_6 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_c_10 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_c_13 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_15 : Ref sig .tc := ⟨.hbm, 104, rfl⟩
abbrev main_v66 : Ref sig .tc := ⟨.hbm, 105, rfl⟩
abbrev main_v67 : Ref sig .tc := ⟨.hbm, 106, rfl⟩
abbrev main_c_16 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_c_17 : Ref sig .tc := ⟨.hbm, 111, rfl⟩
abbrev main_v71 : Ref sig .tc := ⟨.hbm, 112, rfl⟩
abbrev main_v72 : Ref sig .tc := ⟨.hbm, 113, rfl⟩
abbrev main_c_18 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_19 : Ref sig .tc := ⟨.hbm, 126, rfl⟩
abbrev main_v84 : Ref sig .tc := ⟨.hbm, 127, rfl⟩
abbrev main_v85 : Ref sig .tc := ⟨.hbm, 128, rfl⟩
abbrev main_c_20 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_c_21 : Ref sig .tc := ⟨.hbm, 133, rfl⟩
abbrev main_v89 : Ref sig .tc := ⟨.hbm, 134, rfl⟩
abbrev main_v90 : Ref sig .tc := ⟨.hbm, 135, rfl⟩
abbrev main_c_22 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_c_23 : Ref sig .tc := ⟨.hbm, 148, rfl⟩
abbrev main_v102 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_25 : Ref sig .tc := ⟨.hbm, 155, rfl⟩
abbrev main_v107 : Ref sig .tc := ⟨.hbm, 156, rfl⟩
abbrev main_v108 : Ref sig .tc := ⟨.hbm, 157, rfl⟩
abbrev main_c_26 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_27 : Ref sig .tc := ⟨.hbm, 176, rfl⟩
abbrev main_call4_v0 : Ref sig .tc := ⟨.hbm, 177, rfl⟩
abbrev main_call4_v1 : Ref sig .tc := ⟨.hbm, 178, rfl⟩
abbrev main_call4_v2 : Ref sig .tc := ⟨.hbm, 179, rfl⟩
abbrev main_v125 : Ref sig .tc := ⟨.hbm, 180, rfl⟩
abbrev main_v126 : Ref sig .tc := ⟨.hbm, 181, rfl⟩
abbrev main_cst_28 : Ref sig .tc := ⟨.hbm, 182, rfl⟩
abbrev main_v127 : Ref sig .tc := ⟨.hbm, 183, rfl⟩
abbrev main_cst_29 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_30 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩

abbrev nD : Nat := 1
abbrev τ : Topo := Topo.v7x

variable {F : FTy → Type} [FloatOps F]
-- ==== Kernel2.lean ====
abbrev S8x8192x1024 : Shape := ⟨3, ![8, 8192, 1024]⟩
abbrev S2x8x8192 : Shape := ⟨3, ![2, 8, 8192]⟩
abbrev S8x1024x3584 : Shape := ⟨3, ![8, 1024, 3584]⟩
abbrev S8x3584x1024 : Shape := ⟨3, ![8, 3584, 1024]⟩
abbrev S131072 : Shape := ⟨1, ![131072]⟩
abbrev S131072x1 : Shape := ⟨2, ![131072, 1]⟩
abbrev S8 : Shape := ⟨1, ![8]⟩
abbrev S1x8 : Shape := ⟨2, ![1, 8]⟩
abbrev S131072x8 : Shape := ⟨2, ![131072, 8]⟩
abbrev S_ : Shape := ⟨0, ![]⟩
abbrev S1 : Shape := ⟨1, ![1]⟩
abbrev S264 : Shape := ⟨1, ![264]⟩
abbrev S264x1 : Shape := ⟨2, ![264, 1]⟩
abbrev S264x8 : Shape := ⟨2, ![264, 8]⟩
abbrev S264x512 : Shape := ⟨2, ![264, 512]⟩
abbrev S135168 : Shape := ⟨1, ![135168]⟩
abbrev S135168x1 : Shape := ⟨2, ![135168, 1]⟩
abbrev S65536x1024 : Shape := ⟨2, ![65536, 1024]⟩
abbrev S135168x1024 : Shape := ⟨2, ![135168, 1024]⟩
abbrev S512x1024 : Shape := ⟨2, ![512, 1024]⟩
abbrev S1x1024x3584 : Shape := ⟨3, ![1, 1024, 3584]⟩
abbrev S1x3584x1024 : Shape := ⟨3, ![1, 3584, 1024]⟩
abbrev S1x1024x1792 : Shape := ⟨3, ![1, 1024, 1792]⟩
abbrev S1024x1792 : Shape := ⟨2, ![1024, 1792]⟩
abbrev S512x1792 : Shape := ⟨2, ![512, 1792]⟩
abbrev S1x1792x1024 : Shape := ⟨3, ![1, 1792, 1024]⟩
abbrev S1792x1024 : Shape := ⟨2, ![1792, 1024]⟩
abbrev S131072x1024 : Shape := ⟨2, ![131072, 1024]⟩
abbrev S2x8x8192x1024 : Shape := ⟨4, ![2, 8, 8192, 1024]⟩

abbrev nBuf : Space → Nat
  | .hbm => 207
  | .vmem => 7
  | .smem => 2
  | _ => 0

abbrev hbmTy0_0 (i : Nat) : BufTy := match i % 128 with
  | 0 => ⟨S8x8192x1024, .f32⟩
  | 1 => ⟨S2x8x8192, .i32⟩
  | 2 => ⟨S8x1024x3584, .f32⟩
  | 3 => ⟨S8x1024x3584, .f32⟩
  | 4 => ⟨S8x3584x1024, .f32⟩
  | 5 => ⟨S8x8192x1024, .bf16⟩
  | 6 => ⟨S131072, .i32⟩
  | 7 => ⟨S131072x1, .i32⟩
  | 8 => ⟨S8, .i32⟩
  | 9 => ⟨S1x8, .i32⟩
  | 10 => ⟨S131072x8, .i32⟩
  | 11 => ⟨S131072x8, .i32⟩
  | 12 => ⟨S131072x8, .i1⟩
  | 13 => ⟨S131072x8, .i32⟩
  | 14 => ⟨S_, .i32⟩
  | 15 => ⟨S_, .i32⟩
  | 16 => ⟨S131072x8, .i32⟩
  | 17 => ⟨S_, .i32⟩
  | 18 => ⟨S131072x8, .i32⟩
  | 19 => ⟨S131072x8, .i32⟩
  | 20 => ⟨S131072x8, .i32⟩
  | 21 => ⟨S_, .i32⟩
  | 22 => ⟨S131072, .i32⟩
  | 23 => ⟨S1x8, .i32⟩
  | 24 => ⟨S8, .i32⟩
  | 25 => ⟨S_, .i32⟩
  | 26 => ⟨S8, .i32⟩
  | 27 => ⟨S8, .i32⟩
  | 28 => ⟨S_, .i32⟩
  | 29 => ⟨S8, .i32⟩
  | 30 => ⟨S8, .i32⟩
  | 31 => ⟨S_, .i32⟩
  | 32 => ⟨S_, .i32⟩
  | 33 => ⟨S8, .i32⟩
  | 34 => ⟨S8, .i32⟩
  | 35 => ⟨S8, .i32⟩
  | 36 => ⟨S_, .i32⟩
  | 37 => ⟨S8, .i32⟩
  | 38 => ⟨S8, .i1⟩
  | 39 => ⟨S8, .i32⟩
  | 40 => ⟨S8, .i32⟩
  | 41 => ⟨S_, .i32⟩
  | 42 => ⟨S8, .i32⟩
  | 43 => ⟨S8, .i1⟩
  | 44 => ⟨S8, .i1⟩
  | 45 => ⟨S_, .i32⟩
  | 46 => ⟨S8, .i32⟩
  | 47 => ⟨S8, .i32⟩
  | 48 => ⟨S8, .i32⟩
  | 49 => ⟨S_, .i32⟩
  | 50 => ⟨S8, .i32⟩
  | 51 => ⟨S8, .i32⟩
  | 52 => ⟨S_, .i32⟩
  | 53 => ⟨S_, .i32⟩
  | 54 => ⟨S8, .i32⟩
  | 55 => ⟨S8, .i32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S131072x1, .i32⟩
  | 64 => ⟨S131072, .i32⟩
  | 65 => ⟨S131072, .i32⟩
  | 66 => ⟨S1, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i1⟩
  | 77 => ⟨S_, .i1⟩
  | 78 => ⟨S_, .i32⟩
  | 79 => ⟨S_, .i32⟩
  | 80 => ⟨S_, .i32⟩
  | 81 => ⟨S264, .i32⟩
  | 82 => ⟨S_, .i32⟩
  | 83 => ⟨S_, .i32⟩
  | 84 => ⟨S_, .i32⟩
  | 85 => ⟨S264, .i32⟩
  | 86 => ⟨S264, .i32⟩
  | 87 => ⟨S_, .i32⟩
  | 88 => ⟨S264, .i32⟩
  | 89 => ⟨S264, .i32⟩
  | 90 => ⟨S264x1, .i32⟩
  | 91 => ⟨S1x8, .i32⟩
  | 92 => ⟨S264x8, .i32⟩
  | 93 => ⟨S264x8, .i32⟩
  | 94 => ⟨S264x8, .i1⟩
  | 95 => ⟨S264x8, .i32⟩
  | 96 => ⟨S_, .i32⟩
  | 97 => ⟨S264, .i32⟩
  | 98 => ⟨S_, .i32⟩
  | 99 => ⟨S264, .i32⟩
  | 100 => ⟨S131072, .i32⟩
  | 101 => ⟨S131072, .i32⟩
  | 102 => ⟨S131072, .i32⟩
  | 103 => ⟨S264x512, .i32⟩
  | 104 => ⟨S135168, .i32⟩
  | 105 => ⟨S135168, .i32⟩
  | 106 => ⟨S_, .i32⟩
  | 107 => ⟨S135168, .i32⟩
  | 108 => ⟨S135168, .i1⟩
  | 109 => ⟨S_, .i32⟩
  | 110 => ⟨S135168, .i32⟩
  | 111 => ⟨S135168, .i32⟩
  | 112 => ⟨S135168, .i32⟩
  | 113 => ⟨S135168x1, .i32⟩
  | 114 => ⟨S135168, .i32⟩
  | 115 => ⟨S135168, .i32⟩
  | 116 => ⟨S_, .i32⟩
  | 117 => ⟨S_, .i32⟩
  | 118 => ⟨S8, .i32⟩
  | 119 => ⟨S8, .i32⟩
  | 120 => ⟨S_, .i32⟩
  | 121 => ⟨S135168, .i32⟩
  | 122 => ⟨S135168, .i1⟩
  | 123 => ⟨S_, .i32⟩
  | 124 => ⟨S135168, .i32⟩
  | 125 => ⟨S135168, .i32⟩
  | 126 => ⟨S135168, .i32⟩
  | 127 => ⟨S135168x1, .i32⟩
  | _ => ⟨S8x8192x1024, .f32⟩

abbrev hbmTy0_1 (i : Nat) : BufTy := match i % 128 with
  | 0 => ⟨S135168, .i32⟩
  | 1 => ⟨S135168, .i32⟩
  | 2 => ⟨S_, .i32⟩
  | 3 => ⟨S_, .i32⟩
  | 4 => ⟨S_, .i32⟩
  | 5 => ⟨S135168, .i32⟩
  | 6 => ⟨S135168, .i32⟩
  | 7 => ⟨S_, .i32⟩
  | 8 => ⟨S135168, .i32⟩
  | 9 => ⟨S135168, .i32⟩
  | 10 => ⟨S_, .i32⟩
  | 11 => ⟨S135168, .i32⟩
  | 12 => ⟨S135168, .i1⟩
  | 13 => ⟨S_, .i32⟩
  | 14 => ⟨S135168, .i32⟩
  | 15 => ⟨S135168, .i32⟩
  | 16 => ⟨S135168, .i32⟩
  | 17 => ⟨S135168x1, .i32⟩
  | 18 => ⟨S135168, .i32⟩
  | 19 => ⟨S135168, .i1⟩
  | 20 => ⟨S_, .i32⟩
  | 21 => ⟨S135168, .i32⟩
  | 22 => ⟨S135168, .i1⟩
  | 23 => ⟨S_, .i32⟩
  | 24 => ⟨S135168, .i32⟩
  | 25 => ⟨S135168, .i32⟩
  | 26 => ⟨S135168, .i32⟩
  | 27 => ⟨S135168x1, .i32⟩
  | 28 => ⟨S135168, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S135168, .i32⟩
  | 36 => ⟨S135168, .i32⟩
  | 37 => ⟨S_, .i32⟩
  | 38 => ⟨S135168, .i32⟩
  | 39 => ⟨S135168, .i1⟩
  | 40 => ⟨S_, .i32⟩
  | 41 => ⟨S135168, .i32⟩
  | 42 => ⟨S135168, .i1⟩
  | 43 => ⟨S_, .i32⟩
  | 44 => ⟨S_, .i1⟩
  | 45 => ⟨S135168, .i1⟩
  | 46 => ⟨S135168, .i1⟩
  | 47 => ⟨S135168, .i1⟩
  | 48 => ⟨S135168, .i32⟩
  | 49 => ⟨S135168, .i32⟩
  | 50 => ⟨S135168, .i32⟩
  | 51 => ⟨S_, .i32⟩
  | 52 => ⟨S_, .i32⟩
  | 53 => ⟨S135168, .i32⟩
  | 54 => ⟨S135168, .i32⟩
  | 55 => ⟨S65536x1024, .bf16⟩
  | 56 => ⟨S_, .i32⟩
  | 57 => ⟨S135168, .i32⟩
  | 58 => ⟨S135168, .i1⟩
  | 59 => ⟨S_, .i32⟩
  | 60 => ⟨S135168, .i32⟩
  | 61 => ⟨S135168, .i32⟩
  | 62 => ⟨S135168, .i32⟩
  | 63 => ⟨S135168x1, .i32⟩
  | 64 => ⟨S135168x1024, .bf16⟩
  | 65 => ⟨S8x1024x3584, .bf16⟩
  | 66 => ⟨S8x1024x3584, .bf16⟩
  | 67 => ⟨S8x3584x1024, .bf16⟩
  | 68 => ⟨S135168x1024, .bf16⟩
  | 69 => ⟨S_, .i32⟩
  | 70 => ⟨S131072, .i32⟩
  | 71 => ⟨S131072, .i1⟩
  | 72 => ⟨S_, .i32⟩
  | 73 => ⟨S131072, .i32⟩
  | 74 => ⟨S131072, .i32⟩
  | 75 => ⟨S131072, .i32⟩
  | 76 => ⟨S131072x1, .i32⟩
  | 77 => ⟨S131072x1024, .bf16⟩
  | 78 => ⟨S2x8x8192x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x3584, .bf16⟩
  | .local _ .vmem, ⟨3, _⟩ => ⟨S1x1024x3584, .bf16⟩
  | .local _ .vmem, ⟨4, _⟩ => ⟨S1x3584x1024, .bf16⟩
  | .local _ .vmem, ⟨5, _⟩ => ⟨S512x1024, .bf16⟩
  | .local _ .vmem, ⟨6, _⟩ => ⟨S512x1024, .bf16⟩
  | .local _ .smem, ⟨0, _⟩ => ⟨S264, .i32⟩
  | .local _ .smem, ⟨1, _⟩ => ⟨S1, .i32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_call0_c : Ref sig .tc := ⟨.hbm, 14, rfl⟩
abbrev main_call0_call0_v0 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_call2_call0_c : Ref sig .tc := ⟨.hbm, 52, rfl⟩
abbrev main_call2_call0_v0 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_c_6 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_7 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c : Ref sig .tc := ⟨.hbm, 75, rfl⟩
abbrev main_call3_v6 : Ref sig .tc := ⟨.hbm, 76, rfl⟩
abbrev main_call3_v7 : Ref sig .tc := ⟨.hbm, 77, rfl⟩
abbrev main_call3_c_0 : Ref sig .tc := ⟨.hbm, 78, rfl⟩
abbrev main_call3_v8 : Ref sig .tc := ⟨.hbm, 79, rfl⟩
abbrev main_v35 : Ref sig .tc := ⟨.hbm, 80, rfl⟩
abbrev main_v37 : Ref sig .tc := ⟨.hbm, 81, rfl⟩
abbrev main_v38 : Ref sig .tc := ⟨.hbm, 82, rfl⟩
abbrev main_c_8 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_9 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_10 : Ref sig .tc := ⟨.hbm, 96, rfl⟩
abbrev main_v50 : Ref sig .tc := ⟨.hbm, 97, rfl⟩
abbrev main_c_11 : Ref sig .tc := ⟨.hbm, 98, rfl⟩
abbrev main_v51 : Ref sig .tc := ⟨.hbm, 99, rfl⟩
abbrev main_call4_v0 : Ref sig .tc := ⟨.hbm, 100, rfl⟩
abbrev main_call4_v1_0 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_12 : Ref sig .tc := ⟨.hbm, 106, rfl⟩
abbrev main_v57 : Ref sig .tc := ⟨.hbm, 107, rfl⟩
abbrev main_v58 : Ref sig .tc := ⟨.hbm, 108, rfl⟩
abbrev main_c_13 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_call5_call0_c : Ref sig .tc := ⟨.hbm, 116, rfl⟩
abbrev main_call5_call0_v0 : Ref sig .tc := ⟨.hbm, 117, rfl⟩
abbrev main_v65 : Ref sig .tc := ⟨.hbm, 118, rfl⟩
abbrev main_v66 : Ref sig .tc := ⟨.hbm, 119, rfl⟩
abbrev main_c_14 : Ref sig .tc := ⟨.hbm, 120, rfl⟩
abbrev main_v67 : Ref sig .tc := ⟨.hbm, 121, rfl⟩
abbrev main_v68 : Ref sig .tc := ⟨.hbm, 122, rfl⟩
abbrev main_c_15 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_c_16 : Ref sig .tc := ⟨.hbm, 130, rfl⟩
abbrev main_c_17 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_v75 : Ref sig .tc := ⟨.hbm, 137, rfl⟩
abbrev main_c_18 : Ref sig .tc := ⟨.hbm, 138, rfl⟩
abbrev main_v76 : Ref sig .tc := ⟨.hbm, 139, rfl⟩
abbrev main_v77 : Ref sig .tc := ⟨.hbm, 140, rfl⟩
abbrev main_c_19 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_c_20 : Ref sig .tc := ⟨.hbm, 148, rfl⟩
abbrev main_v84 : Ref sig .tc := ⟨.hbm, 149, rfl⟩
abbrev main_v85 : Ref sig .tc := ⟨.hbm, 150, rfl⟩
abbrev main_c_21 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_c_22 : Ref sig .tc := ⟨.hbm, 157, rfl⟩
abbrev main_call7_v0 : Ref sig .tc := ⟨.hbm, 158, rfl⟩
abbrev main_call7_c : Ref sig .tc := ⟨.hbm, 159, rfl⟩
abbrev main_call7_v1 : Ref sig .tc := ⟨.hbm, 160, rfl⟩
abbrev main_call7_c_0 : Ref sig .tc := ⟨.hbm, 161, rfl⟩
abbrev main_call7_v2 : Ref sig .tc := ⟨.hbm, 162, rfl⟩
abbrev main_call7_v3 : Ref sig .tc := ⟨.hbm, 163, rfl⟩
abbrev main_call7_v4 : Ref sig .tc := ⟨.hbm, 164, rfl⟩
abbrev main_call7_c_1 : Ref sig .tc := ⟨.hbm, 165, rfl⟩
abbrev main_call7_v5 : Ref sig .tc := ⟨.hbm, 166, rfl⟩
abbrev main_call7_v6 : Ref sig .tc := ⟨.hbm, 167, rfl⟩
abbrev main_call7_c_2 : Ref sig .tc := ⟨.hbm, 168, rfl⟩
abbrev main_call7_v7 : Ref sig .tc := ⟨.hbm, 169, rfl⟩
abbrev main_call7_v8 : Ref sig .tc := ⟨.hbm, 170, rfl⟩
abbrev main_call7_c_3 : Ref sig .tc := ⟨.hbm, 171, rfl⟩
abbrev main_call7_v9 : Ref sig .tc := ⟨.hbm, 172, rfl⟩
abbrev main_call7_v10 : Ref sig .tc := ⟨.hbm, 173, rfl⟩
abbrev main_call7_v11 : Ref sig .tc := ⟨.hbm, 174, rfl⟩
abbrev main_call7_v12 : Ref sig .tc := ⟨.hbm, 175, rfl⟩
abbrev main_call7_v13 : Ref sig .tc := ⟨.hbm, 176, rfl⟩
abbrev main_call7_v14 : Ref sig .tc := ⟨.hbm, 177, rfl⟩
abbrev main_v91 : Ref sig .tc := ⟨.hbm, 178, rfl⟩
abbrev main_c_23 : Ref sig .tc := ⟨.hbm, 179, rfl⟩
abbrev main_call8_v0 : Ref sig .tc := ⟨.hbm, 180, rfl⟩
abbrev main_call8_v1 : Ref sig .tc := ⟨.hbm, 181, rfl⟩
abbrev main_v92 : Ref sig .tc := ⟨.hbm, 182, rfl⟩
abbrev main_v93 : Ref sig .tc := ⟨.hbm, 183, rfl⟩
abbrev main_c_24 : Ref sig .tc := ⟨.hbm, 184, rfl⟩
abbrev main_v94 : Ref sig .tc := ⟨.hbm, 185, rfl⟩
abbrev main_v95 : Ref sig .tc := ⟨.hbm, 186, rfl⟩
abbrev main_c_25 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_c_26 : Ref sig .tc := ⟨.hbm, 197, rfl⟩
abbrev main_v105 : Ref sig .tc := ⟨.hbm, 198, rfl⟩
abbrev main_v106 : Ref sig .tc := ⟨.hbm, 199, rfl⟩
abbrev main_c_27 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v52 : Ref sig .tc := ⟨.smem, 0, rfl⟩
abbrev main_v36 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![264], ![false]⟩

abbrev pre0 : Pipeline.Prefetch sig := ⟨2, ![main_v52.idx, main_v36.idx], fun | 0 => main_v52.names | 1 => main_v36.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x8192x1024 : Shape := ⟨3, ![8, 8192, 1024]⟩
abbrev S2x8x8192 : Shape := ⟨3, ![2, 8, 8192]⟩
abbrev S8x1024x3584 : Shape := ⟨3, ![8, 1024, 3584]⟩
abbrev S8x3584x1024 : Shape := ⟨3, ![8, 3584, 1024]⟩
abbrev S_ : Shape := ⟨0, ![]⟩
abbrev S2x8x8192x1024 : Shape := ⟨4, ![2, 8, 8192, 1024]⟩
abbrev S1x1024x3584 : Shape := ⟨3, ![1, 1024, 3584]⟩
abbrev S1024x3584 : Shape := ⟨2, ![1024, 3584]⟩
abbrev S8x8192x3584 : Shape := ⟨3, ![8, 8192, 3584]⟩
abbrev S1x3584x1024 : Shape := ⟨3, ![1, 3584, 1024]⟩
abbrev S3584x1024 : Shape := ⟨2, ![3584, 1024]⟩
abbrev S2x8x8192x1 : Shape := ⟨4, ![2, 8, 8192, 1]⟩
abbrev S1x8x8192x1024 : Shape := ⟨4, ![1, 8, 8192, 1024]⟩

abbrev nBuf : Space → Nat
  | .hbm => 256
  | .vmem => 0
  | .smem => 0
  | _ => 0

abbrev hbmTy0_0 (i : Nat) : BufTy := match i % 128 with
  | 0 => ⟨S8x8192x1024, .f32⟩
  | 1 => ⟨S2x8x8192, .i32⟩
  | 2 => ⟨S8x1024x3584, .f32⟩
  | 3 => ⟨S8x1024x3584, .f32⟩
  | 4 => ⟨S8x3584x1024, .f32⟩
  | 5 => ⟨S_, .f32⟩
  | 6 => ⟨S2x8x8192x1024, .f32⟩
  | 7 => ⟨S1x1024x3584, .f32⟩
  | 8 => ⟨S1024x3584, .f32⟩
  | 9 => ⟨S8x8192x3584, .f32⟩
  | 10 => ⟨S8x8192x3584, .f32⟩
  | 11 => ⟨S8x8192x3584, .f32⟩
  | 12 => ⟨S_, .f32⟩
  | 13 => ⟨S8x8192x3584, .f32⟩
  | 14 => ⟨S8x8192x3584, .f32⟩
  | 15 => ⟨S_, .f32⟩
  | 16 => ⟨S8x8192x3584, .f32⟩
  | 17 => ⟨S8x8192x3584, .f32⟩
  | 18 => ⟨S8x8192x3584, .f32⟩
  | 19 => ⟨S1x1024x3584, .f32⟩
  | 20 => ⟨S1024x3584, .f32⟩
  | 21 => ⟨S8x8192x3584, .f32⟩
  | 22 => ⟨S8x8192x3584, .f32⟩
  | 23 => ⟨S1x3584x1024, .f32⟩
  | 24 => ⟨S3584x1024, .f32⟩
  | 25 => ⟨S8x8192x1024, .f32⟩
  | 26 => ⟨S_, .i32⟩
  | 27 => ⟨S2x8x8192, .i32⟩
  | 28 => ⟨S2x8x8192, .i1⟩
  | 29 => ⟨S2x8x8192x1, .i1⟩
  | 30 => ⟨S1x8x8192x1024, .f32⟩
  | 31 => ⟨S_, .f32⟩
  | 32 => ⟨S_, .f32⟩
  | 33 => ⟨S2x8x8192x1024, .i1⟩
  | 34 => ⟨S2x8x8192x1024, .f32⟩
  | 35 => ⟨S2x8x8192x1024, .f32⟩
  | 36 => ⟨S2x8x8192x1024, .f32⟩
  | 37 => ⟨S2x8x8192x1024, .f32⟩
  | 38 => ⟨S1x1024x3584, .f32⟩
  | 39 => ⟨S1024x3584, .f32⟩
  | 40 => ⟨S8x8192x3584, .f32⟩
  | 41 => ⟨S8x8192x3584, .f32⟩
  | 42 => ⟨S8x8192x3584, .f32⟩
  | 43 => ⟨S_, .f32⟩
  | 44 => ⟨S8x8192x3584, .f32⟩
  | 45 => ⟨S8x8192x3584, .f32⟩
  | 46 => ⟨S_, .f32⟩
  | 47 => ⟨S8x8192x3584, .f32⟩
  | 48 => ⟨S8x8192x3584, .f32⟩
  | 49 => ⟨S8x8192x3584, .f32⟩
  | 50 => ⟨S1x1024x3584, .f32⟩
  | 51 => ⟨S1024x3584, .f32⟩
  | 52 => ⟨S8x8192x3584, .f32⟩
  | 53 => ⟨S8x8192x3584, .f32⟩
  | 54 => ⟨S1x3584x1024, .f32⟩
  | 55 => ⟨S3584x1024, .f32⟩
  | 56 => ⟨S8x8192x1024, .f32⟩
  | 57 => ⟨S_, .i32⟩
  | 58 => ⟨S2x8x8192, .i32⟩
  | 59 => ⟨S2x8x8192, .i1⟩
  | 60 => ⟨S2x8x8192x1, .i1⟩
  | 61 => ⟨S1x8x8192x1024, .f32⟩
  | 62 => ⟨S_, .f32⟩
  | 63 => ⟨S_, .f32⟩
  | 64 => ⟨S2x8x8192x1024, .i1⟩
  | 65 => ⟨S2x8x8192x1024, .f32⟩
  | 66 => ⟨S2x8x8192x1024, .f32⟩
  | 67 => ⟨S2x8x8192x1024, .f32⟩
  | 68 => ⟨S2x8x8192x1024, .f32⟩
  | 69 => ⟨S1x1024x3584, .f32⟩
  | 70 => ⟨S1024x3584, .f32⟩
  | 71 => ⟨S8x8192x3584, .f32⟩
  | 72 => ⟨S8x8192x3584, .f32⟩
  | 73 => ⟨S8x8192x3584, .f32⟩
  | 74 => ⟨S_, .f32⟩
  | 75 => ⟨S8x8192x3584, .f32⟩
  | 76 => ⟨S8x8192x3584, .f32⟩
  | 77 => ⟨S_, .f32⟩
  | 78 => ⟨S8x8192x3584, .f32⟩
  | 79 => ⟨S8x8192x3584, .f32⟩
  | 80 => ⟨S8x8192x3584, .f32⟩
  | 81 => ⟨S1x1024x3584, .f32⟩
  | 82 => ⟨S1024x3584, .f32⟩
  | 83 => ⟨S8x8192x3584, .f32⟩
  | 84 => ⟨S8x8192x3584, .f32⟩
  | 85 => ⟨S1x3584x1024, .f32⟩
  | 86 => ⟨S3584x1024, .f32⟩
  | 87 => ⟨S8x8192x1024, .f32⟩
  | 88 => ⟨S_, .i32⟩
  | 89 => ⟨S2x8x8192, .i32⟩
  | 90 => ⟨S2x8x8192, .i1⟩
  | 91 => ⟨S2x8x8192x1, .i1⟩
  | 92 => ⟨S1x8x8192x1024, .f32⟩
  | 93 => ⟨S_, .f32⟩
  | 94 => ⟨S_, .f32⟩
  | 95 => ⟨S2x8x8192x1024, .i1⟩
  | 96 => ⟨S2x8x8192x1024, .f32⟩
  | 97 => ⟨S2x8x8192x1024, .f32⟩
  | 98 => ⟨S2x8x8192x1024, .f32⟩
  | 99 => ⟨S2x8x8192x1024, .f32⟩
  | 100 => ⟨S1x1024x3584, .f32⟩
  | 101 => ⟨S1024x3584, .f32⟩
  | 102 => ⟨S8x8192x3584, .f32⟩
  | 103 => ⟨S8x8192x3584, .f32⟩
  | 104 => ⟨S8x8192x3584, .f32⟩
  | 105 => ⟨S_, .f32⟩
  | 106 => ⟨S8x8192x3584, .f32⟩
  | 107 => ⟨S8x8192x3584, .f32⟩
  | 108 => ⟨S_, .f32⟩
  | 109 => ⟨S8x8192x3584, .f32⟩
  | 110 => ⟨S8x8192x3584, .f32⟩
  | 111 => ⟨S8x8192x3584, .f32⟩
  | 112 => ⟨S1x1024x3584, .f32⟩
  | 113 => ⟨S1024x3584, .f32⟩
  | 114 => ⟨S8x8192x3584, .f32⟩
  | 115 => ⟨S8x8192x3584, .f32⟩
  | 116 => ⟨S1x3584x1024, .f32⟩
  | 117 => ⟨S3584x1024, .f32⟩
  | 118 => ⟨S8x8192x1024, .f32⟩
  | 119 => ⟨S_, .i32⟩
  | 120 => ⟨S2x8x8192, .i32⟩
  | 121 => ⟨S2x8x8192, .i1⟩
  | 122 => ⟨S2x8x8192x1, .i1⟩
  | 123 => ⟨S1x8x8192x1024, .f32⟩
  | 124 => ⟨S_, .f32⟩
  | 125 => ⟨S_, .f32⟩
  | 126 => ⟨S2x8x8192x1024, .i1⟩
  | 127 => ⟨S2x8x8192x1024, .f32⟩
  | _ => ⟨S8x8192x1024, .f32⟩

abbrev hbmTy0_1 (i : Nat) : BufTy := match i % 128 with
  | 0 => ⟨S2x8x8192x1024, .f32⟩
  | 1 => ⟨S2x8x8192x1024, .f32⟩
  | 2 => ⟨S2x8x8192x1024, .f32⟩
  | 3 => ⟨S1x1024x3584, .f32⟩
  | 4 => ⟨S1024x3584, .f32⟩
  | 5 => ⟨S8x8192x3584, .f32⟩
  | 6 => ⟨S8x8192x3584, .f32⟩
  | 7 => ⟨S8x8192x3584, .f32⟩
  | 8 => ⟨S_, .f32⟩
  | 9 => ⟨S8x8192x3584, .f32⟩
  | 10 => ⟨S8x8192x3584, .f32⟩
  | 11 => ⟨S_, .f32⟩
  | 12 => ⟨S8x8192x3584, .f32⟩
  | 13 => ⟨S8x8192x3584, .f32⟩
  | 14 => ⟨S8x8192x3584, .f32⟩
  | 15 => ⟨S1x1024x3584, .f32⟩
  | 16 => ⟨S1024x3584, .f32⟩
  | 17 => ⟨S8x8192x3584, .f32⟩
  | 18 => ⟨S8x8192x3584, .f32⟩
  | 19 => ⟨S1x3584x1024, .f32⟩
  | 20 => ⟨S3584x1024, .f32⟩
  | 21 => ⟨S8x8192x1024, .f32⟩
  | 22 => ⟨S_, .i32⟩
  | 23 => ⟨S2x8x8192, .i32⟩
  | 24 => ⟨S2x8x8192, .i1⟩
  | 25 => ⟨S2x8x8192x1, .i1⟩
  | 26 => ⟨S1x8x8192x1024, .f32⟩
  | 27 => ⟨S_, .f32⟩
  | 28 => ⟨S_, .f32⟩
  | 29 => ⟨S2x8x8192x1024, .i1⟩
  | 30 => ⟨S2x8x8192x1024, .f32⟩
  | 31 => ⟨S2x8x8192x1024, .f32⟩
  | 32 => ⟨S2x8x8192x1024, .f32⟩
  | 33 => ⟨S2x8x8192x1024, .f32⟩
  | 34 => ⟨S1x1024x3584, .f32⟩
  | 35 => ⟨S1024x3584, .f32⟩
  | 36 => ⟨S8x8192x3584, .f32⟩
  | 37 => ⟨S8x8192x3584, .f32⟩
  | 38 => ⟨S8x8192x3584, .f32⟩
  | 39 => ⟨S_, .f32⟩
  | 40 => ⟨S8x8192x3584, .f32⟩
  | 41 => ⟨S8x8192x3584, .f32⟩
  | 42 => ⟨S_, .f32⟩
  | 43 => ⟨S8x8192x3584, .f32⟩
  | 44 => ⟨S8x8192x3584, .f32⟩
  | 45 => ⟨S8x8192x3584, .f32⟩
  | 46 => ⟨S1x1024x3584, .f32⟩
  | 47 => ⟨S1024x3584, .f32⟩
  | 48 => ⟨S8x8192x3584, .f32⟩
  | 49 => ⟨S8x8192x3584, .f32⟩
  | 50 => ⟨S1x3584x1024, .f32⟩
  | 51 => ⟨S3584x1024, .f32⟩
  | 52 => ⟨S8x8192x1024, .f32⟩
  | 53 => ⟨S_, .i32⟩
  | 54 => ⟨S2x8x8192, .i32⟩
  | 55 => ⟨S2x8x8192, .i1⟩
  | 56 => ⟨S2x8x8192x1, .i1⟩
  | 57 => ⟨S1x8x8192x1024, .f32⟩
  | 58 => ⟨S_, .f32⟩
  | 59 => ⟨S_, .f32⟩
  | 60 => ⟨S2x8x8192x1024, .i1⟩
  | 61 => ⟨S2x8x8192x1024, .f32⟩
  | 62 => ⟨S2x8x8192x1024, .f32⟩
  | 63 => ⟨S2x8x8192x1024, .f32⟩
  | 64 => ⟨S2x8x8192x1024, .f32⟩
  | 65 => ⟨S1x1024x3584, .f32⟩
  | 66 => ⟨S1024x3584, .f32⟩
  | 67 => ⟨S8x8192x3584, .f32⟩
  | 68 => ⟨S8x8192x3584, .f32⟩
  | 69 => ⟨S8x8192x3584, .f32⟩
  | 70 => ⟨S_, .f32⟩
  | 71 => ⟨S8x8192x3584, .f32⟩
  | 72 => ⟨S8x8192x3584, .f32⟩
  | 73 => ⟨S_, .f32⟩
  | 74 => ⟨S8x8192x3584, .f32⟩
  | 75 => ⟨S8x8192x3584, .f32⟩
  | 76 => ⟨S8x8192x3584, .f32⟩
  | 77 => ⟨S1x1024x3584, .f32⟩
  | 78 => ⟨S1024x3584, .f32⟩
  | 79 => ⟨S8x8192x3584, .f32⟩
  | 80 => ⟨S8x8192x3584, .f32⟩
  | 81 => ⟨S1x3584x1024, .f32⟩
  | 82 => ⟨S3584x1024, .f32⟩
  | 83 => ⟨S8x8192x1024, .f32⟩
  | 84 => ⟨S_, .i32⟩
  | 85 => ⟨S2x8x8192, .i32⟩
  | 86 => ⟨S2x8x8192, .i1⟩
  | 87 => ⟨S2x8x8192x1, .i1⟩
  | 88 => ⟨S1x8x8192x1024, .f32⟩
  | 89 => ⟨S_, .f32⟩
  | 90 => ⟨S_, .f32⟩
  | 91 => ⟨S2x8x8192x1024, .i1⟩
  | 92 => ⟨S2x8x8192x1024, .f32⟩
  | 93 => ⟨S2x8x8192x1024, .f32⟩
  | 94 => ⟨S2x8x8192x1024, .f32⟩
  | 95 => ⟨S2x8x8192x1024, .f32⟩
  | 96 => ⟨S1x1024x3584, .f32⟩
  | 97 => ⟨S1024x3584, .f32⟩
  | 98 => ⟨S8x8192x3584, .f32⟩
  | 99 => ⟨S8x8192x3584, .f32⟩
  | 100 => ⟨S8x8192x3584, .f32⟩
  | 101 => ⟨S_, .f32⟩
  | 102 => ⟨S8x8192x3584, .f32⟩
  | 103 => ⟨S8x8192x3584, .f32⟩
  | 104 => ⟨S_, .f32⟩
  | 105 => ⟨S8x8192x3584, .f32⟩
  | 106 => ⟨S8x8192x3584, .f32⟩
  | 107 => ⟨S8x8192x3584, .f32⟩
  | 108 => ⟨S1x1024x3584, .f32⟩
  | 109 => ⟨S1024x3584, .f32⟩
  | 110 => ⟨S8x8192x3584, .f32⟩
  | 111 => ⟨S8x8192x3584, .f32⟩
  | 112 => ⟨S1x3584x1024, .f32⟩
  | 113 => ⟨S3584x1024, .f32⟩
  | 114 => ⟨S8x8192x1024, .f32⟩
  | 115 => ⟨S_, .i32⟩
  | 116 => ⟨S2x8x8192, .i32⟩
  | 117 => ⟨S2x8x8192, .i1⟩
  | 118 => ⟨S2x8x8192x1, .i1⟩
  | 119 => ⟨S1x8x8192x1024, .f32⟩
  | 120 => ⟨S_, .f32⟩
  | 121 => ⟨S_, .f32⟩
  | 122 => ⟨S2x8x8192x1024, .i1⟩
  | 123 => ⟨S2x8x8192x1024, .f32⟩
  | 124 => ⟨S2x8x8192x1024, .f32⟩
  | 125 => ⟨S2x8x8192x1024, .f32⟩
  | 126 => ⟨S2x8x8192x1024, .f32⟩
  | 127 => ⟨S2x8x8192x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_2 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_call4_v0 : Ref sig .tc := ⟨.hbm, 72, rfl⟩
abbrev main_call4_v1 : Ref sig .tc := ⟨.hbm, 73, rfl⟩
abbrev main_call4_cst : Ref sig .tc := ⟨.hbm, 74, rfl⟩
abbrev main_call4_v2 : Ref sig .tc := ⟨.hbm, 75, rfl⟩
abbrev main_call4_v3 : Ref sig .tc := ⟨.hbm, 76, rfl⟩
abbrev main_call4_cst_0 : Ref sig .tc := ⟨.hbm, 77, rfl⟩
abbrev main_call4_v4 : Ref sig .tc := ⟨.hbm, 78, rfl⟩
abbrev main_call4_v5 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_3 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_4 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_call6_v0 : Ref sig .tc := ⟨.hbm, 103, rfl⟩
abbrev main_call6_v1 : Ref sig .tc := ⟨.hbm, 104, rfl⟩
abbrev main_call6_cst : Ref sig .tc := ⟨.hbm, 105, rfl⟩
abbrev main_call6_v2 : Ref sig .tc := ⟨.hbm, 106, rfl⟩
abbrev main_call6_v3 : Ref sig .tc := ⟨.hbm, 107, rfl⟩
abbrev main_call6_cst_0 : Ref sig .tc := ⟨.hbm, 108, rfl⟩
abbrev main_call6_v4 : Ref sig .tc := ⟨.hbm, 109, rfl⟩
abbrev main_call6_v5 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_5 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_6 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_call7_v3 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_call8_v0 : Ref sig .tc := ⟨.hbm, 134, rfl⟩
abbrev main_call8_v1 : Ref sig .tc := ⟨.hbm, 135, rfl⟩
abbrev main_call8_cst : Ref sig .tc := ⟨.hbm, 136, rfl⟩
abbrev main_call8_v2 : Ref sig .tc := ⟨.hbm, 137, rfl⟩
abbrev main_call8_v3 : Ref sig .tc := ⟨.hbm, 138, rfl⟩
abbrev main_call8_cst_0 : Ref sig .tc := ⟨.hbm, 139, rfl⟩
abbrev main_call8_v4 : Ref sig .tc := ⟨.hbm, 140, rfl⟩
abbrev main_call8_v5 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_c_7 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_cst_8 : Ref sig .tc := ⟨.hbm, 155, rfl⟩
abbrev main_call9_v0 : Ref sig .tc := ⟨.hbm, 156, rfl⟩
abbrev main_call9_v1 : Ref sig .tc := ⟨.hbm, 157, rfl⟩
abbrev main_call9_v2 : Ref sig .tc := ⟨.hbm, 158, rfl⟩
abbrev main_call9_v3 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_call10_v0 : Ref sig .tc := ⟨.hbm, 165, rfl⟩
abbrev main_call10_v1 : Ref sig .tc := ⟨.hbm, 166, rfl⟩
abbrev main_call10_cst : Ref sig .tc := ⟨.hbm, 167, rfl⟩
abbrev main_call10_v2 : Ref sig .tc := ⟨.hbm, 168, rfl⟩
abbrev main_call10_v3 : Ref sig .tc := ⟨.hbm, 169, rfl⟩
abbrev main_call10_cst_0 : Ref sig .tc := ⟨.hbm, 170, rfl⟩
abbrev main_call10_v4 : Ref sig .tc := ⟨.hbm, 171, rfl⟩
abbrev main_call10_v5 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_c_9 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_cst_10 : Ref sig .tc := ⟨.hbm, 186, rfl⟩
abbrev main_call11_v0 : Ref sig .tc := ⟨.hbm, 187, rfl⟩
abbrev main_call11_v1 : Ref sig .tc := ⟨.hbm, 188, rfl⟩
abbrev main_call11_v2 : Ref sig .tc := ⟨.hbm, 189, rfl⟩
abbrev main_call11_v3 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_call12_v0 : Ref sig .tc := ⟨.hbm, 196, rfl⟩
abbrev main_call12_v1 : Ref sig .tc := ⟨.hbm, 197, rfl⟩
abbrev main_call12_cst : Ref sig .tc := ⟨.hbm, 198, rfl⟩
abbrev main_call12_v2 : Ref sig .tc := ⟨.hbm, 199, rfl⟩
abbrev main_call12_v3 : Ref sig .tc := ⟨.hbm, 200, rfl⟩
abbrev main_call12_cst_0 : Ref sig .tc := ⟨.hbm, 201, rfl⟩
abbrev main_call12_v4 : Ref sig .tc := ⟨.hbm, 202, rfl⟩
abbrev main_call12_v5 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_c_11 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_cst_12 : Ref sig .tc := ⟨.hbm, 217, rfl⟩
abbrev main_call13_v0 : Ref sig .tc := ⟨.hbm, 218, rfl⟩
abbrev main_call13_v1 : Ref sig .tc := ⟨.hbm, 219, rfl⟩
abbrev main_call13_v2 : Ref sig .tc := ⟨.hbm, 220, rfl⟩
abbrev main_call13_v3 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_call14_v0 : Ref sig .tc := ⟨.hbm, 227, rfl⟩
abbrev main_call14_v1 : Ref sig .tc := ⟨.hbm, 228, rfl⟩
abbrev main_call14_cst : Ref sig .tc := ⟨.hbm, 229, rfl⟩
abbrev main_call14_v2 : Ref sig .tc := ⟨.hbm, 230, rfl⟩
abbrev main_call14_v3 : Ref sig .tc := ⟨.hbm, 231, rfl⟩
abbrev main_call14_cst_0 : Ref sig .tc := ⟨.hbm, 232, rfl⟩
abbrev main_call14_v4 : Ref sig .tc := ⟨.hbm, 233, rfl⟩
abbrev main_call14_v5 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_c_13 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_cst_14 : Ref sig .tc := ⟨.hbm, 248, rfl⟩
abbrev main_call15_v0 : Ref sig .tc := ⟨.hbm, 249, rfl⟩
abbrev main_call15_v1 : Ref sig .tc := ⟨.hbm, 250, rfl⟩
abbrev main_call15_v2 : Ref sig .tc := ⟨.hbm, 251, rfl⟩
abbrev main_call15_v3 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩

abbrev nD : Nat := 1
abbrev τ : Topo := Topo.v7x

variable {F : FTy → Type} [FloatOps F]
-- ==== Proof.Block.lean ====
/-
  What one grid point of the neighbourhood-attention kernel leaves in its output block.

  A grid point holds eight image rows of 64 queries. For each row the kernel takes the 512 keys (8 image rows of 64
  columns) of the row's window, forms the scores of the four PAIRS of heads (a pair shares 128 lanes: the other head's
  lanes of the queries are made zero), adds the bias block of the row's offset, exponentiates after subtracting the
  row maximum, and averages the values. The definitions here are over any float interpretation.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Attention

open Cert.KernelIdeal Cert.KernelIdeal.Gen
open Idealize.ShloMosaic Idealize.ShloMosaic.TcCoe Idealize.ShloMosaic.Tactic

variable {F : FTy → Type} [FloatOps F]

/-- The lanes of the first head of a pair: those below 64. -/
def firstHead : IVec S64x128 1 :=
  cmpi .slt (iota .tc S64x128 32 [1] iota_S64x128_d1_w32) (broadcast S64x128 64#32)

theorem slicesQ (hp : Fin 4) : S64x512.Slices ![0, 128 * hp.val] S64x128 := by revert hp; decide
theorem slicesP (hp : Fin 4) : S512x512.Slices ![128 * hp.val, 0] S128x512 := by revert hp; decide
theorem slicesL (hp : Fin 4) : S512x1.Slices ![128 * hp.val, 0] S128x1 := by revert hp; decide

/-- The queries of a pair of heads, twice: with the second head's lanes zero, and with the first head's. -/
def pairQueries (hp : Fin 4) (q : FVec F S1x64x512 .bf16) : FVec F S128x128 .bf16 :=
  let t := extractStridedSlice S64x128 ![0, 128 * hp.val] (shapeCast S64x512 q shapeCasts_S1x64x512_S64x512) (slicesQ hp)
  let z : FVec F S64x128 .bf16 := broadcast S64x128 (Scalar.ofBits .bf16 0x0000#16)
  concatenate S128x128 0 [⟨S64x128, select firstHead t z⟩, ⟨S64x128, select firstHead z t⟩] concatenates_S64x128_S64x128_S128x128_d0

/-- The scores of a pair of heads against the window's keys. -/
def pairScores (hp : Fin 4) (q : FVec F S1x64x512 .bf16) (k : FVec F S512x128 .bf16) : FVec F S128x512 .f32 :=
  matmul dot_S128x128_S512x128_S128x512_1_1_0_0_n_n none (pairQueries hp q)
    (shapeCast S512x128 k shapeCasts_S512x128_S512x128) (constant S128x512 .f32 0x00000000#32)

/-- The scores of the four pairs, one above the other, with the bias block added. -/
def rowScores (q : FVec F S1x64x512 .bf16) (k : Fin 4 → FVec F S512x128 .bf16) (bias : FVec F S1x512x512 .f32) : FVec F S512x512 .f32 :=
  addf (concatenate S512x512 0 [⟨S128x512, pairScores 0 q (k 0)⟩, ⟨S128x512, pairScores 1 q (k 1)⟩, ⟨S128x512, pairScores 2 q (k 2)⟩,
      ⟨S128x512, pairScores 3 q (k 3)⟩] concatenates_S128x512_S128x512_S128x512_S128x512_S512x512_d0)
    (shapeCast S512x512 bias shapeCasts_S1x512x512_S512x512)

/-- The exponentials of the scores less their maximum over the keys. -/
def rowExp (s : FVec F S512x512 .f32) : FVec F S512x512 .f32 :=
  exp (subf s (broadcastTo S512x512 (shapeCast S512x1
    (multiReduction .maximumf [1] S512 s 0xFF800000#32 reduces_S512x512_S512 (.inl rfl) rfl) shapeCasts_S512_S512x1) broadcasts_S512x1_S512x512))

/-- One over the sum of the exponentials over the keys. -/
def rowInv (p : FVec F S512x512 .f32) : FVec F S512x1 .f32 :=
  divf (broadcast S512x1 (Scalar.ofBits .f32 0x3F800000#32))
    (shapeCast S512x1 (multiReduction .add [1] S512 p 0x00000000#32 reduces_S512x512_S512 (.inl rfl) rfl) shapeCasts_S512_S512x1)

/-- The values of a pair of heads averaged: each head's rows against both heads' lanes, then its own lanes chosen. -/
def pairOut (hp : Fin 4) (p : FVec F S512x512 .f32) (v : FVec F S512x128 .bf16) : FVec F S1x64x128 .bf16 :=
  let o := mulf (matmul dot_S128x512_S512x128_S128x128_1_0_0_1_n_n none
      (extractStridedSlice S128x512 ![128 * hp.val, 0] (truncf .bf16 p bitsLt_bf16_f32) (slicesP hp))
      (shapeCast S512x128 v shapeCasts_S512x128_S512x128) (constant S128x128 .f32 0x00000000#32))
    (broadcastTo S128x128 (extractStridedSlice S128x1 ![128 * hp.val, 0] (rowInv p) (slicesL hp)) broadcasts_S128x1_S128x128)
  shapeCast S1x64x128 (truncf .bf16 (select firstHead (extractStridedSlice S64x128 ![0, 0] o slices_S128x128_o0_0_S64x128)
    (extractStridedSlice S64x128 ![64, 0] o slices_S128x128_o64_0_S64x128)) bitsLt_bf16_f32) shapeCasts_S64x128_S1x64x128

/-! ## The blocks read -/

/-- The first key of row `a`'s window in the grid point's halo of 24 image rows. -/
def winStart (i : grid0.Coords) (a : Fin 8) : ℕ := k0_off2 i (BitVec.ofNat 32 a.val) 0

/-- Which bias block row `a` uses. -/
def biasRow (i : grid0.Coords) (a : Fin 8) : ℕ := k0_off6 i (BitVec.ofNat 32 a.val) 0

theorem winStart_le (i : grid0.Coords) (a : Fin 8) : winStart i a + 512 ≤ 1536 := k0_off2_inb i a 0
theorem biasRow_le (i : grid0.Coords) (a : Fin 8) : biasRow i a + 1 ≤ 8 := k0_off6_inb i a 0

theorem inbQ (a : Fin 8) : ∀ x, (![0, 64 * a.val, 0] : Fin 3 → ℕ) x + S1x64x512.size x ≤ S1x512x512.size x := by revert a; decide
theorem inbKV (i : grid0.Coords) (a : Fin 8) (hp : Fin 4) : ∀ x, (![winStart i a, 128 * hp.val] : Fin 2 → ℕ) x + S512x128.size x ≤ S1536x512.size x := by
  intro x; match x with
  | ⟨0, _⟩ => exact winStart_le i a
  | ⟨1, _⟩ => show 128 * hp.val + 128 ≤ 512; omega
theorem inbB (i : grid0.Coords) (a : Fin 8) : ∀ x, (![biasRow i a, 0, 0] : Fin 3 → ℕ) x + S1x512x512.size x ≤ S8x512x512.size x := by
  intro x; match x with
  | ⟨0, _⟩ => exact biasRow_le i a
  | ⟨1, _⟩ => show 0 + 512 ≤ 512; omega
  | ⟨2, _⟩ => show 0 + 512 ≤ 512; omega
theorem inbO (a : Fin 8) (hp : Fin 4) : ∀ x, (![0, 64 * a.val, 128 * hp.val] : Fin 3 → ℕ) x + S1x64x128.size x ≤ S1x512x512.size x := by
  revert a hp; decide

/-- Row `a`'s queries. -/
def rowQ (a : Fin 8) (x0 : FVec F S1x512x512 .bf16) : FVec F S1x64x512 .bf16 :=
  fun y => x0 ((Rect.unit (s := S1x512x512) ![0, 64 * a.val, 0] S1x64x512.size (inbQ a)).idx y)

/-- The window of row `a` and the lanes of pair `hp`, of a halo of keys or values. -/
def rowKV (i : grid0.Coords) (a : Fin 8) (hp : Fin 4) (x : FVec F S1x1536x512 .bf16) : FVec F S512x128 .bf16 :=
  fun y => x ((Rect.unit (s := S1x1536x512) ![0, 0, 0] S1x1536x512.size inb_S1x1536x512_S1x1536x512_0_0_0).idx
    (Shape.reshapeEquiv squeezes_S1x1536x512_S1536x512.numel_eq
      ((Rect.unit (s := S1536x512) ![winStart i a, 128 * hp.val] S512x128.size (inbKV i a hp)).idx y)))

/-- Row `a`'s bias block. -/
def rowB (i : grid0.Coords) (a : Fin 8) (x3 : FVec F S8x512x512 .f32) : FVec F S1x512x512 .f32 :=
  fun y => x3 ((Rect.unit (s := S8x512x512) ![biasRow i a, 0, 0] S1x512x512.size (inbB i a)).idx y)

/-! ## The block written -/

/-- The tile of row `a` and pair `hp`. -/
def tile (i : grid0.Coords) (x0 : FVec F S1x512x512 .bf16) (x1 x2 : FVec F S1x1536x512 .bf16) (x3 : FVec F S8x512x512 .f32)
    (a : Fin 8) (hp : Fin 4) : FVec F S1x64x128 .bf16 :=
  pairOut hp (rowExp (rowScores (rowQ a x0) (fun h => rowKV i a h x1) (rowB i a x3))) (rowKV i a hp x2)

/-- The tile with its place in the block. -/
def piece (i : grid0.Coords) (x0 : FVec F S1x512x512 .bf16) (x1 x2 : FVec F S1x1536x512 .bf16) (x3 : FVec F S8x512x512 .f32)
    (a : Fin 8) (hp : Fin 4) : View.Piece (Elt F) S1x512x512 .bf16 :=
  ⟨Rect.unit (s := S1x512x512) ![0, 64 * a.val, 128 * hp.val] S1x64x128.size (inbO a hp), tile i x0 x1 x2 x3 a hp⟩

/-- The 32 tiles, the last written first. -/
def pieces (i : grid0.Coords) (x0 : FVec F S1x512x512 .bf16) (x1 x2 : FVec F S1x1536x512 .bf16) (x3 : FVec F S8x512x512 .f32) :
    List (View.Piece (Elt F) S1x512x512 .bf16) :=
  let p := piece i x0 x1 x2 x3
  [p 7 3, p 7 2, p 7 1, p 7 0, p 6 3, p 6 2, p 6 1, p 6 0, p 5 3, p 5 2, p 5 1, p 5 0, p 4 3, p 4 2, p 4 1, p 4 0,
   p 3 3, p 3 2, p 3 1, p 3 0, p 2 3, p 2 2, p 2 1, p 2 0, p 1 3, p 1 2, p 1 1, p 1 0, p 0 3, p 0 2, p 0 1, p 0 0]

/-- What the output block holds after the body. -/
def outBlock (i : grid0.Coords) (x0 : FVec F S1x512x512 .bf16) (x1 x2 : FVec F S1x1536x512 .bf16) (x3 : FVec F S8x512x512 .f32) :
    FVec F S1x512x512 .bf16 :=
  View.canon (pieces i x0 x1 x2 x3)

/-- A tile's place is in the list. -/
theorem piece_mem (i : grid0.Coords) (x0 : FVec F S1x512x512 .bf16) (x1 x2 : FVec F S1x1536x512 .bf16) (x3 : FVec F S8x512x512 .f32)
    (a : Fin 8) (hp : Fin 4) : piece i x0 x1 x2 x3 a hp ∈ pieces i x0 x1 x2 x3 := by
  unfold pieces
  match a with
  | ⟨0, _⟩ | ⟨1, _⟩ | ⟨2, _⟩ | ⟨3, _⟩ | ⟨4, _⟩ | ⟨5, _⟩ | ⟨6, _⟩ | ⟨7, _⟩ =>
    match hp with
    | ⟨0, _⟩ | ⟨1, _⟩ | ⟨2, _⟩ | ⟨3, _⟩ => simp

/-- An index of the block lies in the tile its row and lane name. -/
theorem mem_piece (a : Fin 8) (hp : Fin 4) (y : S1x512x512.Idx) (h1 : (y 1).val / 64 = a.val) (h2 : (y 2).val / 128 = hp.val) :
    y ∈ (Rect.unit (s := S1x512x512) ![0, 64 * a.val, 128 * hp.val] S1x64x128.size (inbO a hp)).set := by
  rw [Rect.mem_set_unit]
  intro x
  have h0 : (y 0).val < 1 := (y 0).isLt
  match x with
  | ⟨0, _⟩ => exact ⟨Nat.zero_le _, by show (y 0).val < 0 + 1; omega⟩
  | ⟨1, _⟩ => exact ⟨by show 64 * a.val ≤ (y 1).val; omega, by show (y 1).val < 64 * a.val + 64; omega⟩
  | ⟨2, _⟩ => exact ⟨by show 128 * hp.val ≤ (y 2).val; omega, by show (y 2).val < 128 * hp.val + 128; omega⟩

/-- The tiles cover the block. -/
theorem cover (i : grid0.Coords) (x0 : FVec F S1x512x512 .bf16) (x1 x2 : FVec F S1x1536x512 .bf16) (x3 : FVec F S8x512x512 .f32)
    (y : S1x512x512.Idx) : ∃ pc ∈ pieces i x0 x1 x2 x3, y ∈ pc.1.set := by
  have h1 : (y 1).val < 512 := (y 1).isLt
  have h2 : (y 2).val < 512 := (y 2).isLt
  exact ⟨_, piece_mem i x0 x1 x2 x3 ⟨(y 1).val / 64, by omega⟩ ⟨(y 2).val / 128, by omega⟩, mem_piece _ _ y rfl rfl⟩

end Cert.Attention

end
-- ==== Proof.Body.lean ====
/-
  The kernel's body, run: on the staged blocks of queries, key halo, value halo and bias table it leaves the inputs as
  they were and the output block at `outBlock`.
-/
module

public import proofs.«01_k».proof.Proof.Block

@[expose] public section

set_option maxRecDepth 16384

noncomputable section

namespace Cert.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Lists with equal heads and equal tails are equal. -/
theorem cons_congr {α : Type _} {x x' : α} {l l' : List α} (h : x = x') (h' : l = l') : x :: l = x' :: l' := by
  subst h h'; rfl

set_option maxHeartbeats 16000000 in
/-- The body on whole staging buffers. -/
theorem sound_kernel (c : Dev nD) (E : Set ℕ) (i : grid0.Coords) (arg2 : Memref sig .tc .vmem S1x512x512 .bf16) (harg2 : arg2.IsWhole) (arg3 : Memref sig .tc .vmem S1x1536x512 .bf16) (harg3 : arg3.IsWhole) (arg4 : Memref sig .tc .vmem S1x1536x512 .bf16) (harg4 : arg4.IsWhole) (arg5 : Memref sig .tc .vmem S8x512x512 .f32) (harg5 : arg5.IsWhole) (arg6 : Memref sig .tc .vmem S1x512x512 .bf16) (harg6 : arg6.IsWhole)
    (x0 : Vec F S1x512x512 .bf16) (x1 : Vec F S1x1536x512 .bf16) (x2 : Vec F S1x1536x512 .bf16) (x3 : Vec F S8x512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock i x0 x1 x2 x3)) -∗ K ⟨⟩))
      ⊢ wp frame (wpE (defs₀ (F := F)) Variants.none c none) E (cc0_na_attn i arg2 harg2 arg3 harg3 arg4 harg4 arg5 harg5 arg6 harg6) K := by
  simp only [cc0_na_attn_eq_skeleton]; unfold cc0_na_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine Eq.trans (congrArg (fun L => arg6.view.read (Elt F) (arg6.view.writes (Elt F) f4 L)) ?_) (View.read_writes_eq_canon arg6.view f4 _ (cover i _ _ _ _))
  unfold pieces
  iterate 32 (refine cons_congr ?_ ?_; · rfl)
  rfl

end Cert.Attention

end
-- ==== Proof.Launch.lean ====
/-
  The launch: the pipeline's proof data over the body's triple, the run to it, and the frame — over any float
  interpretation, so that both the word program and the ideal one are read off it.
-/
module

public import proofs.«01_k».proof.Proof.Body

@[expose] public section

set_option maxRecDepth 16384

noncomputable section

namespace Cert.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the host left them, and after the body each input's buffer at its block and the
    output's at `outBlock` of the four blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.ΦA spec0 c
  q w := Pipeline.shareOf spec0 w
  owed _ := 0

/-- The arrays of the proof data are those the region finds. -/
theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_bias (c : Dev nD) (t : Fin cfg0.N) : (dats m 0 c).after 3 t = iblk m c 3 t := by dsimp only [dats]
theorem after_out (c : Dev nD) (t : Fin cfg0.N) : (dats m 0 c).after 4 t
    = outBlock (grid0.coords t) (iblk m c 0 t) (iblk m c 1 t) (iblk m c 2 t) (iblk m c 3 t) := by dsimp only [dats]

/-- Each input's staging buffer holds its block when the body starts. -/
theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d
theorem before_bias (c : Dev nD) (t : Fin cfg0.N) (d) : (dats m 0 c).before 3 t d = iblk m c 3 t :=
  before0_3_of m (dats m 0 c) (A_eq m c 3) (after_bias m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_v, before_bias]
  rw [show (dats m 0 c).Φ t.succ = (dats m 0 c).Φ t.castSucc from rfl,
    show (dats m 0 c).owesAt () t.succ = (dats m 0 c).owesAt () t.castSucc from rfl,
    after_q, after_k, after_v, after_bias, after_out]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body the launch runs at point `t`. -/
theorem defs₀_row (t : Fin cfg0.N) :
    defs₀ (F := F) .tc cfg0.body (cfg0.bodyArgs t (cfg0.slots t)) = bodyAt0 t := by
  unfold defs₀; rw [Defs.onTc_tc]

/-- The library's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch terminates with the arrays the proof data names and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) (run_main m ρ)) ((θ_run defs _ _).mono (fun _ h => h.2) (run_main_quiescent m ρ))

end Cert.Attention

end
-- ==== Proof.Same.lean ====
/-
  The kernel as compiled and the idealized kernel have one text: their definitions and programs are equal.
-/
module

public import proofs.«01_k».proof.Kernel
public import proofs.«01_k».proof.KernelIdeal
public import Idealize.ShloMosaic.Lib.Pipeline.Frame

@[expose] public section

set_option maxRecDepth 65536
set_option maxHeartbeats 4000000

noncomputable section

namespace Cert.Attention

open Idealize.ShloMosaic Idealize.SL.Sem

variable [Cert.Kernel.Facts] [Cert.KernelIdeal.Facts] (F : FTy → Type) [FloatOps F]

theorem bodies_same : @Cert.Kernel.defs₀ F _ _ = @Cert.KernelIdeal.defs₀ F _ _ :=
  congrArg Defs.onTc (funext fun l => funext fun a => by
    match l, a with
    | 0, (t, s) => rfl)

theorem defs_same : @Cert.Kernel.defs F _ _ = @Cert.KernelIdeal.defs F _ _ :=
  congrArg (Pipeline.defs _) (bodies_same F)

theorem main_same : @Cert.Kernel.main F _ _ = @Cert.KernelIdeal.main F _ _ :=
  funext fun _ => rfl

end Cert.Attention

end
-- ==== Proof.Tables.lean ====
/-
  The neighbourhoods in numbers: where a query's window of columns and of rows begins, and what the kernel's two
  tables over pairs of columns hold.
-/
module

public import proofs.«01_k».proof.Proof.Gen.KernelIdeal

@[expose] public section

set_option maxRecDepth 16384

noncomputable section

namespace Cert.Attention

open Cert.KernelIdeal Cert.KernelIdeal.Gen
open Idealize.ShloMosaic

/-- The first column of a query column's window of sixteen. -/
def colStart (c : ℕ) : ℕ := min (c - 8) 48

/-- The first row of a query row's window of eight. -/
def rowStart (r : ℕ) : ℕ := min (r - 4) 120

/-- Whether column `k` lies in the window of query column `c`. -/
def inWindow (c k : ℕ) : Prop := colStart c ≤ k ∧ k < colStart c + 16

instance (c k : ℕ) : Decidable (inWindow c k) := by unfold inWindow; infer_instance

/-- The mask of the pairs of columns, as the host holds it. -/
theorem mask_table : ∀ c k : Fin 64, lit0 ⟨64 * c.val + k.val, by omega⟩ = if inWindow c.val k.val then 1#1 else 0#1 := by
  decide +kernel

/-- The bias column of a pair of columns, as the host holds it. -/
theorem offset_table : ∀ c k : Fin 64, inWindow c.val k.val →
    (lit1 ⟨64 * c.val + k.val, by omega⟩).toInt.toNat = k.val + 15 - c.val := by
  decide +kernel

end Cert.Attention

end
-- ==== Proof.Softmax.lean ====
/-
  The mathematics of one query's attention, on the extended reals: averaging the values with the exponentials and
  dividing once at the end is averaging with the divided exponentials, and keys whose score is −∞ may be left out.
-/
module

public import Idealize.ShloMosaic.PureOps.Ideal.Laws
public import Idealize.ShloMosaic.Lib.ValueIdxCore

@[expose] public section

noncomputable section

namespace Cert.Attention

open Idealize.ShloMosaic
open scoped BigOperators

variable {ι κ : Type} [Fintype ι] [Fintype κ]

/-- The greatest score, −∞ when there is none. -/
def peak (s : ι → EReal) : EReal := (Finset.univ : Finset ι).fold max ⊥ s

/-- A key's weight before normalising. -/
def weight (s : ι → EReal) (j : ι) : EReal := Ideal.exp (s j - peak s)

/-- The sum of the weights. -/
def total (s : ι → EReal) : EReal := ∑ j, weight s j

/-- The values summed with the weights, multiplied at the end by one over the total. -/
def attendLate (s v : ι → EReal) : EReal := (∑ j, weight s j * v j) * Ideal.div 1 (total s)

/-- The values summed with the normalised weights. -/
def attend (s v : ι → EReal) : EReal := ∑ j, v j * Ideal.div (weight s j) (total s)

theorem peak_eq_sup (s : ι → EReal) : peak s = Finset.univ.sup s := rfl

theorem le_peak (s : ι → EReal) (j : ι) : s j ≤ peak s := Finset.le_sup (f := s) (Finset.mem_univ j)

theorem weight_nonneg (s : ι → EReal) (j : ι) : 0 ≤ weight s j := by
  unfold weight
  induction s j - peak s with
  | bot => exact le_rfl
  | top => exact le_top
  | coe x => exact EReal.coe_nonneg.2 (Real.exp_pos x).le

/-- The greatest of finitely many scores below +∞, one of them above −∞, is a real number. -/
theorem peak_real (s : ι → EReal) (ht : ∀ j, s j ≠ ⊤) (j₀ : ι) (h₀ : s j₀ ≠ ⊥) : ∃ m : ℝ, peak s = m := by
  have hb : peak s ≠ ⊥ := fun h => h₀ (le_bot_iff.1 (h ▸ le_peak s j₀))
  have hlt : peak s < ⊤ := by
    rw [peak_eq_sup, Finset.sup_lt_iff (by exact bot_lt_top)]
    exact fun j _ => lt_top_iff_ne_top.2 (ht j)
  exact ⟨(peak s).toReal, (EReal.coe_toReal hlt.ne hb).symm⟩

/-- A weight is then a real number, and that of a score above −∞ is positive. -/
theorem weight_real (s : ι → EReal) (ht : ∀ j, s j ≠ ⊤) (m : ℝ) (hm : peak s = m) (j : ι) :
    ∃ w : ℝ, weight s j = w ∧ 0 ≤ w ∧ (s j ≠ ⊥ → 0 < w) := by
  unfold weight
  rw [hm]
  have h := ht j
  generalize s j = a at h
  induction a with
  | bot => exact ⟨0, by rw [EReal.bot_sub]; rfl, le_rfl, fun h => absurd rfl h⟩
  | top => exact absurd rfl h
  | coe x => exact ⟨Real.exp (x - m), by rw [← EReal.coe_sub]; rfl, (Real.exp_pos _).le, fun _ => Real.exp_pos _⟩

/-- So the total is a positive real number. -/
theorem total_real (s : ι → EReal) (ht : ∀ j, s j ≠ ⊤) (j₀ : ι) (h₀ : s j₀ ≠ ⊥) : ∃ l : ℝ, total s = l ∧ 0 < l := by
  obtain ⟨m, hm⟩ := peak_real s ht j₀ h₀
  choose w hw hnn hpos using weight_real s ht m hm
  refine ⟨∑ j, w j, ?_, Finset.sum_pos' (fun j _ => hnn j) ⟨j₀, Finset.mem_univ _, hpos j₀ h₀⟩⟩
  unfold total
  rw [Finset.sum_congr rfl fun j _ => hw j]
  exact (map_sum (⟨⟨((↑) : ℝ → EReal), EReal.coe_zero⟩, EReal.coe_add⟩ : ℝ →+ EReal) w Finset.univ).symm

/-- Dividing once at the end is dividing every weight. -/
theorem attendLate_eq (s v : ι → EReal) (ht : ∀ j, s j ≠ ⊤) (j₀ : ι) (h₀ : s j₀ ≠ ⊥) : attendLate s v = attend s v := by
  obtain ⟨l, hl, hpos⟩ := total_real s ht j₀ h₀
  unfold attendLate attend
  rw [hl]
  have hne : (l : EReal) ≠ 0 := fun h => hpos.ne' (EReal.coe_eq_zero.1 h)
  simp only [Ideal.div, if_neg hne, one_mul]
  rw [← EReal.coe_inv]
  have hc : (0 : EReal) ≤ ((l⁻¹ : ℝ) : EReal) := EReal.coe_nonneg.2 (inv_pos.2 hpos).le
  have hd : ∀ (A : Finset ι), (∑ j ∈ A, weight s j * v j) * ((l⁻¹ : ℝ) : EReal)
      = ∑ j ∈ A, v j * (weight s j * ((l⁻¹ : ℝ) : EReal)) := by
    intro A
    induction A using Finset.cons_induction with
    | empty => simp
    | cons a S ha ih =>
      rw [Finset.sum_cons, Finset.sum_cons, EReal.right_distrib_of_nonneg_of_ne_top hc (EReal.coe_ne_top _), ih]
      congr 1
      rw [mul_comm (weight s a) (v a), mul_assoc]
  exact hd _

/-- A key of score −∞ has weight zero. -/
theorem weight_bot (s : ι → EReal) (j : ι) (h : s j = ⊥) : weight s j = 0 := by
  unfold weight; rw [h, EReal.bot_sub]; rfl

section Restrict

variable (f : κ → ι) (hf : Function.Injective f) (s v : ι → EReal) (hs : ∀ j, (∀ k, f k ≠ j) → s j = ⊥)
include hf hs

omit hf in
/-- Keys of score −∞ do not move the greatest score. -/
theorem peak_restrict : peak (fun k => s (f k)) = peak s := by
  refine le_antisymm ?_ ?_
  · rw [peak_eq_sup]; exact Finset.sup_le fun k _ => le_peak s (f k)
  · rw [peak_eq_sup]
    refine Finset.sup_le fun j _ => ?_
    by_cases h : ∃ k, f k = j
    · obtain ⟨k, rfl⟩ := h; exact le_peak (fun k => s (f k)) k
    · rw [hs j fun k e => h ⟨k, e⟩]; exact bot_le

omit hf in
theorem weight_restrict (k : κ) : weight (fun k => s (f k)) k = weight s (f k) := by
  unfold weight; rw [peak_restrict f s hs]

/-- A sum whose terms vanish off the keys kept is the sum over the keys kept. -/
theorem sum_restrict (g : ι → EReal) (hg : ∀ j, s j = ⊥ → g j = 0) : ∑ k, g (f k) = ∑ j, g j := by
  classical
  rw [← Finset.sum_image (s := Finset.univ) (g := f) (f := g) (fun a _ b _ e => hf e)]
  refine Finset.sum_subset (Finset.subset_univ _) fun j _ hj => hg j (hs j fun k e => hj ?_)
  exact Finset.mem_image.2 ⟨k, Finset.mem_univ _, e⟩

theorem total_restrict : total (fun k => s (f k)) = total s := by
  unfold total
  rw [← sum_restrict f hf s hs (weight s) (weight_bot s)]
  exact Finset.sum_congr rfl fun k _ => weight_restrict f s hs k

/-- Attention over the keys kept is attention over all keys. -/
theorem attend_restrict (h0 : total s ≠ 0) : attend (fun k => s (f k)) (fun k => v (f k)) = attend s v := by
  unfold attend
  rw [total_restrict f hf s hs]
  rw [← sum_restrict f hf s hs (fun j => v j * Ideal.div (weight s j) (total s)) fun j h => by
    rw [weight_bot s j h]; unfold Ideal.div; rw [if_neg h0, zero_mul, mul_zero]]
  exact Finset.sum_congr rfl fun k _ => by rw [weight_restrict f s hs]

end Restrict

end Cert.Attention

end
-- ==== Proof.Cells.lean ====
/-
  An entry of a rank-three array named by natural coordinates.
-/
module

public import Idealize.ShloMosaic.PureOps.Ideal.Laws
public import Idealize.ShloMosaic.Lib.ValueIdxCore

@[expose] public section

noncomputable section

namespace Cert.Attention

open Idealize.ShloMosaic Idealize.ShloMosaic.ValueIdx

/-- The entry `(i, j, k)` of an array, zero outside it. -/
def cell {A B C : ℕ} (x : (⟨3, ![A, B, C]⟩ : Shape).Idx → EReal) (i j k : ℕ) : EReal :=
  if h : i < A ∧ j < B ∧ k < C then x (ix3 ⟨i, h.1⟩ ⟨j, h.2.1⟩ ⟨k, h.2.2⟩) else 0

/-- An array at an index is its entry at the index's coordinates. -/
theorem cell_of {A B C : ℕ} (x : (⟨3, ![A, B, C]⟩ : Shape).Idx → EReal) (y : (⟨3, ![A, B, C]⟩ : Shape).Idx) {i j k : ℕ}
    (h0 : (y 0).val = i) (h1 : (y 1).val = j) (h2 : (y 2).val = k) : x y = cell x i j k := by
  subst h0 h1 h2
  unfold cell
  rw [dif_pos ⟨(y 0).isLt, (y 1).isLt, (y 2).isLt⟩]
  exact congrArg x (eq_ix3 y)

end Cert.Attention

end
-- ==== Proof.Spec.lean ====
/-
  The neighbourhood attention in numbers: a query's scores against the 512 keys of the rows around it, the values, and
  their weighted sum.
-/
module

public import proofs.«01_k».proof.Proof.Tables
public import proofs.«01_k».proof.Proof.Softmax
public import proofs.«01_k».proof.Proof.Cells

@[expose] public section

noncomputable section

namespace Cert.Attention

open Idealize.ShloMosaic Idealize.ShloMosaic.ValueIdx
open scoped BigOperators

variable (x : (⟨3, ![8, 8192, 1536]⟩ : Shape).Idx → EReal) (p : (⟨3, ![8, 15, 31]⟩ : Shape).Idx → EReal)

/-- A query's score against key `j` of the eight rows around it (row `j / 64`, column `j % 64`): the scaled product
    plus the bias of their distance where the column lies in the query's window, −∞ elsewhere. -/
def score (b r i h j : ℕ) : EReal :=
  if inWindow i (j % 64) then
    (∑ d : Fin 64, cell x b (64 * r + i) (64 * h + d.val) * cell x b (64 * rowStart r + j) (512 + 64 * h + d.val)) * ((1 / 8 : ℝ) : EReal)
      + cell p h (rowStart r + 7 - r + j / 64) (j % 64 + 15 - i)
  else ⊥

/-- Lane `d` of the value of key `j`. -/
def valueOf (b r h d j : ℕ) : EReal := cell x b (64 * rowStart r + j) (1024 + 64 * h + d)

/-- The attention of one query of one head, lane `d`. -/
def attended (b r i h d : ℕ) : EReal :=
  attend (fun j : Fin 512 => score x p b r i h j.val) (fun j : Fin 512 => valueOf x b r h d j.val)

/-- The whole result. -/
def attendedAll : (⟨3, ![8, 8192, 512]⟩ : Shape).Idx → EReal := fun y =>
  attended x p (y 0).val ((y 1).val / 64) ((y 1).val % 64) ((y 2).val / 64) ((y 2).val % 64)

/-- The queries, the keys and the bias are real numbers. -/
structure Finite : Prop where
  proj : ∀ b s l : ℕ, l < 1024 → ∃ v : ℝ, cell x b s l = v
  bias : ∀ h r l : ℕ, ∃ v : ℝ, cell p h r l = v

variable {x p}

/-- A sum of products of reals is a real. -/
theorem sum_real (f : Fin 64 → EReal) (hf : ∀ d, ∃ v : ℝ, f d = v) : ∃ v : ℝ, ∑ d, f d = v := by
  choose g hg using hf
  refine ⟨∑ d, g d, ?_⟩
  rw [Finset.sum_congr rfl fun d _ => hg d]
  exact (map_sum (⟨⟨Real.toEReal, EReal.coe_zero⟩, EReal.coe_add⟩ : ℝ →+ EReal) g Finset.univ).symm

/-- Inside the window a score is a real number. -/
theorem score_real (H : Finite x p) (b r i h j : ℕ) (hh : h < 8) (hw : inWindow i (j % 64)) :
    ∃ v : ℝ, score x p b r i h j = v := by
  unfold score
  rw [if_pos hw]
  obtain ⟨u, hu⟩ := sum_real (fun d : Fin 64 => cell x b (64 * r + i) (64 * h + d.val) * cell x b (64 * rowStart r + j) (512 + 64 * h + d.val)) (fun d => by
    obtain ⟨y, hy⟩ := H.proj b (64 * r + i) (64 * h + d.val) (by omega)
    obtain ⟨z, hz⟩ := H.proj b (64 * rowStart r + j) (512 + 64 * h + d.val) (by omega)
    exact ⟨y * z, by rw [hy, hz, EReal.coe_mul]⟩)
  obtain ⟨w, hw⟩ := H.bias h (rowStart r + 7 - r + j / 64) (j % 64 + 15 - i)
  refine ⟨u * (1 / 8) + w, ?_⟩
  rw [hu, hw, ← EReal.coe_mul, ← EReal.coe_add]

theorem score_ne_top (H : Finite x p) (b r i h j : ℕ) (hh : h < 8) : score x p b r i h j ≠ ⊤ := by
  by_cases hw : inWindow i (j % 64)
  · obtain ⟨v, hv⟩ := score_real H b r i h j hh hw
    rw [hv]; exact EReal.coe_ne_top v
  · unfold score; rw [if_neg hw]; exact bot_ne_top

/-- The first key of the window: its row the first, its column the first of the window. -/
def firstKey (i : ℕ) : Fin 512 := ⟨colStart i, by unfold colStart; omega⟩

theorem score_firstKey (H : Finite x p) (b r i h : ℕ) (hh : h < 8) : score x p b r i h (firstKey i).val ≠ ⊥ := by
  obtain ⟨v, hv⟩ := score_real H b r i h (firstKey i).val hh (by unfold firstKey inWindow colStart; constructor <;> show _ <;> dsimp only <;> omega)
  rw [hv]; exact EReal.coe_ne_bot v

end Cert.Attention

end
-- ==== Proof.Tile.lean ====
/-
  One tile of the kernel's output on the extended reals: the attention of one image row's queries, for a pair of heads,
  over the 512 keys of the row's window.
-/
module

public import proofs.«01_k».proof.Proof.Block
public import proofs.«01_k».proof.Proof.Softmax
public import proofs.«01_k».proof.Proof.Cells
public import Idealize.ShloMosaic.Lib.MatmulPlain
public import Idealize.ShloMosaic.Lib.ValueIdx
public import Idealize.ShloMosaic.Lib.Pipeline.Value

@[expose] public section

set_option maxRecDepth 16384

noncomputable section

namespace Cert.Attention

open Cert.KernelIdeal Cert.KernelIdeal.Gen
open Idealize.ShloMosaic Idealize.ShloMosaic.ValueIdx
open scoped BigOperators

theorem dotScores_eq : dot_S128x128_S512x128_S128x512_1_1_0_0_n_n = DotDims.transposedRhs 128 128 512 := rfl
theorem dotValues_eq : dot_S128x512_S512x128_S128x128_1_0_0_1_n_n = DotDims.plain 128 512 128 := rfl

/-- The mask of the first head's lanes. -/
theorem firstHead_apply (c : Fin 64) (l : Fin 128) : firstHead (ix2 c l) = if l.val < 64 then 1#1 else 0#1 := by
  have h : ∀ l : Fin 128, IntOp.cmpi .slt (BitVec.ofNat 32 l.val) 64#32 = if l.val < 64 then 1#1 else 0#1 := by decide +kernel
  unfold firstHead
  show IntOp.cmpi .slt (iota .tc S64x128 32 [1] iota_S64x128_d1_w32 (ix2 c l)) 64#32 = _
  rw [iota_single_apply]
  exact h l

/-- A query of a pair of heads: row `64 e + c` holds head `e`'s lanes of query `c`, zero in the other head's lanes. -/
theorem pairQueries_apply (hp : Fin 4) (q : FVec Ideal S1x64x512 .bf16) (e : Fin 2) (c : Fin 64) (t : Fin 128) :
    pairQueries hp q (ix2 (⟨64 * e.val + c.val, by omega⟩ : Fin 128) t)
      = if t.val / 64 = e.val then cell q 0 c.val (128 * hp.val + t.val) else 0 := by
  have hz : (Scalar.ofBits .bf16 0x0000#16 : Ideal .bf16) = (0 : EReal) := by
    show Ideal.ofBits .bf16 0x0000#16 = 0
    simp [Ideal.ofBits, Ideal.ieee]
  have hq : extractStridedSlice S64x128 ![0, 128 * hp.val] (shapeCast S64x512 q shapeCasts_S1x64x512_S64x512) (slicesQ hp) (ix2 c t)
      = cell q 0 c.val (128 * hp.val + t.val) := by
    refine (extractStridedSlice_apply _ _ _ _ (ix2 c (⟨128 * hp.val + t.val, by omega⟩ : Fin 512)) fun a => ?_).trans ?_
    · match a with
      | ⟨0, _⟩ => show c.val = 0 + c.val; omega
      | ⟨1, _⟩ => rfl
    refine (shapeCast_apply _ _ _ (ix3 (0 : Fin 1) c (⟨128 * hp.val + t.val, by omega⟩ : Fin 512)) ?_).trans ?_
    · rw [Shape.rowMajor_val_three, Shape.rowMajor_val_two]
      show (0 * 64 + c.val) * 512 + (128 * hp.val + t.val) = c.val * 512 + (128 * hp.val + t.val)
      omega
    · exact cell_of _ _ rfl rfl rfl
  unfold pairQueries
  match e with
  | ⟨0, _⟩ =>
    refine (concatenate_pair_apply_left (t := S128x128) (s₁ := S64x128) (s₂ := S64x128) _ _ _ _ _ rfl (ix2 c t) fun b => ?_).trans ?_
    · match b with
      | ⟨0, _⟩ => show c.val = 64 * 0 + c.val; omega
      | ⟨1, _⟩ => rfl
    show Scalar.select (firstHead (ix2 c t)) _ _ = _
    rw [firstHead_apply, hq]
    by_cases h : t.val < 64
    · rw [if_pos h, if_pos (show t.val / 64 = 0 by omega)]; rfl
    · rw [if_neg h, if_neg (show ¬ t.val / 64 = 0 by omega)]; exact hz
  | ⟨1, _⟩ =>
    refine (concatenate_pair_apply_right (t := S128x128) (s₁ := S64x128) (s₂ := S64x128) _ _ _ _ _ rfl rfl (ix2 c t) (fun b hb => ?_) ?_).trans ?_
    · match b with
      | ⟨0, _⟩ => exact absurd rfl hb
      | ⟨1, _⟩ => rfl
    · show c.val + 64 = 64 * 1 + c.val; omega
    show Scalar.select (firstHead (ix2 c t)) _ _ = _
    rw [firstHead_apply, hq]
    by_cases h : t.val < 64
    · rw [if_pos h, if_neg (show ¬ t.val / 64 = 1 by omega)]; exact hz
    · rw [if_neg h, if_pos (show t.val / 64 = 1 by have := t.isLt; omega)]; rfl

/-- A score of a pair of heads: the product over the head's own 64 lanes. -/
theorem pairScores_apply (hp : Fin 4) (q : FVec Ideal S1x64x512 .bf16) (k : FVec Ideal S512x128 .bf16) (e : Fin 2) (c : Fin 64) (j : Fin 512) :
    pairScores hp q k (ix2 (⟨64 * e.val + c.val, by omega⟩ : Fin 128) j)
      = ∑ d : Fin 64, cell q 0 c.val (128 * hp.val + 64 * e.val + d.val) * k (ix2 j (⟨64 * e.val + d.val, by omega⟩ : Fin 128)) := by
  unfold pairScores
  rw [dotScores_eq, shapeCast_self]
  refine (Ideal.matmul_transposedRhs_apply _ _ _ _ _ _).trans ?_
  rw [show (constant S128x512 .f32 0x00000000#32 : FVec Ideal S128x512 .f32) (ix2 (⟨64 * e.val + c.val, by omega⟩ : Fin 128) j) = (0 : EReal) from Ideal.ofBits_zero_f32, zero_add]
  symm
  refine Fintype.sum_of_injective (fun d : Fin 64 => (⟨64 * e.val + d.val, by omega⟩ : Fin 128)) (fun a b h => ?_) _ _ (fun t ht => ?_) fun d => ?_
  · have := congrArg Fin.val h; exact Fin.ext (by simpa using this)
  · rw [pairQueries_apply, if_neg, zero_mul]
    intro h
    exact ht ⟨⟨t.val % 64, by omega⟩, Fin.ext (by show 64 * e.val + t.val % 64 = t.val; omega)⟩
  · rw [pairQueries_apply, if_pos (show (64 * e.val + d.val) / 64 = e.val by omega)]
    exact congrArg (· * _) (congrArg (cell q 0 c.val) (by show _ = 128 * hp.val + (64 * e.val + d.val); omega))

/-- A score of the row, with its bias. -/
theorem rowScores_apply (q : FVec Ideal S1x64x512 .bf16) (k : Fin 4 → FVec Ideal S512x128 .bf16) (bias : FVec Ideal S1x512x512 .f32)
    (hp : Fin 4) (e : Fin 2) (c : Fin 64) (j : Fin 512) :
    rowScores q k bias (ix2 (⟨128 * hp.val + (64 * e.val + c.val), by omega⟩ : Fin 512) j)
      = (∑ d : Fin 64, cell q 0 c.val (128 * hp.val + 64 * e.val + d.val) * k hp (ix2 j (⟨64 * e.val + d.val, by omega⟩ : Fin 128)))
        + cell bias 0 (128 * hp.val + (64 * e.val + c.val)) j.val := by
  rw [← pairScores_apply]
  unfold rowScores
  refine congrArg₂ (fun a b : EReal => a + b) ?_ ?_
  · match hp with
    | ⟨0, _⟩ =>
      refine concatenate_apply_piece (t := S512x512) (0 : Fin 2) _ _ _ 0 (by show 0 < 4; omega) S128x512 _ rfl rfl _ rfl (ix2 (⟨64 * e.val + c.val, by omega⟩ : Fin 128) j) (fun b hb => ?_) ?_
      · match b with
        | ⟨0, _⟩ => exact absurd rfl hb
        | ⟨1, _⟩ => rfl
      · rfl
    | ⟨1, _⟩ =>
      refine concatenate_apply_piece (t := S512x512) (0 : Fin 2) _ _ _ 1 (by show 1 < 4; omega) S128x512 _ rfl rfl _ rfl (ix2 (⟨64 * e.val + c.val, by omega⟩ : Fin 128) j) (fun b hb => ?_) ?_
      · match b with
        | ⟨0, _⟩ => exact absurd rfl hb
        | ⟨1, _⟩ => rfl
      · rfl
    | ⟨2, _⟩ =>
      refine concatenate_apply_piece (t := S512x512) (0 : Fin 2) _ _ _ 2 (by show 2 < 4; omega) S128x512 _ rfl rfl _ rfl (ix2 (⟨64 * e.val + c.val, by omega⟩ : Fin 128) j) (fun b hb => ?_) ?_
      · match b with
        | ⟨0, _⟩ => exact absurd rfl hb
        | ⟨1, _⟩ => rfl
      · rfl
    | ⟨3, _⟩ =>
      refine concatenate_apply_piece (t := S512x512) (0 : Fin 2) _ _ _ 3 (by show 3 < 4; omega) S128x512 _ rfl rfl _ rfl (ix2 (⟨64 * e.val + c.val, by omega⟩ : Fin 128) j) (fun b hb => ?_) ?_
      · match b with
        | ⟨0, _⟩ => exact absurd rfl hb
        | ⟨1, _⟩ => rfl
      · rfl
  · refine (shapeCast_apply _ _ _ (ix3 (0 : Fin 1) (⟨128 * hp.val + (64 * e.val + c.val), by omega⟩ : Fin 512) j) ?_).trans (cell_of _ _ rfl rfl rfl)
    rw [Shape.rowMajor_val_three, Shape.rowMajor_val_two]
    show (0 * 512 + (128 * hp.val + (64 * e.val + c.val))) * 512 + j.val = (128 * hp.val + (64 * e.val + c.val)) * 512 + j.val
    omega

theorem bits_negInf : Ideal.ofBits .f32 0xFF800000#32 = ⊥ := by
  simp [Ideal.ofBits, Ideal.ieee]

/-- The greatest of a row's scores. -/
theorem rowMax_apply (s : FVec Ideal S512x512 .f32) (R : Fin 512) :
    multiReduction (F := Ideal) .maximumf [1] S512 s 0xFF800000#32 reduces_S512x512_S512 (.inl rfl) rfl (ix1 R) = peak (fun j : Fin 512 => s (ix2 R j)) := by
  rw [Ideal.multiReduction_maximumf_single s 0xFF800000#32 reduces_S512x512_S512 (.inl rfl) rfl (ix1 R)]
  unfold peak
  rw [show (FloatOps.ofBits .f32 0xFF800000#32 : Ideal .f32) = (⊥ : EReal) from bits_negInf]
  refine congrArg (fun g : Fin 512 → EReal => Finset.fold max ⊥ g Finset.univ) (funext fun j => congrArg s ?_)
  funext a
  match a with
  | ⟨0, _⟩ => rfl
  | ⟨1, _⟩ => rfl

/-- The sum of a row. -/
theorem rowSum_apply (p : FVec Ideal S512x512 .f32) (R : Fin 512) :
    multiReduction (F := Ideal) .add [1] S512 p 0x00000000#32 reduces_S512x512_S512 (.inl rfl) rfl (ix1 R) = ∑ j : Fin 512, p (ix2 R j) := by
  rw [Ideal.multiReduction_add_single p 0x00000000#32 reduces_S512x512_S512 (.inl rfl) rfl (ix1 R)]
  refine Finset.sum_congr rfl fun j _ => congrArg p ?_
  funext a
  match a with
  | ⟨0, _⟩ => rfl
  | ⟨1, _⟩ => rfl

/-- The exponentials are the weights of each row's scores. -/
theorem rowExp_apply (s : FVec Ideal S512x512 .f32) (R j : Fin 512) : rowExp s (ix2 R j) = weight (fun j : Fin 512 => s (ix2 R j)) j := by
  unfold rowExp weight
  show Ideal.exp (s (ix2 R j) - _) = _
  refine congrArg (fun m => Ideal.exp (s (ix2 R j) - m)) ?_
  refine (broadcastTo_apply _ _ _ (ix2 R (0 : Fin 1)) fun a => ?_).trans ?_
  · match a with
    | ⟨0, _⟩ => rfl
    | ⟨1, _⟩ => rfl
  refine (shapeCast_apply _ _ _ (ix1 R) ?_).trans ?_
  · rw [Shape.rowMajor_val_one, Shape.rowMajor_val_two]
    show R.val = R.val * 1 + 0
    omega
  exact rowMax_apply s R

/-- One over the total of a row. -/
theorem rowInv_apply (p : FVec Ideal S512x512 .f32) (R : Fin 512) : rowInv p (ix2 R (0 : Fin 1)) = Ideal.div 1 (∑ j : Fin 512, p (ix2 R j)) := by
  have h1 : Ideal.ofBits .f32 0x3F800000#32 = 1 := by
    simp [Ideal.ofBits, Ideal.ieee]; rw [← EReal.coe_mul]; norm_num
  unfold rowInv
  refine congrArg₂ Ideal.div h1 ?_
  refine (shapeCast_apply _ _ _ (ix1 R) ?_).trans ?_
  · rw [Shape.rowMajor_val_one, Shape.rowMajor_val_two]
    show R.val = R.val * 1 + 0
    omega
  exact rowSum_apply p R

/-- A pair's averaged values: lane `64 e + d` is head `e`'s average. -/
theorem pairOut_apply (hp : Fin 4) (p : FVec Ideal S512x512 .f32) (v : FVec Ideal S512x128 .bf16) (e : Fin 2) (c d : Fin 64) :
    pairOut hp p v (ix3 (0 : Fin 1) c (⟨64 * e.val + d.val, by omega⟩ : Fin 128))
      = (∑ j : Fin 512, p (ix2 (⟨128 * hp.val + (64 * e.val + c.val), by omega⟩ : Fin 512) j) * v (ix2 j (⟨64 * e.val + d.val, by omega⟩ : Fin 128)))
        * Ideal.div 1 (∑ j : Fin 512, p (ix2 (⟨128 * hp.val + (64 * e.val + c.val), by omega⟩ : Fin 512) j)) := by
  have ho : ∀ (r : Fin 128) (l : Fin 128), mulf (matmul dot_S128x512_S512x128_S128x128_1_0_0_1_n_n none
        (extractStridedSlice S128x512 ![128 * hp.val, 0] (truncf .bf16 p bitsLt_bf16_f32) (slicesP hp))
        (shapeCast S512x128 v shapeCasts_S512x128_S512x128) (constant S128x128 .f32 0x00000000#32))
      (broadcastTo S128x128 (extractStridedSlice S128x1 ![128 * hp.val, 0] (rowInv p) (slicesL hp)) broadcasts_S128x1_S128x128) (ix2 r l)
      = (∑ j : Fin 512, p (ix2 (⟨128 * hp.val + r.val, by omega⟩ : Fin 512) j) * v (ix2 j l))
        * Ideal.div 1 (∑ j : Fin 512, p (ix2 (⟨128 * hp.val + r.val, by omega⟩ : Fin 512) j)) := by
    intro r l
    refine congrArg₂ (fun a b : EReal => a * b) ?_ ?_
    · rw [dotValues_eq, shapeCast_self]
      refine (Ideal.matmul_plain_apply _ _ _ _ _ _).trans ?_
      rw [show (constant S128x128 .f32 0x00000000#32 : FVec Ideal S128x128 .f32) (ix2 r l) = (0 : EReal) from Ideal.ofBits_zero_f32, zero_add]
      refine Finset.sum_congr rfl fun j _ => congrArg (· * v (ix2 j l)) ?_
      refine extractStridedSlice_apply _ _ _ _ (ix2 (⟨128 * hp.val + r.val, by omega⟩ : Fin 512) j) fun a => ?_
      match a with
      | ⟨0, _⟩ => rfl
      | ⟨1, _⟩ => show j.val = 0 + j.val; omega
    · refine (broadcastTo_apply _ _ _ (ix2 r (0 : Fin 1)) fun a => ?_).trans ?_
      · match a with
        | ⟨0, _⟩ => rfl
        | ⟨1, _⟩ => rfl
      refine (extractStridedSlice_apply _ _ _ _ (ix2 (⟨128 * hp.val + r.val, by omega⟩ : Fin 512) (0 : Fin 1)) fun a => ?_).trans (rowInv_apply p _)
      match a with
      | ⟨0, _⟩ => rfl
      | ⟨1, _⟩ => rfl
  unfold pairOut
  refine (shapeCast_apply _ _ _ (ix2 c (⟨64 * e.val + d.val, by omega⟩ : Fin 128)) ?_).trans ?_
  · rw [Shape.rowMajor_val_three, Shape.rowMajor_val_two]
    show c.val * 128 + (64 * e.val + d.val) = (0 * 64 + c.val) * 128 + (64 * e.val + d.val)
    omega
  show Scalar.select (firstHead (ix2 c (⟨64 * e.val + d.val, by omega⟩ : Fin 128))) _ _ = _
  rw [firstHead_apply]
  match e with
  | ⟨0, _⟩ =>
    rw [if_pos (show 64 * 0 + d.val < 64 by omega), select_one]
    refine (extractStridedSlice_apply _ _ _ _ (ix2 (⟨64 * 0 + c.val, by omega⟩ : Fin 128) (⟨64 * 0 + d.val, by omega⟩ : Fin 128)) fun a => ?_).trans (ho _ _)
    match a with
    | ⟨0, _⟩ => show 64 * 0 + c.val = 0 + c.val; omega
    | ⟨1, _⟩ => show 64 * 0 + d.val = 0 + (64 * 0 + d.val); omega
  | ⟨1, _⟩ =>
    rw [if_neg (show ¬ 64 * 1 + d.val < 64 by omega), select_zero]
    refine (extractStridedSlice_apply _ _ _ _ (ix2 (⟨64 * 1 + c.val, by omega⟩ : Fin 128) (⟨64 * 1 + d.val, by omega⟩ : Fin 128)) fun a => ?_).trans (ho _ _)
    match a with
    | ⟨0, _⟩ => show 64 * 1 + c.val = 64 + c.val; omega
    | ⟨1, _⟩ => show 64 * 1 + d.val = 0 + (64 * 1 + d.val); omega

/-! ## The blocks read -/

/-- Row `a`'s queries in the block. -/
theorem rowQ_cell (a : Fin 8) (x0 : FVec Ideal S1x512x512 .bf16) (c : Fin 64) (l : Fin 512) :
    cell (rowQ a x0) 0 c.val l.val = cell x0 0 (64 * a.val + c.val) l.val := by
  refine (cell_of (rowQ a x0) (ix3 (0 : Fin 1) c l) rfl rfl rfl).symm.trans ?_
  unfold rowQ
  refine cell_of x0 _ ?_ ?_ ?_
  · show 0 + 1 * 0 = 0; omega
  · show 64 * a.val + 1 * c.val = _; omega
  · show 0 + 1 * l.val = _; omega

/-- Row `a`'s bias block. -/
theorem rowB_cell (i : grid0.Coords) (a : Fin 8) (x3 : FVec Ideal S8x512x512 .f32) (R j : Fin 512) :
    cell (rowB i a x3) 0 R.val j.val = cell x3 (biasRow i a) R.val j.val := by
  refine (cell_of (rowB i a x3) (ix3 (0 : Fin 1) R j) rfl rfl rfl).symm.trans ?_
  unfold rowB
  refine cell_of x3 _ ?_ ?_ ?_
  · show biasRow i a + 1 * 0 = _; omega
  · show 0 + 1 * R.val = _; omega
  · show 0 + 1 * j.val = _; omega

/-- A key or value of row `a`'s window. -/
theorem rowKV_apply (i : grid0.Coords) (a : Fin 8) (hp : Fin 4) (x : FVec Ideal S1x1536x512 .bf16) (j : Fin 512) (l : Fin 128) :
    rowKV i a hp x (ix2 j l) = cell x 0 (winStart i a + j.val) (128 * hp.val + l.val) := by
  have hw := winStart_le i a
  unfold rowKV
  rw [Shape.reshapeEquiv_eq_of_rowMajor (y := ix3 (0 : Fin 1) (⟨winStart i a + j.val, by omega⟩ : Fin 1536) (⟨128 * hp.val + l.val, by omega⟩ : Fin 512))]
  · refine cell_of x _ ?_ ?_ ?_
    · rfl
    · show 0 + 1 * (winStart i a + j.val) = _; omega
    · show 0 + 1 * (128 * hp.val + l.val) = _; omega
  · rw [Shape.rowMajor_val_three, Shape.rowMajor_val_two]
    show (0 * 1536 + (winStart i a + j.val)) * 512 + (128 * hp.val + l.val) = (winStart i a + 1 * j.val) * 512 + (128 * hp.val + 1 * l.val)
    omega

/-- The score of query `c` of row `a` for head `e` of pair `hp` against key `j` of the row's window, from the blocks. -/
def blockScore (i : grid0.Coords) (x0 : FVec Ideal S1x512x512 .bf16) (x1 : FVec Ideal S1x1536x512 .bf16) (x3 : FVec Ideal S8x512x512 .f32)
    (a : Fin 8) (h : Fin 8) (c : Fin 64) (j : Fin 512) : EReal :=
  (∑ d : Fin 64, cell x0 0 (64 * a.val + c.val) (64 * h.val + d.val) * cell x1 0 (winStart i a + j.val) (64 * h.val + d.val))
    + cell x3 (biasRow i a) (64 * h.val + c.val) j.val

/-- A tile's entry: the attention of one query and head over the 512 keys of its row's window. -/
theorem tile_apply (i : grid0.Coords) (x0 : FVec Ideal S1x512x512 .bf16) (x1 x2 : FVec Ideal S1x1536x512 .bf16) (x3 : FVec Ideal S8x512x512 .f32)
    (a : Fin 8) (hp : Fin 4) (e : Fin 2) (c d : Fin 64) :
    tile i x0 x1 x2 x3 a hp (ix3 (0 : Fin 1) c (⟨64 * e.val + d.val, by omega⟩ : Fin 128))
      = attendLate (fun j : Fin 512 => blockScore i x0 x1 x3 a ⟨2 * hp.val + e.val, by omega⟩ c j)
          (fun j : Fin 512 => cell x2 0 (winStart i a + j.val) (64 * (2 * hp.val + e.val) + d.val)) := by
  have hs : ∀ j : Fin 512, rowScores (rowQ a x0) (fun h => rowKV i a h x1) (rowB i a x3) (ix2 (⟨128 * hp.val + (64 * e.val + c.val), by omega⟩ : Fin 512) j)
      = blockScore i x0 x1 x3 a ⟨2 * hp.val + e.val, by omega⟩ c j := by
    intro j
    rw [rowScores_apply]
    unfold blockScore
    refine congrArg₂ (fun a b : EReal => a + b) (Finset.sum_congr rfl fun t _ => ?_) ?_
    · rw [rowKV_apply]
      refine congrArg₂ (fun a b : EReal => a * b) ?_ ?_
      · refine (rowQ_cell a x0 c ⟨128 * hp.val + 64 * e.val + t.val, by omega⟩).trans (congrArg (cell x0 0 _) ?_)
        show 128 * hp.val + 64 * e.val + t.val = 64 * (2 * hp.val + e.val) + t.val
        omega
      · refine congrArg (cell x1 0 _) ?_
        show 128 * hp.val + (64 * e.val + t.val) = 64 * (2 * hp.val + e.val) + t.val
        omega
    · refine (rowB_cell i a x3 ⟨128 * hp.val + (64 * e.val + c.val), by omega⟩ j).trans (congrArg (fun R => cell x3 _ R _) ?_)
      show 128 * hp.val + (64 * e.val + c.val) = 64 * (2 * hp.val + e.val) + c.val
      omega
  unfold tile
  rw [pairOut_apply]
  unfold attendLate total
  simp only [rowExp_apply, hs]
  refine congrArg (· * _) (Finset.sum_congr rfl fun j _ => congrArg₂ (fun a b : EReal => a * b) rfl ?_)
  rw [rowKV_apply]
  refine congrArg (cell x2 0 _) ?_
  show 128 * hp.val + (64 * e.val + d.val) = 64 * (2 * hp.val + e.val) + d.val
  omega

/-- The output block's entry for query `c` of row `a` and lane `d` of head `h`. -/
def blockOut (i : grid0.Coords) (x0 : FVec Ideal S1x512x512 .bf16) (x1 x2 : FVec Ideal S1x1536x512 .bf16) (x3 : FVec Ideal S8x512x512 .f32)
    (a : Fin 8) (h : Fin 8) (c d : Fin 64) : EReal :=
  attendLate (fun j : Fin 512 => blockScore i x0 x1 x3 a h c j) (fun j : Fin 512 => cell x2 0 (winStart i a + j.val) (64 * h.val + d.val))

/-- The output block, as one function of its index. -/
def blockOutAt (i : grid0.Coords) (x0 : FVec Ideal S1x512x512 .bf16) (x1 x2 : FVec Ideal S1x1536x512 .bf16) (x3 : FVec Ideal S8x512x512 .f32) :
    FVec Ideal S1x512x512 .bf16 := fun y =>
  blockOut i x0 x1 x2 x3 ⟨(y 1).val / 64, by have h : (y 1).val < 512 := (y 1).isLt; omega⟩
    ⟨(y 2).val / 64, by have h : (y 2).val < 512 := (y 2).isLt; omega⟩ ⟨(y 1).val % 64, by omega⟩ ⟨(y 2).val % 64, by omega⟩

theorem piece_val (i : grid0.Coords) (x0 : FVec Ideal S1x512x512 .bf16) (x1 x2 : FVec Ideal S1x1536x512 .bf16) (x3 : FVec Ideal S8x512x512 .f32)
    (a : Fin 8) (hp : Fin 4) (y : S1x64x128.Idx) :
    blockOutAt i x0 x1 x2 x3 ((Rect.unit (s := S1x512x512) ![0, 64 * a.val, 128 * hp.val] S1x64x128.size (inbO a hp)).idx y)
      = tile i x0 x1 x2 x3 a hp y := by
  have h0 : (y 0).val < 1 := (y 0).isLt
  have h1 : (y 1).val < 64 := (y 1).isLt
  have h2 : (y 2).val < 128 := (y 2).isLt
  have hy : y = ix3 (0 : Fin 1) (⟨(y 1).val, h1⟩ : Fin 64) (⟨64 * ((y 2).val / 64) + (y 2).val % 64, by omega⟩ : Fin 128) := by
    funext b
    match b with
    | ⟨0, _⟩ => exact Fin.ext (by show (y 0).val = 0; omega)
    | ⟨1, _⟩ => rfl
    | ⟨2, _⟩ => exact Fin.ext (by show (y 2).val = 64 * ((y 2).val / 64) + (y 2).val % 64; omega)
  conv_rhs => rw [hy]
  refine Eq.trans ?_ (tile_apply i x0 x1 x2 x3 a hp ⟨(y 2).val / 64, by omega⟩ ⟨(y 1).val, h1⟩ ⟨(y 2).val % 64, by omega⟩).symm
  unfold blockOutAt
  have e1 : (((Rect.unit (s := S1x512x512) ![0, 64 * a.val, 128 * hp.val] S1x64x128.size (inbO a hp)).idx y) 1).val = 64 * a.val + 1 * (y 1).val := rfl
  have e2 : (((Rect.unit (s := S1x512x512) ![0, 64 * a.val, 128 * hp.val] S1x64x128.size (inbO a hp)).idx y) 2).val = 128 * hp.val + 1 * (y 2).val := rfl
  show _ = blockOut i x0 x1 x2 x3 a ⟨2 * hp.val + (y 2).val / 64, by omega⟩ ⟨(y 1).val, h1⟩ ⟨(y 2).val % 64, by omega⟩
  congr 1
  · exact Fin.ext (by show _ / 64 = a.val; omega)
  · exact Fin.ext (by show _ / 64 = 2 * hp.val + (y 2).val / 64; omega)
  · exact Fin.ext (by show _ % 64 = (y 1).val; omega)
  · exact Fin.ext (by show _ % 64 = (y 2).val % 64; omega)

/-- What the output block holds. -/
theorem outBlock_eq (i : grid0.Coords) (x0 : FVec Ideal S1x512x512 .bf16) (x1 x2 : FVec Ideal S1x1536x512 .bf16) (x3 : FVec Ideal S8x512x512 .f32) :
    outBlock i x0 x1 x2 x3 = blockOutAt i x0 x1 x2 x3 := by
  funext y
  refine View.canon_apply_of_pieces _ _ ?_ y (cover i x0 x1 x2 x3 y)
  unfold pieces
  intro pc hpc x
  simp only [List.mem_cons, List.not_mem_nil, or_false] at hpc
  rcases hpc with h | h | h | h | h | h | h | h | h | h | h | h | h | h | h | h | h | h | h | h | h | h | h | h | h | h | h | h | h | h | h | h <;>
    (subst h; exact (piece_val i x0 x1 x2 x3 _ _ x).symm)

end Cert.Attention

end
-- ==== Proof.Host.lean ====
/-
  The two arrays the host hands the kernel: the projection with its query lanes scaled, and the bias table over pairs of
  columns, eight consecutive bias rows to a plane.
-/
module

public import proofs.«01_k».proof.Proof.Gen.KernelIdeal.Frame
public import proofs.«01_k».proof.Proof.Tables
public import proofs.«01_k».proof.Proof.Cells
public import Idealize.ShloMosaic.Lib.ValueIdx
public import Idealize.ShloMosaic.Lib.Pipeline.Value
public import Idealize.ShloMosaic.Lib.StableHlo.RunRead
public import Idealize.ShloMosaic.PureOps.Ideal.Laws

@[expose] public section

set_option maxRecDepth 16384

noncomputable section

namespace Cert.Attention

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The queries, keys and values as the launch finds them. -/
abbrev proj : S8x8192x1536.Idx → EReal := m ((c : Thread nD τ).loc main_arg0)
/-- The relative position bias as the launch finds it. -/
abbrev bias : S8x15x31.Idx → EReal := m ((c : Thread nD τ).loc main_arg1)

/-! ## The scaled projection -/

/-- The scale of a lane: one eighth on the query lanes, one elsewhere. -/
def laneScale (l : ℕ) : EReal := if l < 512 then ((1 / 8 : ℝ) : EReal) else 1

theorem eighth_bits : Ideal.ofBits .f32 0x3E000000#32 = ((1 / 8 : ℝ) : EReal) := by
  simp [Ideal.ofBits, Ideal.ieee]
  rw [← EReal.coe_mul]
  norm_num

theorem one_bits : Ideal.ofBits .f32 0x3F800000#32 = 1 := by
  simp [Ideal.ofBits, Ideal.ieee]
  rw [← EReal.coe_mul]
  norm_num

theorem bot_bits : Ideal.ofBits .f32 0xFF800000#32 = ⊥ := by
  simp [Ideal.ofBits, Ideal.ieee]

/-- Two constant rows laid end to end. -/
theorem rowScale_apply (u : S512.Idx → EReal) (v : S1024.Idx → EReal) (l : Fin 1536) (a b : EReal)
    (hu : ∀ i, u i = a) (hv : ∀ i, v i = b) :
    concatenate S1536 0 [⟨S512, u⟩, ⟨S1024, v⟩] concatenates_S512_S1024_S1536_d0 (ix1 l) = if l.val < 512 then a else b := by
  by_cases h : l.val < 512
  · rw [if_pos h, ← hu (ix1 ⟨l.val, h⟩)]
    exact concatenate_pair_apply_left (t := S1536) (s₁ := S512) (s₂ := S1024) _ _ _ _ _ rfl (ix1 (⟨l.val, h⟩ : Fin 512))
      (fun e => by obtain rfl : e = 0 := Subsingleton.elim _ _; rfl)
  · rw [if_neg h, ← hv (ix1 ⟨l.val - 512, by omega⟩)]
    exact concatenate_pair_apply_right (t := S1536) (s₁ := S512) (s₂ := S1024) _ _ _ _ _ rfl rfl (ix1 (⟨l.val - 512, by omega⟩ : Fin 1024))
      (fun e he => absurd (Subsingleton.elim _ _) he) (by show l.val - 512 + 512 = l.val; omega)

theorem scaled_apply (b : Fin 8) (s : Fin 8192) (l : Fin 1536) :
    V m c main_v6 (ix3 b s l) = cell (proj m c) b.val s.val l.val * laneScale l.val := by
  unfold V
  simp only [List.flatten_cons, List.flatten_nil, List.append_nil, List.cons_append, List.nil_append, hostOps0, hostOps0_1, hostOps0_2]
  after_reads_simp
  show (proj m c (ix3 b s l) * (_ : EReal) : EReal) = _
  refine congrArg₂ (fun a b : EReal => a * b) (cell_of (proj m c) (ix3 b s l) rfl rfl rfl) ?_
  rw [broadcastInDim_apply _ _ _ _ (ix3 (0 : Fin 1) (0 : Fin 1) l) (fun a => by match a with | 0 => rfl | 1 => rfl | 2 => rfl),
    broadcastInDim_apply _ _ _ _ (ix1 l) (fun a => by match a with | 0 => rfl)]
  refine rowScale_apply _ _ l _ _ ?_ ?_
  · intro i
    after_reads_simp
    exact eighth_bits
  · intro i
    after_reads_simp
    exact one_bits

/-! ## The bias table -/

/-- The bias of every bias row at every pair of columns, −∞ where the pair is not in the window. -/
theorem rows_apply (h : Fin 8) (o : Fin 15) (i k : Fin 64) :
    V m c main_v13 (ix4 h o i k) = if inWindow i.val k.val then cell (bias m c) h.val o.val (k.val + 15 - i.val) else ⊥ := by
  unfold V
  simp only [List.flatten_cons, List.flatten_nil, List.append_nil, List.cons_append, List.nil_append, hostOps0, hostOps0_1, hostOps0_2]
  after_reads_simp
  show Scalar.select (broadcastInDim S8x15x64x64 ![0, 1, 2, 3] bcast_S1x1x64x64_S8x15x64x64_0_1_2_3
      (broadcastInDim S1x1x64x64 ![2, 3] bcast_S64x64_S1x1x64x64_2_3 fun i => lit0 (S64x64.rowMajor i)) (ix4 h o i k))
    (Host.gather gather_S8x15x31_S64x64x1_S8x15x64x64_01_2_n_n_2_2_8151 (bias m c)
            (broadcastInDim S64x64x1 ![0, 1] bcast_S64x64_S64x64x1_0_1 fun i => lit1 (S64x64.rowMajor i)) (ix4 h o i k))
    (Ideal.ofBits .f32 0xFF800000#32) = _
  rw [broadcastInDim_apply _ bcast_S1x1x64x64_S8x15x64x64_0_1_2_3 _ _ (ix4 (0 : Fin 1) (0 : Fin 1) i k) (fun a => by match a with | 0 => rfl | 1 => rfl | 2 => rfl | 3 => rfl),
    broadcastInDim_apply _ bcast_S64x64_S1x1x64x64_2_3 _ _ (ix2 i k) (fun a => by match a with | 0 => rfl | 1 => rfl)]
  have e : S64x64.rowMajor (ix2 i k) = ⟨64 * i.val + k.val, (by omega : _ < 4096).trans_eq (by decide)⟩ := by
    refine Fin.ext ?_
    rw [Shape.rowMajor_val_two]
    show i.val * 64 + k.val = 64 * i.val + k.val
    omega
  rw [e, bot_bits]
  rw [show lit0 ⟨64 * i.val + k.val, _⟩ = if inWindow i.val k.val then 1#1 else 0#1 from mask_table i k]
  by_cases hw : inWindow i.val k.val
  · rw [if_pos hw, if_pos hw, select_one]
    unfold Host.gather
    refine cell_of (bias m c) _ ?_ ?_ ?_
    · show GatherDims.start _ _ _ 0 + GatherDims.batchCoord _ _ 0 + GatherDims.offCoord _ _ 0 = _
      rw [GatherDims.batchCoord_eq_zero _ _ _ List.not_mem_nil]
      unfold GatherDims.start
      rw [dif_neg (by decide)]
      simp only [Nat.zero_add]
      rfl
    · show GatherDims.start _ _ _ 1 + GatherDims.batchCoord _ _ 1 + GatherDims.offCoord _ _ 1 = _
      rw [GatherDims.batchCoord_eq_zero _ _ _ List.not_mem_nil]
      unfold GatherDims.start
      rw [dif_neg (by decide)]
      simp only [Nat.zero_add]
      rfl
    · show GatherDims.start _ _ _ 2 + GatherDims.batchCoord _ _ 2 + GatherDims.offCoord _ _ 2 = _
      rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (2 : Fin 3) ∈ gather_S8x15x31_S64x64x1_S8x15x64x64_01_2_n_n_2_2_8151.startIndexMap from List.mem_singleton.mpr rfl)]
      rw [broadcastInDim_apply _ bcast_S64x64_S64x64x1_0_1 _ _ (ix2 i k) (fun a => by match a with | 0 => rfl | 1 => rfl), e]
      rw [show (lit1 ⟨64 * i.val + k.val, _⟩).toInt.toNat = _ from offset_table i k hw]
      show min _ 30 = _
      unfold inWindow colStart at hw
      omega
  · rw [if_neg hw, if_neg hw, select_zero]

/-- Eight planes stacked. -/
theorem stack_apply (p0 p1 p2 p3 p4 p5 p6 p7 : S1x8x8x64x64.Idx → EReal) (o h k : Fin 8) (i j : Fin 64) :
    concatenate S8x8x8x64x64 0 [⟨S1x8x8x64x64, p0⟩, ⟨S1x8x8x64x64, p1⟩, ⟨S1x8x8x64x64, p2⟩, ⟨S1x8x8x64x64, p3⟩,
      ⟨S1x8x8x64x64, p4⟩, ⟨S1x8x8x64x64, p5⟩, ⟨S1x8x8x64x64, p6⟩, ⟨S1x8x8x64x64, p7⟩]
      concatenates_S1x8x8x64x64_S1x8x8x64x64_S1x8x8x64x64_S1x8x8x64x64_S1x8x8x64x64_S1x8x8x64x64_S1x8x8x64x64_S1x8x8x64x64_S8x8x8x64x64_d0
      (ix5 o h k i j) = (![p0, p1, p2, p3, p4, p5, p6, p7] : Fin 8 → S1x8x8x64x64.Idx → EReal) o (ix5 (0 : Fin 1) h k i j) := by
  have hi : ∀ e : Fin 5, e ≠ 0 → (ix5 (0 : Fin 1) h k i j e).val = (ix5 o h k i j e).val := fun e he => by
    match e with | 0 => exact absurd rfl he | 1 => rfl | 2 => rfl | 3 => rfl | 4 => rfl
  match o with
  | 0 => exact concatenate_apply_piece (t := S8x8x8x64x64) 0 _ _ _ 0 (by show 0 < 8; omega) S1x8x8x64x64 p0 rfl rfl _ rfl (ix5 (0 : Fin 1) h k i j) hi rfl
  | 1 => exact concatenate_apply_piece (t := S8x8x8x64x64) 0 _ _ _ 1 (by show 1 < 8; omega) S1x8x8x64x64 p1 rfl rfl _ rfl (ix5 (0 : Fin 1) h k i j) hi rfl
  | 2 => exact concatenate_apply_piece (t := S8x8x8x64x64) 0 _ _ _ 2 (by show 2 < 8; omega) S1x8x8x64x64 p2 rfl rfl _ rfl (ix5 (0 : Fin 1) h k i j) hi rfl
  | 3 => exact concatenate_apply_piece (t := S8x8x8x64x64) 0 _ _ _ 3 (by show 3 < 8; omega) S1x8x8x64x64 p3 rfl rfl _ rfl (ix5 (0 : Fin 1) h k i j) hi rfl
  | 4 => exact concatenate_apply_piece (t := S8x8x8x64x64) 0 _ _ _ 4 (by show 4 < 8; omega) S1x8x8x64x64 p4 rfl rfl _ rfl (ix5 (0 : Fin 1) h k i j) hi rfl
  | 5 => exact concatenate_apply_piece (t := S8x8x8x64x64) 0 _ _ _ 5 (by show 5 < 8; omega) S1x8x8x64x64 p5 rfl rfl _ rfl (ix5 (0 : Fin 1) h k i j) hi rfl
  | 6 => exact concatenate_apply_piece (t := S8x8x8x64x64) 0 _ _ _ 6 (by show 6 < 8; omega) S1x8x8x64x64 p6 rfl rfl _ rfl (ix5 (0 : Fin 1) h k i j) hi rfl
  | 7 => exact concatenate_apply_piece (t := S8x8x8x64x64) 0 _ _ _ 7 (by show 7 < 8; omega) S1x8x8x64x64 p7 rfl rfl _ rfl (ix5 (0 : Fin 1) h k i j) hi rfl

/-- One plane: eight consecutive bias rows. -/
theorem plane_apply (x : S8x15x64x64.Idx → EReal) (o : Fin 8) (hs : S8x15x64x64.Slices ![0, o.val, 0, 0] S8x8x64x64) (h k : Fin 8) (i j : Fin 64) :
    broadcastInDim S1x8x8x64x64 ![1, 2, 3, 4] bcast_S8x8x64x64_S1x8x8x64x64_1_2_3_4
      (extractStridedSlice S8x8x64x64 ![0, o.val, 0, 0] x hs) (ix5 (0 : Fin 1) h k i j)
      = x (ix4 h (⟨o.val + k.val, by omega⟩ : Fin 15) i j) := by
  rw [broadcastInDim_apply _ bcast_S8x8x64x64_S1x8x8x64x64_1_2_3_4 _ _ (ix4 h k i j) (fun a => by match a with | 0 => rfl | 1 => rfl | 2 => rfl | 3 => rfl)]
  exact extractStridedSlice_apply _ x _ _ _ (fun a => by
    match a with
    | 0 => exact (Nat.zero_add _).symm
    | 1 => rfl
    | 2 => exact (Nat.zero_add _).symm
    | 3 => exact (Nat.zero_add _).symm)

/-- The bias table: plane `o`, head `h` and query column `i` give the row, row `k` of the window and column `j` the
    lane. -/
theorem table_apply (o h k : Fin 8) (i j : Fin 64) :
    V m c main_v32 (ix3 o (⟨64 * h.val + i.val, by omega⟩ : Fin 512) (⟨64 * k.val + j.val, by omega⟩ : Fin 512))
      = if inWindow i.val j.val then cell (bias m c) h.val (o.val + k.val) (j.val + 15 - i.val) else ⊥ := by
  rw [← rows_apply m c h (⟨o.val + k.val, by omega⟩ : Fin 15) i j]
  unfold V
  simp only [List.flatten_cons, List.flatten_nil, List.append_nil, List.cons_append, List.nil_append, hostOps0, hostOps0_1, hostOps0_2]
  after_reads_simp
  refine (shapeCast_apply _ shapeCasts_S8x8x64x8x64_S8x512x512 _ (ix5 o h i k j) ?_).trans ?_
  · rw [Shape.rowMajor_val_five, Shape.rowMajor_val_three]
    show (((o.val * 8 + h.val) * 64 + i.val) * 8 + k.val) * 64 + j.val = (o.val * 512 + (64 * h.val + i.val)) * 512 + (64 * k.val + j.val)
    omega
  refine (transpose_apply _ _ transposes_S8x8x8x64x64_S8x8x64x8x64_0_1_3_2_4 _ (ix5 o h k i j)
    (fun a => by match a with | 0 => rfl | 1 => rfl | 2 => rfl | 3 => rfl | 4 => rfl)).trans ?_
  refine (stack_apply _ _ _ _ _ _ _ _ o h k i j).trans ?_
  fin_cases o
  · simp only [Fin.zero_eta, Matrix.cons_val]
    after_reads_simp
    exact plane_apply _ 0 _ h k i j
  · simp only [Fin.mk_one, Matrix.cons_val]
    after_reads_simp
    exact plane_apply _ 1 _ h k i j
  · simp only [Fin.reduceFinMk, Matrix.cons_val]
    after_reads_simp
    exact plane_apply _ 2 _ h k i j
  · simp only [Fin.reduceFinMk, Matrix.cons_val]
    after_reads_simp
    exact plane_apply _ 3 _ h k i j
  · simp only [Fin.reduceFinMk, Matrix.cons_val]
    after_reads_simp
    exact plane_apply _ 4 _ h k i j
  · simp only [Fin.reduceFinMk, Matrix.cons_val]
    after_reads_simp
    exact plane_apply _ 5 _ h k i j
  · simp only [Fin.reduceFinMk, Matrix.cons_val]
    after_reads_simp
    exact plane_apply _ 6 _ h k i j
  · simp only [Fin.reduceFinMk, Matrix.cons_val]
    after_reads_simp
    exact plane_apply _ 7 _ h k i j

end Cert.Attention

end
-- ==== Proof.Blocks.lean ====
/-
  The four blocks the body reads at a grid point, in numbers: the tile of queries, the halo of rows of keys and of
  values around it, and the bias table.
-/
module

public import proofs.«01_k».proof.Proof.Host
public import proofs.«01_k».proof.Proof.Block

@[expose] public section

set_option maxRecDepth 16384

noncomputable section

namespace Cert.Attention

open Cert.KernelIdeal Cert.KernelIdeal.Gen
open Idealize.ShloMosaic Idealize.ShloMosaic.TcCoe Idealize.ShloMosaic.ValueIdx
open Idealize.ShloMosaic.Pipeline (Window)

/-- The first image row of the halo of a tile of eight rows. -/
def haloStart (n : ℕ) : ℕ := min (8 * n - 8) 104

/-! ## The index maps and the offsets of the body, as numbers -/

theorem queryMap : ∀ i : grid0.Coords, cc0_transform_0 i = ![(i 0).val, (i 1).val, 0] := by decide +kernel
theorem keyMap : ∀ i : grid0.Coords, cc0_transform_1 i = ![(i 0).val, 64 * haloStart (i 1).val, 512] := by decide +kernel
theorem valueMap : ∀ i : grid0.Coords, cc0_transform_2 i = ![(i 0).val, 64 * haloStart (i 1).val, 1024] := by decide +kernel
theorem outMap : ∀ i : grid0.Coords, cc0_transform_4 i = ![(i 0).val, (i 1).val, 0] := by decide +kernel

theorem winStart_eq : ∀ (i : grid0.Coords) (a : Fin 8),
    winStart i a = 64 * (rowStart (8 * (i 1).val + a.val) - haloStart (i 1).val) := by
  unfold winStart
  decide +kernel
theorem biasRow_eq : ∀ (i : grid0.Coords) (a : Fin 8),
    biasRow i a = rowStart (8 * (i 1).val + a.val) + 7 - (8 * (i 1).val + a.val) := by
  unfold biasRow
  decide +kernel

variable (m : (ℓ : Loc nD τ sig) → Buf (Elt Ideal) ℓ) (c : Dev nD) (t : Fin cfg0.N)

/-! ## The blocks -/

/-- The array the queries, keys and values are read from. -/
abbrev scaled : S8x8192x1536.Idx → EReal := V m c main_v6
/-- The array of bias planes. -/
abbrev table : S8x512x512.Idx → EReal := V m c main_v32

theorem queries_cell (q l : ℕ) (hq : q < 512) (hl : l < 512) :
    cell (A := 1) (B := 512) (C := 512) (iblk m c 0 t) 0 q l
      = cell (scaled m c) (grid0.coords t 0).val (512 * (grid0.coords t 1).val + q) l := by
  refine (cell_of (A := 1) (B := 512) (C := 512) (iblk m c 0 t) (ix3 (0 : Fin 1) (⟨q, hq⟩ : Fin 512) (⟨l, hl⟩ : Fin 512)) rfl rfl rfl).symm.trans ?_
  have e := queryMap (grid0.coords t)
  refine cell_of (scaled m c) ((win0_0.rect t).emb (ix3 (0 : Fin 1) (⟨q, hq⟩ : Fin 512) (⟨l, hl⟩ : Fin 512))) ?_ ?_ ?_
  · rw [Window.rect_emb_val win0_0 t _ 0]
    show cc0_transform_0 (grid0.coords t) 0 * 1 + 0 = _
    rw [e]; show (grid0.coords t 0).val * 1 + 0 = _; omega
  · rw [Window.rect_emb_val win0_0 t _ 1]
    show cc0_transform_0 (grid0.coords t) 1 * 512 + q = _
    rw [e]; show (grid0.coords t 1).val * 512 + q = _; omega
  · rw [Window.rect_emb_val win0_0 t _ 2]
    show cc0_transform_0 (grid0.coords t) 2 * 512 + l = _
    rw [e]; show 0 * 512 + l = _; omega

theorem keys_cell (q l : ℕ) (hq : q < 1536) (hl : l < 512) :
    cell (A := 1) (B := 1536) (C := 512) (iblk m c 1 t) 0 q l
      = cell (scaled m c) (grid0.coords t 0).val (64 * haloStart (grid0.coords t 1).val + q) (512 + l) := by
  refine (cell_of (A := 1) (B := 1536) (C := 512) (iblk m c 1 t) (ix3 (0 : Fin 1) (⟨q, hq⟩ : Fin 1536) (⟨l, hl⟩ : Fin 512)) rfl rfl rfl).symm.trans ?_
  have e := keyMap (grid0.coords t)
  refine cell_of (scaled m c) ((win0_1.rect t).emb (ix3 (0 : Fin 1) (⟨q, hq⟩ : Fin 1536) (⟨l, hl⟩ : Fin 512))) ?_ ?_ ?_
  · rw [Window.rect_emb_val_off win0_1 t _ 0]
    show cc0_transform_1 (grid0.coords t) 0 + 0 = _
    rw [e]; rfl
  · rw [Window.rect_emb_val_off win0_1 t _ 1]
    show cc0_transform_1 (grid0.coords t) 1 + q = _
    rw [e]; rfl
  · rw [Window.rect_emb_val_off win0_1 t _ 2]
    show cc0_transform_1 (grid0.coords t) 2 + l = _
    rw [e]; rfl

theorem values_cell (q l : ℕ) (hq : q < 1536) (hl : l < 512) :
    cell (A := 1) (B := 1536) (C := 512) (iblk m c 2 t) 0 q l
      = cell (scaled m c) (grid0.coords t 0).val (64 * haloStart (grid0.coords t 1).val + q) (1024 + l) := by
  refine (cell_of (A := 1) (B := 1536) (C := 512) (iblk m c 2 t) (ix3 (0 : Fin 1) (⟨q, hq⟩ : Fin 1536) (⟨l, hl⟩ : Fin 512)) rfl rfl rfl).symm.trans ?_
  have e := valueMap (grid0.coords t)
  refine cell_of (scaled m c) ((win0_2.rect t).emb (ix3 (0 : Fin 1) (⟨q, hq⟩ : Fin 1536) (⟨l, hl⟩ : Fin 512))) ?_ ?_ ?_
  · rw [Window.rect_emb_val_off win0_2 t _ 0]
    show cc0_transform_2 (grid0.coords t) 0 + 0 = _
    rw [e]; rfl
  · rw [Window.rect_emb_val_off win0_2 t _ 1]
    show cc0_transform_2 (grid0.coords t) 1 + q = _
    rw [e]; rfl
  · rw [Window.rect_emb_val_off win0_2 t _ 2]
    show cc0_transform_2 (grid0.coords t) 2 + l = _
    rw [e]; rfl

theorem planes_cell (o q l : ℕ) (ho : o < 8) (hq : q < 512) (hl : l < 512) :
    cell (A := 8) (B := 512) (C := 512) (iblk m c 3 t) o q l = cell (table m c) o q l := by
  refine (cell_of (A := 8) (B := 512) (C := 512) (iblk m c 3 t) (ix3 (⟨o, ho⟩ : Fin 8) (⟨q, hq⟩ : Fin 512) (⟨l, hl⟩ : Fin 512)) rfl rfl rfl).symm.trans ?_
  refine cell_of (table m c) ((win0_3.rect t).emb (ix3 (⟨o, ho⟩ : Fin 8) (⟨q, hq⟩ : Fin 512) (⟨l, hl⟩ : Fin 512))) ?_ ?_ ?_
  · exact Window.rect_emb_val_of_index_zero win0_3 t 0 rfl _
  · exact Window.rect_emb_val_of_index_zero win0_3 t 1 rfl _
  · exact Window.rect_emb_val_of_index_zero win0_3 t 2 rfl _

end Cert.Attention

end
-- ==== Proof.Array.lean ====
/-
  The kernel's result: at every grid point the block is the neighbourhood attention of its queries, and the blocks cover
  the array.
-/
module

public import proofs.«01_k».proof.Proof.Spec
public import proofs.«01_k».proof.Proof.Tile
public import proofs.«01_k».proof.Proof.Blocks
public import proofs.«01_k».proof.Proof.Launch
public import Idealize.ShloMosaic.Lib.Pipeline.ValueKit

@[expose] public section

set_option maxRecDepth 16384

noncomputable section

namespace Cert.Attention

open Cert.KernelIdeal Cert.KernelIdeal.Gen
open Idealize.ShloMosaic Idealize.ShloMosaic.TcCoe Idealize.ShloMosaic.ValueIdx
open Idealize.ShloMosaic.Pipeline (Window Dat)
open scoped BigOperators

/-- A positive real factor leaves a sum. -/
theorem sum_factor {ι : Type} [Fintype ι] (f : ι → EReal) (r : ℝ) (hr : 0 ≤ r) : ∑ d, f d * (r : EReal) = (∑ d, f d) * (r : EReal) := by
  have h : ∀ S : Finset ι, ∑ d ∈ S, f d * (r : EReal) = (∑ d ∈ S, f d) * (r : EReal) := by
    intro S
    induction S using Finset.cons_induction with
    | empty => simp
    | cons a S ha ih =>
      rw [Finset.sum_cons, Finset.sum_cons, EReal.right_distrib_of_nonneg_of_ne_top (EReal.coe_nonneg.2 hr) (EReal.coe_ne_top _), ih]
  exact h _

variable (m : (ℓ : Loc nD τ sig) → Buf (Elt Ideal) ℓ) (c : Dev nD) (t : Fin cfg0.N)

theorem scaled_cell (b s l : ℕ) (hb : b < 8) (hs : s < 8192) (hl : l < 1536) :
    cell (scaled m c) b s l = cell (proj m c) b s l * laneScale l :=
  (cell_of (scaled m c) (ValueIdx.ix3 (⟨b, hb⟩ : Fin 8) (⟨s, hs⟩ : Fin 8192) (⟨l, hl⟩ : Fin 1536)) rfl rfl rfl).symm.trans
    (scaled_apply m c ⟨b, hb⟩ ⟨s, hs⟩ ⟨l, hl⟩)

theorem scaled_query (b s l : ℕ) (hb : b < 8) (hs : s < 8192) (hl : l < 512) :
    cell (scaled m c) b s l = cell (proj m c) b s l * ((1 / 8 : ℝ) : EReal) := by
  rw [scaled_cell m c b s l hb hs (by omega)]
  unfold laneScale
  rw [if_pos hl]

theorem scaled_other (b s l : ℕ) (hb : b < 8) (hs : s < 8192) (hl : 512 ≤ l) (hl' : l < 1536) :
    cell (scaled m c) b s l = cell (proj m c) b s l := by
  rw [scaled_cell m c b s l hb hs hl']
  unfold laneScale
  rw [if_neg (by omega), mul_one]

theorem table_cell (o h i j : ℕ) (ho : o < 8) (hh : h < 8) (hi : i < 64) (hj : j < 512) :
    cell (table m c) o (64 * h + i) j
      = if inWindow i (j % 64) then cell (bias m c) h (o + j / 64) (j % 64 + 15 - i) else ⊥ :=
  (cell_of (table m c) (ValueIdx.ix3 (⟨o, ho⟩ : Fin 8) (⟨64 * h + i, by omega⟩ : Fin 512) (⟨64 * (j / 64) + j % 64, by omega⟩ : Fin 512))
    rfl rfl (by show 64 * (j / 64) + j % 64 = j; omega)).symm.trans
    (table_apply m c ⟨o, ho⟩ ⟨h, hh⟩ ⟨j / 64, by omega⟩ ⟨i, hi⟩ ⟨j % 64, by omega⟩)

/-- The image row of row `a` of the point's tile. -/
abbrev rowAt (a : Fin 8) : ℕ := 8 * (grid0.coords t 1).val + a.val

theorem point_batch : (grid0.coords t 0).val < 8 := (grid0.coords t 0).isLt
theorem point_tile : (grid0.coords t 1).val < 16 := (grid0.coords t 1).isLt

/-- A score of the block is the score of the query it belongs to. -/
theorem blockScore_eq (a h : Fin 8) (i : Fin 64) (j : Fin 512) :
    blockScore (grid0.coords t) (iblk m c 0 t) (iblk m c 1 t) (iblk m c 3 t) a h i j
      = score (proj m c) (bias m c) (grid0.coords t 0).val (rowAt t a) i.val h.val j.val := by
  have hb := point_batch t
  have hn := point_tile t
  have ha := a.isLt
  have hh := h.isLt
  have hi := i.isLt
  have hj := j.isLt
  have hs : (∑ d : Fin 64, cell (A := 1) (B := 512) (C := 512) (iblk m c 0 t) 0 (64 * a.val + i.val) (64 * h.val + d.val)
        * cell (A := 1) (B := 1536) (C := 512) (iblk m c 1 t) 0 (winStart (grid0.coords t) a + j.val) (64 * h.val + d.val))
      = (∑ d : Fin 64, cell (proj m c) (grid0.coords t 0).val (64 * rowAt t a + i.val) (64 * h.val + d.val)
        * cell (proj m c) (grid0.coords t 0).val (64 * rowStart (rowAt t a) + j.val) (512 + 64 * h.val + d.val)) * ((1 / 8 : ℝ) : EReal) := by
    rw [← sum_factor _ _ (by norm_num)]
    refine Finset.sum_congr rfl fun d _ => ?_
    have hd := d.isLt
    have hw : winStart (grid0.coords t) a = 64 * (rowStart (rowAt t a) - haloStart (grid0.coords t 1).val) := winStart_eq _ a
    have hle : haloStart (grid0.coords t 1).val ≤ rowStart (rowAt t a) ∧ rowStart (rowAt t a) ≤ haloStart (grid0.coords t 1).val + 16 ∧ rowStart (rowAt t a) ≤ 120 := by
      unfold haloStart rowStart rowAt; omega
    rw [queries_cell m c t _ _ (by omega) (by omega), keys_cell m c t _ _ (by omega) (by omega),
      scaled_query m c _ _ _ hb (by omega) (by omega), scaled_other m c _ _ _ hb (by omega) (by omega) (by omega)]
    rw [show 512 * (grid0.coords t 1).val + (64 * a.val + i.val) = 64 * rowAt t a + i.val by unfold rowAt; omega,
      show 64 * haloStart (grid0.coords t 1).val + (winStart (grid0.coords t) a + j.val) = 64 * rowStart (rowAt t a) + j.val by omega,
      show 512 + (64 * h.val + d.val) = 512 + 64 * h.val + d.val by omega]
    exact mul_right_comm _ _ _
  have ht : cell (A := 8) (B := 512) (C := 512) (iblk m c 3 t) (biasRow (grid0.coords t) a) (64 * h.val + i.val) j.val
      = if inWindow i.val (j.val % 64) then cell (bias m c) h.val (rowStart (rowAt t a) + 7 - rowAt t a + j.val / 64) (j.val % 64 + 15 - i.val) else ⊥ := by
    have hr : biasRow (grid0.coords t) a = rowStart (rowAt t a) + 7 - rowAt t a := biasRow_eq _ a
    have hlt : rowStart (rowAt t a) + 7 - rowAt t a < 8 := by unfold rowStart rowAt; omega
    rw [hr, planes_cell m c t _ _ _ hlt (by omega) hj, table_cell m c _ _ _ _ hlt hh hi hj]
  unfold blockScore score
  refine (congrArg₂ (fun a b : EReal => a + b) hs ht).trans ?_
  dsimp only
  by_cases hw : inWindow i.val (j.val % 64)
  · rw [if_pos hw, if_pos hw]
  · rw [if_neg hw, if_neg hw, EReal.add_bot]

/-- A value of the block is the value of the key it belongs to. -/
theorem blockValue_eq (a h : Fin 8) (d : Fin 64) (j : Fin 512) :
    cell (A := 1) (B := 1536) (C := 512) (iblk m c 2 t) 0 (winStart (grid0.coords t) a + j.val) (64 * h.val + d.val)
      = valueOf (proj m c) (grid0.coords t 0).val (rowAt t a) h.val d.val j.val := by
  have hb := point_batch t
  have hn := point_tile t
  have ha := a.isLt
  have hh := h.isLt
  have hd := d.isLt
  have hj := j.isLt
  have hw : winStart (grid0.coords t) a = 64 * (rowStart (rowAt t a) - haloStart (grid0.coords t 1).val) := winStart_eq _ a
  have hle : haloStart (grid0.coords t 1).val ≤ rowStart (rowAt t a) ∧ rowStart (rowAt t a) ≤ haloStart (grid0.coords t 1).val + 16 ∧ rowStart (rowAt t a) ≤ 120 := by
    unfold haloStart rowStart rowAt; omega
  rw [values_cell m c t _ _ (by omega) (by omega), scaled_other m c _ _ _ hb (by omega) (by omega) (by omega)]
  unfold valueOf
  rw [show 64 * haloStart (grid0.coords t 1).val + (winStart (grid0.coords t) a + j.val) = 64 * rowStart (rowAt t a) + j.val by omega,
    show 1024 + (64 * h.val + d.val) = 1024 + 64 * h.val + d.val by omega]

/-- What the body leaves for one query, head and lane. -/
theorem blockOut_eq (H : Finite (proj m c) (bias m c)) (a h : Fin 8) (i d : Fin 64) :
    blockOut (grid0.coords t) (iblk m c 0 t) (iblk m c 1 t) (iblk m c 2 t) (iblk m c 3 t) a h i d
      = attended (proj m c) (bias m c) (grid0.coords t 0).val (rowAt t a) i.val h.val d.val := by
  unfold blockOut attended
  rw [funext (blockScore_eq m c t a h i), funext (blockValue_eq m c t a h d)]
  exact attendLate_eq _ _ (fun j => score_ne_top H _ _ _ _ _ h.isLt) (firstKey i.val) (score_firstKey H _ _ _ _ h.isLt)

/-- The array the launch leaves. -/
theorem out_array (H : Finite (proj m c) (bias m c)) :
    (dats m 0 c).arrAt 4 cfg0.N = attendedAll (proj m c) (bias m c) := by
  refine (dats m 0 c).arrAt_eq_of_covers 4 _ (by decide +kernel) fun t _ y => ?_
  have e := outMap (grid0.coords t)
  have h1 : (y 1).val < 512 := (y 1).isLt
  have h2 : (y 2).val < 512 := (y 2).isLt
  have h0 : (y 0).val < 1 := (y 0).isLt
  rw [after_out m c t, outBlock_eq]
  have e0 : ((win0_4.rect t).emb y 0).val = (grid0.coords t 0).val := by
    rw [Window.rect_emb_val win0_4 t _ 0]
    show cc0_transform_4 (grid0.coords t) 0 * 1 + (y 0).val = _
    rw [e]; show (grid0.coords t 0).val * 1 + (y 0).val = _; omega
  have e1 : ((win0_4.rect t).emb y 1).val = 512 * (grid0.coords t 1).val + (y 1).val := by
    rw [Window.rect_emb_val win0_4 t _ 1]
    show cc0_transform_4 (grid0.coords t) 1 * 512 + (y 1).val = _
    rw [e]; show (grid0.coords t 1).val * 512 + (y 1).val = _; omega
  have e2 : ((win0_4.rect t).emb y 2).val = (y 2).val := by
    rw [Window.rect_emb_val win0_4 t _ 2]
    show cc0_transform_4 (grid0.coords t) 2 * 512 + (y 2).val = _
    rw [e]; show 0 * 512 + (y 2).val = _; omega
  show blockOut (grid0.coords t) (iblk m c 0 t) (iblk m c 1 t) (iblk m c 2 t) (iblk m c 3 t) ⟨(y 1).val / 64, by omega⟩ ⟨(y 2).val / 64, by omega⟩
      ⟨(y 1).val % 64, by omega⟩ ⟨(y 2).val % 64, by omega⟩
    = attended (proj m c) (bias m c) ((win0_4.rect t).emb y 0).val (((win0_4.rect t).emb y 1).val / 64) (((win0_4.rect t).emb y 1).val % 64)
        (((win0_4.rect t).emb y 2).val / 64) (((win0_4.rect t).emb y 2).val % 64)
  rw [blockOut_eq m c t H, e0, e1, e2]
  rw [show (512 * (grid0.coords t 1).val + (y 1).val) / 64 = 8 * (grid0.coords t 1).val + (y 1).val / 64 by omega,
    show (512 * (grid0.coords t 1).val + (y 1).val) % 64 = (y 1).val % 64 by omega]

end Cert.Attention

end
-- ==== Proof.RefIndex.lean ====
/-
  The reference's index tables, in numbers: which rows and columns of keys a query is gathered with, which of them lie in
  its window, and the bias entry of each.
-/
module

public import proofs.«01_k».proof.Proof.Gen.ReferenceIdeal.Read
public import proofs.«01_k».proof.Proof.Tables

@[expose] public section

set_option maxRecDepth 16384

noncomputable section

namespace Cert.Attention

open Cert.ReferenceIdeal Cert.ReferenceIdeal.Gen Cert.ReferenceIdeal.Read
open Idealize.ShloMosaic Idealize.ShloMosaic.ValueIdx

/-- The first column of the band of 32 columns a block of 16 queries is gathered with. -/
def bandStart (n : ℕ) : ℕ := min (16 * n - 8) 32

/-- The key row of window row `k`, as the keys and as the values are gathered. -/
theorem row_word : ∀ (r : Fin 128) (k : Fin 8), val_main_v70 (F := Ideal) (ValueIdx.ix4 r k (0 : Fin 1) (0 : Fin 1)) = BitVec.ofNat 32 (rowStart r.val + k.val) := by
  decide +kernel
theorem row_word' : ∀ (r : Fin 128) (k : Fin 8), val_main_v88 (F := Ideal) (ValueIdx.ix4 r k (0 : Fin 1) (0 : Fin 1)) = BitVec.ofNat 32 (rowStart r.val + k.val) := by
  decide +kernel

/-- The key column of band column `j`, likewise. -/
theorem column_word : ∀ (n : Fin 4) (j : Fin 32), val_main_v75 (F := Ideal) (ValueIdx.ix4 (0 : Fin 1) (0 : Fin 1) n j) = BitVec.ofNat 32 (bandStart n.val + j.val) := by
  decide +kernel
theorem column_word' : ∀ (n : Fin 4) (j : Fin 32), val_main_v93 (F := Ideal) (ValueIdx.ix4 (0 : Fin 1) (0 : Fin 1) n j) = BitVec.ofNat 32 (bandStart n.val + j.val) := by
  decide +kernel

/-- Whether a band column lies in the query's window. -/
theorem valid_word : ∀ (n : Fin 4) (i : Fin 16) (j : Fin 32), val_main_v34 (F := Ideal) (ValueIdx.ix3 n i j)
    = if inWindow (16 * n.val + i.val) (bandStart n.val + j.val) then 1#1 else 0#1 := by
  decide +kernel

/-- The bias row of window row `k`. -/
theorem biasRow_word : ∀ (r : Fin 128) (k : Fin 8), val_main_v106 (F := Ideal) (ValueIdx.ix5 r (0 : Fin 1) (0 : Fin 1) k (0 : Fin 1))
    = BitVec.ofNat 32 (rowStart r.val + 7 - r.val + k.val) := by
  decide +kernel

/-- The bias column of a band column in the query's window. -/
theorem biasColumn_word : ∀ (n : Fin 4) (i : Fin 16) (j : Fin 32), inWindow (16 * n.val + i.val) (bandStart n.val + j.val) →
    val_main_v111 (F := Ideal) (ValueIdx.ix5 (0 : Fin 1) n i (0 : Fin 1) j) = BitVec.ofNat 32 (bandStart n.val + j.val + 15 - (16 * n.val + i.val)) := by
  decide +kernel

end Cert.Attention

end
-- ==== Proof.Rank7.lean ====
/-
  Arrays of rank seven: an index from its coordinates, and its row-major position.
-/
module

public import Idealize.ShloMosaic.Lib.ValueIdx
public import Idealize.ShloMosaic.Lib.ValueIdxRank6

@[expose] public section

namespace Cert.Attention

open Idealize.ShloMosaic

/-- An index of rank seven. -/
abbrev seven {n0 n1 n2 n3 n4 n5 n6 : ℕ} (a : Fin n0) (b : Fin n1) (c : Fin n2) (d : Fin n3) (e : Fin n4) (f : Fin n5) (g : Fin n6) :
    (⟨7, ![n0, n1, n2, n3, n4, n5, n6]⟩ : Shape).Idx := fun x => match x with
  | ⟨0, _⟩ => a
  | ⟨1, _⟩ => b
  | ⟨2, _⟩ => c
  | ⟨3, _⟩ => d
  | ⟨4, _⟩ => e
  | ⟨5, _⟩ => f
  | ⟨6, _⟩ => g

/-- Its row-major position. -/
theorem position_seven {d : Fin 7 → ℕ} (i : (⟨7, d⟩ : Shape).Idx) : ((⟨7, d⟩ : Shape).rowMajor i).val
    = ((((((i 0).val * d 1 + (i 1).val) * d 2 + (i 2).val) * d 3 + (i 3).val) * d 4 + (i 4).val) * d 5 + (i 5).val) * d 6 + (i 6).val := by
  have hn : (⟨6, fun a => d a.succ⟩ : Shape).numel = d 1 * (d 2 * (d 3 * (d 4 * (d 5 * d 6)))) := by
    simp [Shape.numel, Fin.prod_univ_succ]
  rw [Shape.rowMajor_val_succ, Shape.rowMajor_val_six, hn]
  simp [Nat.add_mul, Nat.mul_assoc, Nat.add_assoc]

end Cert.Attention
-- ==== Proof.RefGather.lean ====
/-
  The reference's gathers, read at an index.
-/
module

public import proofs.«01_k».proof.Proof.RefIndex
public import proofs.«01_k».proof.Proof.Rank7
public import proofs.«01_k».proof.Proof.Cells

@[expose] public section

set_option maxRecDepth 16384

noncomputable section

namespace Cert.Attention

open Cert.ReferenceIdeal Cert.ReferenceIdeal.Gen Cert.ReferenceIdeal.Read
open Idealize.ShloMosaic

/-- A small number read back from its word. -/
theorem word_value (R : ℕ) (h : R < 2 ^ 31) : (BitVec.ofNat 32 R).toInt.toNat = R := by
  rw [BitVec.toInt_eq_toNat_of_lt (by rw [BitVec.toNat_ofNat, Nat.mod_eq_of_lt (by omega)]; omega), BitVec.toNat_ofNat, Nat.mod_eq_of_lt (by omega)]
  rfl

/-- The dimension numbers of the two gathers. -/
abbrev rowsDims := gather_S8x128x64x8x64_S128x8x4x32x2_S8x128x8x4x32x8x64_056_12_n_n_12_4_811864
abbrev biasDims := gather_S8x15x31_S128x4x16x8x32x2_S8x128x4x16x8x32_0_12_n_n_12_5_811

/-- Rows and columns gathered by a table of their numbers. -/
theorem rows_gather (y : S8x128x64x8x64.Idx → EReal) (s : IVec S128x8x4x32x2 32) (b : Fin 8) (r : Fin 128) (k : Fin 8) (n : Fin 4) (j : Fin 32)
    (h : Fin 8) (d : Fin 64) (R : Fin 128) (C : Fin 64) (h0 : s (ValueIdx.ix5 r k n j (0 : Fin 2)) = BitVec.ofNat 32 R.val)
    (h1 : s (ValueIdx.ix5 r k n j (1 : Fin 2)) = BitVec.ofNat 32 C.val) :
    Host.gather rowsDims y s (seven b r k n j h d) = y (ValueIdx.ix5 b R C h d) := by
  have hR := R.isLt
  have hC := C.isLt
  have e0 : s (GatherDims.siIdx rowsDims (seven b r k n j h d) ⟨0, by decide⟩) = s (ValueIdx.ix5 r k n j (0 : Fin 2)) :=
    congrArg s (funext fun a => Fin.ext (by match a with | ⟨0, _⟩ => rfl | ⟨1, _⟩ => rfl | ⟨2, _⟩ => rfl | ⟨3, _⟩ => rfl | ⟨4, _⟩ => rfl))
  have e1 : s (GatherDims.siIdx rowsDims (seven b r k n j h d) ⟨1, by decide⟩) = s (ValueIdx.ix5 r k n j (1 : Fin 2)) :=
    congrArg s (funext fun a => Fin.ext (by match a with | ⟨0, _⟩ => rfl | ⟨1, _⟩ => rfl | ⟨2, _⟩ => rfl | ⟨3, _⟩ => rfl | ⟨4, _⟩ => rfl))
  unfold Host.gather
  refine congrArg y (funext fun a => Fin.ext ?_)
  show GatherDims.start rowsDims _ s a + GatherDims.batchCoord rowsDims _ a + GatherDims.offCoord rowsDims _ a = _
  rw [GatherDims.batchCoord_eq_zero _ _ _ List.not_mem_nil]
  match a with
  | 0 =>
    unfold GatherDims.start
    rw [dif_neg (by decide)]
    simp only [Nat.zero_add]
    rfl
  | 1 =>
    rw [GatherDims.offCoord_eq_zero _ _ _ (fun h => ((GatherDims.mem_sKept _ _).mp h).1 (by decide))]
    unfold GatherDims.start
    rw [dif_pos (by decide)]
    show min (s (GatherDims.siIdx rowsDims (seven b r k n j h d) ⟨0, _⟩)).toInt.toNat 127 + 0 + 0 = R.val
    rw [e0, h0, word_value _ (by omega)]
    omega
  | 2 =>
    rw [GatherDims.offCoord_eq_zero _ _ _ (fun h => ((GatherDims.mem_sKept _ _).mp h).1 (by decide))]
    unfold GatherDims.start
    rw [dif_pos (by decide)]
    show min (s (GatherDims.siIdx rowsDims (seven b r k n j h d) ⟨1, _⟩)).toInt.toNat 63 + 0 + 0 = C.val
    rw [e1, h1, word_value _ (by omega)]
    omega
  | 3 =>
    unfold GatherDims.start
    rw [dif_neg (by decide)]
    simp only [Nat.zero_add]
    rfl
  | 4 =>
    unfold GatherDims.start
    rw [dif_neg (by decide)]
    simp only [Nat.zero_add]
    rfl

/-- Bias entries gathered by a table of their rows and columns. -/
theorem bias_gather (y : S8x15x31.Idx → EReal) (s : IVec S128x4x16x8x32x2 32) (h : Fin 8) (r : Fin 128) (n : Fin 4) (i : Fin 16) (k : Fin 8) (j : Fin 32)
    (R C : ℕ) (hR : R < 15) (hC : C < 31) (h0 : s (ValueIdx.ix6 r n i k j (0 : Fin 2)) = BitVec.ofNat 32 R)
    (h1 : s (ValueIdx.ix6 r n i k j (1 : Fin 2)) = BitVec.ofNat 32 C) :
    Host.gather biasDims y s (ValueIdx.ix6 h r n i k j) = cell y h.val R C := by
  have e0 : s (GatherDims.siIdx biasDims (ValueIdx.ix6 h r n i k j) ⟨0, by decide⟩) = s (ValueIdx.ix6 r n i k j (0 : Fin 2)) :=
    congrArg s (funext fun a => Fin.ext (by match a with | ⟨0, _⟩ => rfl | ⟨1, _⟩ => rfl | ⟨2, _⟩ => rfl | ⟨3, _⟩ => rfl | ⟨4, _⟩ => rfl | ⟨5, _⟩ => rfl))
  have e1 : s (GatherDims.siIdx biasDims (ValueIdx.ix6 h r n i k j) ⟨1, by decide⟩) = s (ValueIdx.ix6 r n i k j (1 : Fin 2)) :=
    congrArg s (funext fun a => Fin.ext (by match a with | ⟨0, _⟩ => rfl | ⟨1, _⟩ => rfl | ⟨2, _⟩ => rfl | ⟨3, _⟩ => rfl | ⟨4, _⟩ => rfl | ⟨5, _⟩ => rfl))
  unfold Host.gather
  refine cell_of y _ ?_ ?_ ?_
  · show GatherDims.start biasDims _ s 0 + GatherDims.batchCoord biasDims _ 0 + GatherDims.offCoord biasDims _ 0 = _
    rw [GatherDims.batchCoord_eq_zero _ _ _ List.not_mem_nil]
    unfold GatherDims.start
    rw [dif_neg (by decide)]
    simp only [Nat.zero_add]
    rfl
  · show GatherDims.start biasDims _ s 1 + GatherDims.batchCoord biasDims _ 1 + GatherDims.offCoord biasDims _ 1 = _
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    show min (s (GatherDims.siIdx biasDims (ValueIdx.ix6 h r n i k j) ⟨0, _⟩)).toInt.toNat 14 + 0 + 0 = R
    rw [e0, h0, word_value _ (by omega)]
    omega
  · show GatherDims.start biasDims _ s 2 + GatherDims.batchCoord biasDims _ 2 + GatherDims.offCoord biasDims _ 2 = _
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    show min (s (GatherDims.siIdx biasDims (ValueIdx.ix6 h r n i k j) ⟨1, _⟩)).toInt.toNat 30 + 0 + 0 = C
    rw [e1, h1, word_value _ (by omega)]
    omega

end Cert.Attention

end
-- ==== Proof.RefScore.lean ====
/-
  The reference's scores and values, in numbers.
-/
module

public import proofs.«01_k».proof.Proof.RefGather
public import proofs.«01_k».proof.Proof.Spec

@[expose] public section

set_option maxRecDepth 16384

noncomputable section

namespace Cert.Attention

open Cert.ReferenceIdeal Cert.ReferenceIdeal.Gen Cert.ReferenceIdeal.Read
open Idealize.ShloMosaic
open scoped BigOperators

variable (x : S8x8192x1536.Idx → EReal) (p : S8x15x31.Idx → EReal)

/-! ## The three lane groups, split into rows, columns and heads -/

theorem ref_q (b : Fin 8) (R : Fin 128) (C : Fin 64) (h : Fin 8) (d : Fin 64) :
    val_main_v45 (F := Ideal) x (ValueIdx.ix5 b R C h d) = cell x b.val (64 * R.val + C.val) (64 * h.val + d.val) := by
  rw [val_main_v45_apply, val_main_v42_apply]
  refine cell_of x _ ?_ ?_ ?_
  · show ((((b.val * 128 + R.val) * 64 + C.val) * 8 + h.val) * 64 + d.val) / 4194304 = b.val; omega
  · show ((((b.val * 128 + R.val) * 64 + C.val) * 8 + h.val) * 64 + d.val) / 512 % 8192 = 64 * R.val + C.val; omega
  · show ((((b.val * 128 + R.val) * 64 + C.val) * 8 + h.val) * 64 + d.val) % 512 = 64 * h.val + d.val; omega

theorem ref_k (b : Fin 8) (R : Fin 128) (C : Fin 64) (h : Fin 8) (d : Fin 64) :
    val_main_v46 (F := Ideal) x (ValueIdx.ix5 b R C h d) = cell x b.val (64 * R.val + C.val) (512 + 64 * h.val + d.val) := by
  rw [val_main_v46_apply, val_main_v43_apply]
  refine cell_of x _ ?_ ?_ ?_
  · show ((((b.val * 128 + R.val) * 64 + C.val) * 8 + h.val) * 64 + d.val) / 4194304 = b.val; omega
  · show ((((b.val * 128 + R.val) * 64 + C.val) * 8 + h.val) * 64 + d.val) / 512 % 8192 = 64 * R.val + C.val; omega
  · show 512 + ((((b.val * 128 + R.val) * 64 + C.val) * 8 + h.val) * 64 + d.val) % 512 = 512 + 64 * h.val + d.val; omega

theorem ref_v (b : Fin 8) (R : Fin 128) (C : Fin 64) (h : Fin 8) (d : Fin 64) :
    val_main_v47 (F := Ideal) x (ValueIdx.ix5 b R C h d) = cell x b.val (64 * R.val + C.val) (1024 + 64 * h.val + d.val) := by
  rw [val_main_v47_apply, val_main_v44_apply]
  refine cell_of x _ ?_ ?_ ?_
  · show ((((b.val * 128 + R.val) * 64 + C.val) * 8 + h.val) * 64 + d.val) / 4194304 = b.val; omega
  · show ((((b.val * 128 + R.val) * 64 + C.val) * 8 + h.val) * 64 + d.val) / 512 % 8192 = 64 * R.val + C.val; omega
  · show 1024 + ((((b.val * 128 + R.val) * 64 + C.val) * 8 + h.val) * 64 + d.val) % 512 = 1024 + 64 * h.val + d.val; omega

/-- The queries, in blocks of sixteen columns. -/
theorem ref_query (b : Fin 8) (r : Fin 128) (n : Fin 4) (i : Fin 16) (h : Fin 8) (d : Fin 64) :
    val_main_v48 (F := Ideal) x (ValueIdx.ix6 b r n i h d) = cell x b.val (64 * r.val + (16 * n.val + i.val)) (64 * h.val + d.val) := by
  unfold val_main_v48
  refine (shapeCast_apply _ _ _ (ValueIdx.ix5 b r (⟨16 * n.val + i.val, by omega⟩ : Fin 64) h d) ?_).trans (ref_q x _ _ _ _ _)
  rw [Shape.rowMajor_val_five, Shape.rowMajor_val_six]
  show (((b.val * 128 + r.val) * 64 + (16 * n.val + i.val)) * 8 + h.val) * 64 + d.val
    = ((((b.val * 128 + r.val) * 4 + n.val) * 16 + i.val) * 8 + h.val) * 64 + d.val
  omega

/-! ## The gathered keys, values and biases -/

/-- The index a row or column table is read at. -/
theorem key_rows (r : Fin 128) (k : Fin 8) (n : Fin 4) (j : Fin 32) :
    val_main_v80 (F := Ideal) (ValueIdx.ix5 r k n j (0 : Fin 2)) = BitVec.ofNat 32 (rowStart r.val + k.val) := by
  unfold val_main_v80
  refine (concatenate_pair_apply_left (t := S128x8x4x32x2) (s₁ := S128x8x4x32x1) (s₂ := S128x8x4x32x1) _ _ _ _ _ rfl (ValueIdx.ix5 r k n j (0 : Fin 1)) fun a => ?_).trans ?_
  · match a with | 0 => rfl | 1 => rfl | 2 => rfl | 3 => rfl | 4 => rfl
  rw [val_main_v78_apply, val_main_v76_apply]
  refine Eq.trans (congrArg (val_main_v70 (F := Ideal)) (funext fun a => ?_)) (row_word r k)
  match a with | 0 => rfl | 1 => rfl | 2 => rfl | 3 => rfl

theorem key_columns (r : Fin 128) (k : Fin 8) (n : Fin 4) (j : Fin 32) :
    val_main_v80 (F := Ideal) (ValueIdx.ix5 r k n j (1 : Fin 2)) = BitVec.ofNat 32 (bandStart n.val + j.val) := by
  unfold val_main_v80
  refine (concatenate_pair_apply_right (t := S128x8x4x32x2) (s₁ := S128x8x4x32x1) (s₂ := S128x8x4x32x1) _ _ _ _ _ rfl rfl (ValueIdx.ix5 r k n j (0 : Fin 1)) (fun a ha => ?_) ?_).trans ?_
  · match a with | 0 => rfl | 1 => rfl | 2 => rfl | 3 => rfl | 4 => exact absurd rfl ha
  · rfl
  rw [val_main_v79_apply, val_main_v77_apply]
  refine Eq.trans (congrArg (val_main_v75 (F := Ideal)) (funext fun a => ?_)) (column_word n j)
  match a with | 0 => rfl | 1 => rfl | 2 => rfl | 3 => rfl

theorem value_rows (r : Fin 128) (k : Fin 8) (n : Fin 4) (j : Fin 32) :
    val_main_v98 (F := Ideal) (ValueIdx.ix5 r k n j (0 : Fin 2)) = BitVec.ofNat 32 (rowStart r.val + k.val) := by
  unfold val_main_v98
  refine (concatenate_pair_apply_left (t := S128x8x4x32x2) (s₁ := S128x8x4x32x1) (s₂ := S128x8x4x32x1) _ _ _ _ _ rfl (ValueIdx.ix5 r k n j (0 : Fin 1)) fun a => ?_).trans ?_
  · match a with | 0 => rfl | 1 => rfl | 2 => rfl | 3 => rfl | 4 => rfl
  rw [val_main_v96_apply, val_main_v94_apply]
  refine Eq.trans (congrArg (val_main_v88 (F := Ideal)) (funext fun a => ?_)) (row_word' r k)
  match a with | 0 => rfl | 1 => rfl | 2 => rfl | 3 => rfl

theorem value_columns (r : Fin 128) (k : Fin 8) (n : Fin 4) (j : Fin 32) :
    val_main_v98 (F := Ideal) (ValueIdx.ix5 r k n j (1 : Fin 2)) = BitVec.ofNat 32 (bandStart n.val + j.val) := by
  unfold val_main_v98
  refine (concatenate_pair_apply_right (t := S128x8x4x32x2) (s₁ := S128x8x4x32x1) (s₂ := S128x8x4x32x1) _ _ _ _ _ rfl rfl (ValueIdx.ix5 r k n j (0 : Fin 1)) (fun a ha => ?_) ?_).trans ?_
  · match a with | 0 => rfl | 1 => rfl | 2 => rfl | 3 => rfl | 4 => exact absurd rfl ha
  · rfl
  rw [val_main_v97_apply, val_main_v95_apply]
  refine Eq.trans (congrArg (val_main_v93 (F := Ideal)) (funext fun a => ?_)) (column_word' n j)
  match a with | 0 => rfl | 1 => rfl | 2 => rfl | 3 => rfl

theorem bias_rows (r : Fin 128) (n : Fin 4) (i : Fin 16) (k : Fin 8) (j : Fin 32) :
    val_main_v116 (F := Ideal) (ValueIdx.ix6 r n i k j (0 : Fin 2)) = BitVec.ofNat 32 (rowStart r.val + 7 - r.val + k.val) := by
  unfold val_main_v116
  refine (concatenate_pair_apply_left (t := S128x4x16x8x32x2) (s₁ := S128x4x16x8x32x1) (s₂ := S128x4x16x8x32x1) _ _ _ _ _ rfl (ValueIdx.ix6 r n i k j (0 : Fin 1)) fun a => ?_).trans ?_
  · match a with | 0 => rfl | 1 => rfl | 2 => rfl | 3 => rfl | 4 => rfl | 5 => rfl
  rw [val_main_v114_apply, val_main_v112_apply]
  refine Eq.trans (congrArg (val_main_v106 (F := Ideal)) (funext fun a => ?_)) (biasRow_word r k)
  match a with | 0 => rfl | 1 => rfl | 2 => rfl | 3 => rfl | 4 => rfl

theorem bias_columns (r : Fin 128) (n : Fin 4) (i : Fin 16) (k : Fin 8) (j : Fin 32) (hw : inWindow (16 * n.val + i.val) (bandStart n.val + j.val)) :
    val_main_v116 (F := Ideal) (ValueIdx.ix6 r n i k j (1 : Fin 2)) = BitVec.ofNat 32 (bandStart n.val + j.val + 15 - (16 * n.val + i.val)) := by
  unfold val_main_v116
  refine (concatenate_pair_apply_right (t := S128x4x16x8x32x2) (s₁ := S128x4x16x8x32x1) (s₂ := S128x4x16x8x32x1) _ _ _ _ _ rfl rfl (ValueIdx.ix6 r n i k j (0 : Fin 1)) (fun a ha => ?_) ?_).trans ?_
  · match a with | 0 => rfl | 1 => rfl | 2 => rfl | 3 => rfl | 4 => rfl | 5 => exact absurd rfl ha
  · rfl
  rw [val_main_v115_apply, val_main_v113_apply]
  refine Eq.trans (congrArg (val_main_v111 (F := Ideal)) (funext fun a => ?_)) (biasColumn_word n i j hw)
  match a with | 0 => rfl | 1 => rfl | 2 => rfl | 3 => rfl | 4 => rfl

theorem ref_key (b : Fin 8) (r : Fin 128) (k : Fin 8) (n : Fin 4) (j : Fin 32) (h : Fin 8) (d : Fin 64) :
    val_main_v81 (F := Ideal) x (seven b r k n j h d)
      = cell x b.val (64 * (rowStart r.val + k.val) + (bandStart n.val + j.val)) (512 + 64 * h.val + d.val) := by
  unfold val_main_v81
  exact (rows_gather _ _ b r k n j h d ⟨rowStart r.val + k.val, by unfold rowStart; omega⟩ ⟨bandStart n.val + j.val, by unfold bandStart; omega⟩
    (key_rows r k n j) (key_columns r k n j)).trans (ref_k x _ _ _ _ _)

theorem ref_value (b : Fin 8) (r : Fin 128) (k : Fin 8) (n : Fin 4) (j : Fin 32) (h : Fin 8) (d : Fin 64) :
    val_main_v99 (F := Ideal) x (seven b r k n j h d)
      = cell x b.val (64 * (rowStart r.val + k.val) + (bandStart n.val + j.val)) (1024 + 64 * h.val + d.val) := by
  unfold val_main_v99
  exact (rows_gather _ _ b r k n j h d ⟨rowStart r.val + k.val, by unfold rowStart; omega⟩ ⟨bandStart n.val + j.val, by unfold bandStart; omega⟩
    (value_rows r k n j) (value_columns r k n j)).trans (ref_v x _ _ _ _ _)

theorem ref_bias (h : Fin 8) (r : Fin 128) (n : Fin 4) (i : Fin 16) (k : Fin 8) (j : Fin 32) (hw : inWindow (16 * n.val + i.val) (bandStart n.val + j.val)) :
    val_main_v117 (F := Ideal) p (ValueIdx.ix6 h r n i k j)
      = cell p h.val (rowStart r.val + 7 - r.val + k.val) (bandStart n.val + j.val + 15 - (16 * n.val + i.val)) := by
  unfold val_main_v117
  refine bias_gather p _ h r n i k j _ _ ?_ ?_ (bias_rows r n i k j) (bias_columns r n i k j hw)
  · unfold rowStart; omega
  · unfold inWindow colStart at hw; omega

/-! ## The scores -/

/-- The number of a window's key, among the 512 of its rows. -/
def keyOf (n k j : ℕ) : ℕ := 64 * k + (bandStart n + j)

/-- A score of the reference. -/
theorem ref_score (b h : Fin 8) (r : Fin 128) (n : Fin 4) (i : Fin 16) (k : Fin 8) (j : Fin 32) :
    val_main_v125 (F := Ideal) x p (seven b h r n i k j)
      = score x p b.val r.val (16 * n.val + i.val) h.val (keyOf n.val k.val j.val) := by
  have hb : bandStart n.val + j.val < 64 := by unfold bandStart; omega
  have hmod : keyOf n.val k.val j.val % 64 = bandStart n.val + j.val := by unfold keyOf; omega
  have hdiv : keyOf n.val k.val j.val / 64 = k.val := by unfold keyOf; omega
  have hsel : val_main_call4_v1 (F := Ideal) (seven b h r n i k j)
      = if inWindow (16 * n.val + i.val) (bandStart n.val + j.val) then 1#1 else 0#1 := by
    rw [val_main_call4_v1_apply, val_main_v121_apply]
    refine Eq.trans (congrArg (val_main_v34 (F := Ideal)) (funext fun a => ?_)) (valid_word n i j)
    match a with | 0 => rfl | 1 => rfl | 2 => rfl
  unfold score
  rw [val_main_v125_apply, hsel, hmod, hdiv]
  by_cases hw : inWindow (16 * n.val + i.val) (bandStart n.val + j.val)
  · rw [if_pos hw, if_pos hw, ValueIdx.select_one, val_main_v124_apply, val_main_v120_apply, val_main_v118_apply, val_main_v119_apply, val_main_cst_apply]
    refine congrArg₂ (fun a b : EReal => a + b) (congrArg₂ (fun a b : EReal => a * b) (Finset.sum_congr rfl fun d _ => congrArg₂ (fun a b : EReal => a * b) ?_ ?_) ?_) ?_
    · refine Eq.trans (congrArg (val_main_v48 (F := Ideal) x) (funext fun a => ?_)) (ref_query x b r n i h d)
      match a with | 0 => rfl | 1 => rfl | 2 => rfl | 3 => rfl | 4 => rfl | 5 => rfl
    · refine Eq.trans (congrArg (val_main_v81 (F := Ideal) x) (funext fun a => ?_)) ((ref_key x b r k n j h d).trans (congrArg (fun s => cell x _ s _) ?_))
      · match a with | 0 => rfl | 1 => rfl | 2 => rfl | 3 => rfl | 4 => rfl | 5 => rfl | 6 => rfl
      · unfold keyOf; omega
    · show Ideal.ofBits .f32 0x3E000000#32 = _
      simp [Ideal.ofBits, Ideal.ieee]
      rw [← EReal.coe_mul]
      norm_num
    · rw [val_main_v123_apply, val_main_v122_apply]
      refine Eq.trans (congrArg (val_main_v117 (F := Ideal) p) (funext fun a => ?_)) (ref_bias p h r n i k j hw)
      match a with | 0 => rfl | 1 => rfl | 2 => rfl | 3 => rfl | 4 => rfl | 5 => rfl
  · rw [if_neg hw, if_neg hw, ValueIdx.select_zero, val_main_call4_v2_apply]
    show Ideal.ofBits .f32 0xFF800000#32 = ⊥
    simp [Ideal.ofBits, Ideal.ieee]

end Cert.Attention

end
-- ==== Proof.RefDot.lean ====
/-
  The reference's last product, read at an index: a sum over the columns and the rows of a window.
-/
module

public import proofs.«01_k».proof.Proof.Gen.ReferenceIdeal.Read
public import proofs.«01_k».proof.Proof.Rank7
public import Idealize.ShloMosaic.Lib.TwoAxisContraction

@[expose] public section

set_option maxRecDepth 16384

noncomputable section

namespace Cert.Attention

open Cert.ReferenceIdeal Cert.ReferenceIdeal.Gen
open Idealize.ShloMosaic
open scoped BigOperators

/-- The dimension numbers of the product. -/
abbrev weighDims := dot_S8x128x8x4x32x8x64_S8x8x128x4x16x8x32_S8x128x4x8x64x16_42_65_6_4_0135_0231

/-- The pair of a column and a row the product sums over. -/
abbrev weighAt (a : Fin 32) (k : Fin 8) : weighDims.contr.Idx := (ValueIdx.contrEquiv2 weighDims 32 8 rfl rfl rfl).symm (a, k)

theorem weigh_left (b : Fin 8) (r : Fin 128) (n : Fin 4) (h : Fin 8) (d : Fin 64) (i : Fin 16) (a : Fin 32) (k : Fin 8) :
    weighDims.lhsIdx (ValueIdx.ix6 b r n h d i) (weighAt a k) = seven b r k n a h d := by
  funext e
  refine Fin.ext ?_
  unfold DotDims.lhsIdx
  match e with
  | 0 => rw [dif_pos (by decide)]; rfl
  | 1 => rw [dif_pos (by decide)]; rfl
  | 2 =>
    rw [dif_neg (by decide), dif_neg (by decide)]
    exact ValueIdx.contrEquiv2_symm_val1 weighDims 32 8 rfl rfl rfl (a, k)
  | 3 => rw [dif_pos (by decide)]; rfl
  | 4 =>
    rw [dif_neg (by decide), dif_neg (by decide)]
    exact ValueIdx.contrEquiv2_symm_val0 weighDims 32 8 rfl rfl rfl (a, k)
  | 5 => rw [dif_pos (by decide)]; rfl
  | 6 => rw [dif_neg (by decide), dif_pos (by decide)]; rfl

theorem weigh_right (b : Fin 8) (r : Fin 128) (n : Fin 4) (h : Fin 8) (d : Fin 64) (i : Fin 16) (a : Fin 32) (k : Fin 8) :
    weighDims.rhsIdx (ValueIdx.ix6 b r n h d i) (weighAt a k) = seven b h r n i k a := by
  funext e
  refine Fin.ext ?_
  unfold DotDims.rhsIdx
  match e with
  | 0 => rw [dif_pos (by decide)]; rfl
  | 1 => rw [dif_pos (by decide)]; rfl
  | 2 => rw [dif_pos (by decide)]; rfl
  | 3 => rw [dif_pos (by decide)]; rfl
  | 4 => rw [dif_neg (by decide), dif_pos (by decide)]; rfl
  | 5 =>
    rw [dif_neg (by decide), dif_neg (by decide)]
    exact ValueIdx.contrEquiv2_symm_val1 weighDims 32 8 rfl rfl rfl (a, k)
  | 6 =>
    rw [dif_neg (by decide), dif_neg (by decide)]
    exact ValueIdx.contrEquiv2_symm_val0 weighDims 32 8 rfl rfl rfl (a, k)

/-- The product at an index. -/
theorem weigh_apply (y : FVec Ideal S8x128x8x4x32x8x64 .f32) (z : FVec Ideal S8x8x128x4x16x8x32 .f32) (b : Fin 8) (r : Fin 128) (n : Fin 4)
    (h : Fin 8) (d : Fin 64) (i : Fin 16) :
    (Host.dotGeneral weighDims none y z : FVec Ideal S8x128x4x8x64x16 .f32) (ValueIdx.ix6 b r n h d i)
      = ∑ a : Fin 32, ∑ k : Fin 8, (y (seven b r k n a h d) : EReal) * z (seven b h r n i k a) := by
  simp only [Host.dotGeneral]
  rw [Ideal.dotGeneral_apply, ValueIdx.sum_contr2 weighDims 32 8 rfl rfl rfl]
  refine Finset.sum_congr rfl fun a _ => Finset.sum_congr rfl fun k _ => ?_
  exact congrArg₂ (fun a b : EReal => a * b) (congrArg y (weigh_left b r n h d i a k)) (congrArg z (weigh_right b r n h d i a k))

end Cert.Attention

end
-- ==== Proof.RefValue.lean ====
/-
  The reference's result, in numbers: the softmax over the gathered keys, which are all the keys of the query's window
  and some that its mask discards.
-/
module

public import proofs.«01_k».proof.Proof.RefScore
public import proofs.«01_k».proof.Proof.RefDot

@[expose] public section

set_option maxRecDepth 16384

noncomputable section

namespace Cert.Attention

open Cert.ReferenceIdeal Cert.ReferenceIdeal.Gen Cert.ReferenceIdeal.Read
open Idealize.ShloMosaic
open scoped BigOperators

variable (x : S8x8192x1536.Idx → EReal) (p : S8x15x31.Idx → EReal)
variable (b h : Fin 8) (r : Fin 128) (n : Fin 4) (i : Fin 16)

/-- Gathered key `K` of 256 (window row `K / 32`, band column `K % 32`), among the 512 keys of the window's rows. -/
def gathered (n : Fin 4) (K : Fin 256) : Fin 512 := ⟨keyOf n.val (K.val / 32) (K.val % 32), by unfold keyOf bandStart; omega⟩

/-- The scores over the gathered keys. -/
def bandScore (K : Fin 256) : EReal := score x p b.val r.val (16 * n.val + i.val) h.val (gathered n K).val

/-- The gathered keys in one axis have the positions of the window's rows and the band's columns. -/
theorem flat_position (k : Fin 8) (a : Fin 32) (K : Fin 256) (e : K.val = 32 * k.val + a.val) :
    (S8x8x128x4x16x8x32.rowMajor (seven b h r n i k a)).val = (S8x8x128x4x16x256.rowMajor (ValueIdx.ix6 b h r n i K)).val := by
  refine (position_seven (d := ![8, 8, 128, 4, 16, 8, 32]) _).trans (Eq.trans ?_ (Shape.rowMajor_val_six (d := ![8, 8, 128, 4, 16, 256]) _).symm)
  show (((((b.val * 8 + h.val) * 128 + r.val) * 4 + n.val) * 16 + i.val) * 8 + k.val) * 32 + a.val
    = ((((b.val * 8 + h.val) * 128 + r.val) * 4 + n.val) * 16 + i.val) * 256 + K.val
  omega

theorem ref_split (K : Fin 256) : val_main_v125 (F := Ideal) x p (seven b h r n i (⟨K.val / 32, by omega⟩ : Fin 8) (⟨K.val % 32, by omega⟩ : Fin 32))
    = bandScore x p b h r n i K := by
  rw [ref_score]
  rfl

theorem ref_flat (K : Fin 256) : val_main_v126 (F := Ideal) x p (ValueIdx.ix6 b h r n i K) = bandScore x p b h r n i K := by
  unfold val_main_v126
  exact (shapeCast_apply _ _ _ _ (flat_position b h r n i ⟨K.val / 32, by omega⟩ ⟨K.val % 32, by omega⟩ K (Nat.div_add_mod _ _).symm)).trans (ref_split x p b h r n i K)

theorem bits_bot : (FloatOps.ofBits .f32 0xFF800000#32 : Ideal .f32) = (⊥ : EReal) := by
  show Ideal.ofBits .f32 0xFF800000#32 = ⊥
  simp [Ideal.ofBits, Ideal.ieee]

/-- The greatest entry along the last axis. -/
theorem lastMax_apply (s : FVec Ideal S8x8x128x4x16x256 .f32) (z : FVec Ideal S_ .f32) (hz : z (Shape.Idx.first h_S_) = (⊥ : EReal)) :
    Host.reduce FloatOps.maximumf s z reducesTo_S8x8x128x4x16x256_S8x8x128x4x16_d5 h_S_ (ValueIdx.ix5 b h r n i)
      = peak (fun K : Fin 256 => s (ValueIdx.ix6 b h r n i K)) := by
  rw [Host.reduce_eq_fold_single FloatOps.maximumf s z reducesTo_S8x8x128x4x16x256_S8x8x128x4x16_d5 (by decide) h_S_, hz]
  unfold peak
  refine congrArg (fun g : Fin 256 → EReal => Finset.fold max ⊥ g Finset.univ) (funext fun K => congrArg s (funext fun a => ?_))
  match a with | 0 => rfl | 1 => rfl | 2 => rfl | 3 => rfl | 4 => rfl | 5 => rfl

/-- The greatest score. -/
theorem ref_max : val_main_v127 (F := Ideal) x p (ValueIdx.ix5 b h r n i) = peak (bandScore x p b h r n i) := by
  unfold val_main_v127
  refine (lastMax_apply b h r n i _ _ ((val_main_cst_28_apply _).trans bits_bot)).trans (congrArg peak (funext fun K => ?_))
  exact ref_flat x p b h r n i K

theorem ref_peak : val_main_v129 (F := Ideal) x p (ValueIdx.ix5 b h r n i) = peak (bandScore x p b h r n i) := by
  have e : ∀ u v : EReal, u = ⊥ → max u v = v := fun u v hu => by rw [hu]; exact max_eq_right bot_le
  rw [val_main_v129_apply, ref_max]
  exact e _ _ ((val_main_v128_apply _).trans ((val_main_cst_29_apply _).trans bits_bot))

theorem ref_weight (K : Fin 256) : val_main_v133 (F := Ideal) x p (ValueIdx.ix6 b h r n i K) = weight (bandScore x p b h r n i) K := by
  rw [val_main_v133_apply, val_main_v132_apply, ref_flat, val_main_v131_apply, val_main_v130_apply]
  unfold weight
  refine congrArg (fun m : EReal => Ideal.exp (bandScore x p b h r n i K - m)) ?_
  refine Eq.trans (congrArg (val_main_v129 (F := Ideal) x p) (funext fun a => ?_)) (ref_peak x p b h r n i)
  match a with | 0 => rfl | 1 => rfl | 2 => rfl | 3 => rfl | 4 => rfl

theorem ref_total : val_main_v134 (F := Ideal) x p (ValueIdx.ix5 b h r n i) = total (bandScore x p b h r n i) := by
  rw [val_main_v134_apply, val_main_cst_30_apply]
  rw [show (FloatOps.ofBits .f32 0x00000000#32 : Ideal .f32) = (0 : EReal) from Ideal.ofBits_zero_f32, zero_add]
  unfold total
  refine Finset.sum_congr rfl fun K _ => ?_
  refine Eq.trans (congrArg (val_main_v133 (F := Ideal) x p) (funext fun a => ?_)) (ref_weight x p b h r n i K)
  match a with | 0 => rfl | 1 => rfl | 2 => rfl | 3 => rfl | 4 => rfl | 5 => rfl

/-- The softmax. -/
theorem ref_softmax (K : Fin 256) : val_main_v137 (F := Ideal) x p (ValueIdx.ix6 b h r n i K)
    = Ideal.div (weight (bandScore x p b h r n i) K) (total (bandScore x p b h r n i)) := by
  rw [val_main_v137_apply, ref_weight, val_main_v136_apply, val_main_v135_apply]
  refine congrArg (fun m : EReal => Ideal.div (weight (bandScore x p b h r n i) K) m) ?_
  refine Eq.trans (congrArg (val_main_v134 (F := Ideal) x p) (funext fun a => ?_)) (ref_total x p b h r n i)
  match a with | 0 => rfl | 1 => rfl | 2 => rfl | 3 => rfl | 4 => rfl

/-- A row and a column of the window are a gathered key. -/
def rowColumn : Fin 32 × Fin 8 ≃ Fin 256 where
  toFun q := ⟨32 * q.2.val + q.1.val, by omega⟩
  invFun K := (⟨K.val % 32, by omega⟩, ⟨K.val / 32, by omega⟩)
  left_inv q := Prod.ext (Fin.ext (by show (32 * q.2.val + q.1.val) % 32 = q.1.val; omega)) (Fin.ext (by show (32 * q.2.val + q.1.val) / 32 = q.2.val; omega))
  right_inv K := Fin.ext (by show 32 * (K.val / 32) + K.val % 32 = K.val; omega)

/-- The values weighed. -/
theorem ref_weighed (d : Fin 64) : val_main_v139 (F := Ideal) x p (ValueIdx.ix6 b r n h d i)
    = attend (bandScore x p b h r n i) (fun K : Fin 256 => valueOf x b.val r.val h.val d.val (gathered n K).val) := by
  unfold val_main_v139
  refine (weigh_apply _ _ b r n h d i).trans ?_
  unfold attend
  rw [← Fintype.sum_prod_type', ← Equiv.sum_comp rowColumn]
  refine Finset.sum_congr rfl fun q _ => congrArg₂ (fun a b : EReal => a * b) ?_ ?_
  · rw [ref_value]
    unfold valueOf
    refine congrArg (fun s => cell x _ s _) ?_
    show _ = 64 * rowStart r.val + (64 * ((32 * q.2.val + q.1.val) / 32) + (bandStart n.val + (32 * q.2.val + q.1.val) % 32))
    omega
  · unfold val_main_v138
    exact (shapeCast_apply _ _ _ _ (flat_position b h r n i q.2 q.1 (rowColumn q) rfl).symm).trans (ref_softmax x p b h r n i _)

theorem gathered_injective (n : Fin 4) : Function.Injective (gathered n) := fun K K' e => by
  have e' : keyOf n.val (K.val / 32) (K.val % 32) = keyOf n.val (K'.val / 32) (K'.val % 32) := congrArg Fin.val e
  unfold keyOf bandStart at e'
  exact Fin.ext (by omega)

/-- A key that is not gathered lies outside the window. -/
theorem not_gathered (j : Fin 512) (hj : ∀ K, gathered n K ≠ j) : score x p b.val r.val (16 * n.val + i.val) h.val j.val = ⊥ := by
  unfold score
  rw [if_neg]
  intro hw
  unfold inWindow colStart at hw
  have hb : bandStart n.val ≤ j.val % 64 ∧ j.val % 64 < bandStart n.val + 32 := by unfold bandStart; omega
  refine hj ⟨32 * (j.val / 64) + (j.val % 64 - bandStart n.val), by omega⟩ (Fin.ext ?_)
  show 64 * ((32 * (j.val / 64) + (j.val % 64 - bandStart n.val)) / 32) + (bandStart n.val + (32 * (j.val / 64) + (j.val % 64 - bandStart n.val)) % 32) = j.val
  omega

variable {x p}

/-- One entry of the reference's result. -/
theorem ref_entry (H : Finite x p) (d : Fin 64) : val_main_v140 (F := Ideal) x p (ValueIdx.ix6 b r n i h d)
    = attended x p b.val r.val (16 * n.val + i.val) h.val d.val := by
  rw [val_main_v140_apply]
  refine Eq.trans (congrArg (val_main_v139 (F := Ideal) x p) (funext fun a => ?_)) ((ref_weighed x p b h r n i d).trans ?_)
  · match a with | 0 => rfl | 1 => rfl | 2 => rfl | 3 => rfl | 4 => rfl | 5 => rfl
  obtain ⟨l, hl, hpos⟩ := total_real (fun j : Fin 512 => score x p b.val r.val (16 * n.val + i.val) h.val j.val)
    (fun j => score_ne_top H _ _ _ _ _ h.isLt) (firstKey (16 * n.val + i.val)) (score_firstKey H _ _ _ _ h.isLt)
  unfold attended
  exact attend_restrict (gathered n) (gathered_injective n) (fun j : Fin 512 => score x p b.val r.val (16 * n.val + i.val) h.val j.val)
    (fun j : Fin 512 => valueOf x b.val r.val h.val d.val j.val) (not_gathered x p b h r n i)
    (by rw [hl]; exact fun e => hpos.ne' (EReal.coe_eq_zero.1 e))

/-- The reference's result. -/
theorem ref_result (H : Finite x p) : val_main_v142 (F := Ideal) x p = attendedAll x p := by
  funext y
  have h0 : (y 0).val < 8 := (y 0).isLt
  have h1 : (y 1).val < 8192 := (y 1).isLt
  have h2 : (y 2).val < 512 := (y 2).isLt
  rw [val_main_v142_apply]
  show val_main_v141 (F := Ideal) x p y = _
  unfold val_main_v141
  refine (shapeCast_apply _ _ _ (ValueIdx.ix6 (⟨(y 0).val, h0⟩ : Fin 8) (⟨(y 1).val / 64, by omega⟩ : Fin 128) (⟨(y 1).val % 64 / 16, by omega⟩ : Fin 4)
    (⟨(y 1).val % 64 % 16, by omega⟩ : Fin 16) (⟨(y 2).val / 64, by omega⟩ : Fin 8) (⟨(y 2).val % 64, by omega⟩ : Fin 64)) ?_).trans ?_
  · rw [Shape.rowMajor_val_six, Shape.rowMajor_val_three]
    show (((((y 0).val * 128 + (y 1).val / 64) * 4 + (y 1).val % 64 / 16) * 16 + (y 1).val % 64 % 16) * 8 + (y 2).val / 64) * 64 + (y 2).val % 64
      = ((y 0).val * 8192 + (y 1).val) * 512 + (y 2).val
    omega
  · refine (ref_entry _ _ _ _ _ H _).trans ?_
    unfold attendedAll
    show attended x p (y 0).val ((y 1).val / 64) (16 * ((y 1).val % 64 / 16) + (y 1).val % 64 % 16) ((y 2).val / 64) ((y 2).val % 64) = _
    rw [show 16 * ((y 1).val % 64 / 16) + (y 1).val % 64 % 16 = (y 1).val % 64 by omega]

end Cert.Attention

end
-- ==== Proof.Real.lean ====
/-
  What the precondition says: the queries, the keys and the bias are real numbers.
-/
module

public import proofs.«01_k».proof.Defs
public import proofs.«01_k».proof.Proof.Spec

@[expose] public section

noncomputable section

namespace Cert.Attention

open Idealize.ShloMosaic

/-- A number whose absolute value lies below `+∞` is real. -/
theorem real_of_abs (v : EReal) (h : Ideal.cmp .olt (max v (-v)) (Ideal.ofBits .f32 0x7F800000#32) = 1#1) : ∃ r : ℝ, v = r := by
  have ht : Ideal.ofBits .f32 0x7F800000#32 = ⊤ := by simp [Ideal.ofBits, Ideal.ieee]
  rw [ht] at h
  induction v using EReal.rec with
  | bot => simp [Ideal.cmp] at h
  | top => simp [Ideal.cmp] at h
  | coe r => exact ⟨r, rfl⟩

/-- An entry outside the array counts as zero, which is real. -/
theorem cell_real {A B C : ℕ} (x : (⟨3, ![A, B, C]⟩ : Shape).Idx → EReal) (i j k : ℕ)
    (h : ∀ (hi : i < A) (hj : j < B) (hk : k < C), ∃ r : ℝ, x (ValueIdx.ix3 ⟨i, hi⟩ ⟨j, hj⟩ ⟨k, hk⟩) = r) : ∃ r : ℝ, cell x i j k = r := by
  unfold cell
  split
  · next hc => exact h hc.1 hc.2.1 hc.2.2
  · exact ⟨0, rfl⟩

variable (x : Cert.Pre_finite_scores.S8x8192x1536.Idx → EReal) (p : Cert.Pre_finite_scores.S8x15x31.Idx → EReal)

theorem finite_of_pre [Cert.Pre_finite_scores.Facts]
    (hp : (Cert.Pre_finite_scores.fn (F := Ideal) x p).1 = fun _ => 1#1) (hb : (Cert.Pre_finite_scores.fn (F := Ideal) x p).2 = fun _ => 1#1) :
    Finite x p where
  proj b s l hl := cell_real x b s l fun h0 h1 h2 => by
    have e := congrFun hp (ValueIdx.ix3 (⟨b, h0⟩ : Fin 8) (⟨s, h1⟩ : Fin 8192) (⟨l, hl⟩ : Fin 1024))
    refine real_of_abs _ (Eq.trans ?_ e)
    refine congrArg (fun v : EReal => Ideal.cmp .olt (max v (-v)) (Ideal.ofBits .f32 0x7F800000#32)) (congrArg x (funext fun a => Fin.ext ?_))
    match a with
    | 0 => show b = 0 + b; omega
    | 1 => show s = 0 + s; omega
    | 2 => show l = 0 + l; omega
  bias h r l := cell_real p h r l fun h0 h1 h2 => real_of_abs _ (congrFun hb (ValueIdx.ix3 (⟨h, h0⟩ : Fin 8) (⟨r, h1⟩ : Fin 15) (⟨l, h2⟩ : Fin 31)))

end Cert.Attention

end
-- ==== Proof.Equation.lean ====
/-
  The two results are one array: the kernel's and the reference's.
-/
module

public import proofs.«01_k».proof.Proof.Array
public import proofs.«01_k».proof.Proof.RefValue
public import proofs.«01_k».proof.Proof.Real

@[expose] public section

noncomputable section

namespace Cert.Attention

open Idealize.ShloMosaic Idealize.SL.Sem

/-- The kernel ends with the attention in its result and its arguments as they were. -/
theorem kernel_run (m : (ℓ : Loc Cert.KernelIdeal.nD Cert.KernelIdeal.τ Cert.KernelIdeal.sig) → Buf (Elt Ideal) ℓ) (ρ : Dev Cert.KernelIdeal.nD → PrngReg)
    (H : ∀ c : Dev Cert.KernelIdeal.nD, Finite (proj m c) (bias m c)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v33) = attendedAll (proj m c) (bias m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨((h c).1 4).trans (out_array m c (H c)),
      ((h c).2 Cert.KernelIdeal.main_arg0 (Pipeline.mem_restRefs_of Cert.KernelIdeal.main_arg0 (by decide) (by decide))).trans (Cert.KernelIdeal.Gen.V_main_arg0 m c),
      ((h c).2 Cert.KernelIdeal.main_arg1 (Pipeline.mem_restRefs_of Cert.KernelIdeal.main_arg1 (by decide) (by decide))).trans (Cert.KernelIdeal.Gen.V_main_arg1 m c)⟩)
    (run_main m ρ)

/-- The reference ends with the attention in its result and its arguments as they were. -/
theorem reference_run (m : (ℓ : Loc Cert.ReferenceIdeal.nD Cert.ReferenceIdeal.τ Cert.ReferenceIdeal.sig) → Buf (Elt Ideal) ℓ) (ρ : Dev Cert.ReferenceIdeal.nD → PrngReg)
    (x : Dev Cert.ReferenceIdeal.nD → Cert.ReferenceIdeal.S8x8192x1536.Idx → EReal) (p : Dev Cert.ReferenceIdeal.nD → Cert.ReferenceIdeal.S8x15x31.Idx → EReal)
    (hx : ∀ c : Dev Cert.ReferenceIdeal.nD, m ((c.tc : Thread Cert.ReferenceIdeal.nD Cert.ReferenceIdeal.τ).loc Cert.ReferenceIdeal.main_arg0) = x c)
    (hp : ∀ c : Dev Cert.ReferenceIdeal.nD, m ((c.tc : Thread Cert.ReferenceIdeal.nD Cert.ReferenceIdeal.τ).loc Cert.ReferenceIdeal.main_arg1) = p c)
    (H : ∀ c, Finite (x c) (p c)) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v142) = attendedAll (x c) (p c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c => by
    refine ⟨(h c).1.trans ((Cert.ReferenceIdeal.Read.val_main_v142_eq (StableHlo.launchContents m c)).trans ?_), (h c).2⟩
    rw [StableHlo.launchContents_devRef, StableHlo.launchContents_devRef, hx c, hp c]
    exact ref_result (H c))
    (Cert.ReferenceIdeal.Value.run (F := Ideal) m ρ)

end Cert.Attention

end
-- ==== Proof.ExpertBody.lean ====
/-
  The expert call's body at one tile of rows: where the tile is in use it leaves the gated product of the tile with the
  expert's three matrices, taken over two halves of the hidden columns; elsewhere it leaves zeros.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.FrameSuffix
public import Idealize.ShloMosaic.Lib.Tactic
public import Idealize.ShloMosaic.Lib.ValueIdx
public import Idealize.ShloMosaic.Lib.VecWindow
public import Idealize.ShloMosaic.Lib.WordCmp

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of the tile, whole; the first and the second half of an up matrix's columns; of the down matrix's rows. -/
abbrev rowsR : Rect S512x1024 := Rect.unit (s := S512x1024) ![0, 0] S512x1024.size inb_S512x1024_S512x1024_0_0
abbrev upR0 : Rect S1x1024x3584 := Rect.unit (s := S1x1024x3584) ![0, 0, 0] S1x1024x1792.size inb_S1x1024x3584_S1x1024x1792_0_0_0
abbrev upR1 : Rect S1x1024x3584 := Rect.unit (s := S1x1024x3584) ![0, 0, 1792] S1x1024x1792.size inb_S1x1024x3584_S1x1024x1792_0_0_1792
abbrev downR0 : Rect S1x3584x1024 := Rect.unit (s := S1x3584x1024) ![0, 0, 0] S1x1792x1024.size inb_S1x3584x1024_S1x1792x1024_0_0_0
abbrev downR1 : Rect S1x3584x1024 := Rect.unit (s := S1x3584x1024) ![0, 1792, 0] S1x1792x1024.size inb_S1x3584x1024_S1x1792x1024_0_1792_0

/-- What a tile in use leaves. -/
def usedTile (x0 : Vec F S512x1024 .bf16) (x1 x2 : Vec F S1x1024x3584 .bf16) (x3 : Vec F S1x3584x1024 .bf16) : Vec F S512x1024 .bf16 :=
  k0_pay2 (View.ld x0 rowsR) (View.ld x1 upR0) (View.ld x2 upR0) (View.ld x3 downR0) (View.ld x1 upR1) (View.ld x2 upR1) (View.ld x3 downR1)

/-- What the body leaves at point `i` when `n` tiles are in use. -/
def tileOut (i : grid0.Coords) (n : BitVec 32) (x0 : Vec F S512x1024 .bf16) (x1 x2 : Vec F S1x1024x3584 .bf16) (x3 : Vec F S1x3584x1024 .bf16) : Vec F S512x1024 .bf16 :=
  if k0_cond1 i n = 1#1 then usedTile x0 x1 x2 x3 else k0_pay1

/-- Of a one-bit word and its complement exactly one is set. -/
theorem cond2_iff (i : grid0.Coords) (n : BitVec 32) : k0_cond2 i n = 1#1 ↔ ¬ k0_cond1 i n = 1#1 := by
  unfold k0_cond2 k0_cond1
  dsimp only
  generalize Scalar.cmpi .slt (BitVec.ofNat 32 (i 0).val) n = b
  revert b; decide

set_option maxHeartbeats 16000000 in
/-- The body on whole staging buffers, the second table read. -/
theorem sound_kernel (c : Dev nD) (E : Set ℕ) (i : grid0.Coords) (arg1 : Memref sig .tc .smem S264 .i32) (harg1 : arg1.IsWhole) (arg2 : Memref sig .tc .smem S1 .i32) (harg2 : arg2.IsWhole) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S512x1024 .bf16) (harg7 : arg7.IsWhole)
    (n : Vec F S1 .i32) (q : PosShare TreeShare)
    (x0 : Vec F S512x1024 .bf16) (x1 x2 : Vec F S1x1024x3584 .bf16) (x3 : Vec F S1x3584x1024 .bf16) (K : PUnit → sProp 𝕄) :
    iprop(owns (c : Thread nD τ) arg2 q n ∗ owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg2 q n ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (tileOut i (n (Idealize.ShloMosaic.ValueIdx.ix1 0)) x0 x1 x2 x3)) -∗ K ⟨⟩))
      ⊢ wp frame (wpE (defs₀ (F := F)) Variants.none c none) E (cc0_experts i arg1 harg1 arg2 harg2 arg3 harg3 arg4 harg4 arg5 harg5 arg6 harg6 arg7 harg7) K := by
  simp only [cc0_experts_eq_skeleton]; unfold cc0_experts_skel
  simp only [k0_part1_eq_skeleton]
  unfold owns
  iintro ⟨⟨%fn, %hn, Hn⟩, ⟨%f0, %hf0, H0⟩, ⟨%f1, %hf1, H1⟩, ⟨%f2, %hf2, H2⟩, ⟨%f3, %hf3, H3⟩, ⟨%d4, %f4, -, H4⟩, Hk⟩
  subst hn hf0 hf1 hf2 hf3
  sl_exec
  have hr : sound_kernel.sl.r c arg2 fn = arg2.view.read (Elt F) fn (Idealize.ShloMosaic.ValueIdx.ix1 0) := by
    unfold sound_kernel.sl.r
    refine congrArg (arg2.view.read (Elt F) fn) (funext fun a => ?_)
    fin_cases a
    exact Subsingleton.elim (α := Fin 1) _ _
  rw [hr]
  generalize arg2.view.read (Elt F) fn (Idealize.ShloMosaic.ValueIdx.ix1 0) = n
  sl_step
  iapply Hk
  isplitl [Hn]
  · iexists fn; isplitr; · ipureintro; rfl
    iexact Hn
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold tileOut
  by_cases h : k0_cond1 i n = 1#1
  · rw [dif_neg (fun h2 => (cond2_iff i n).mp h2 h), dif_pos h, if_pos h]
    exact View.read_writes_full _ _ _ _ _
  · rw [dif_pos ((cond2_iff i n).mpr h), if_neg h]
    exact View.read_writes_full _ _ _ _ _

end Cert.Experts

end
-- ==== Proof.ExpertHost.lean ====
/-
  The host's buffers before the expert call, stretch by stretch: the valuation each stretch of operations leaves, and what
  later stretches keep of it.
-/
module

public import proofs.«01_k».proof.Proof.Gen.Kernel2Ideal.Launch
public import Idealize.ShloMosaic.Lib.StableHlo.RunRead
public import Idealize.ShloMosaic.Lib.StableHlo.ReadAt
public import Idealize.ShloMosaic.Lib.Pointwise.Index
public import Idealize.ShloMosaic.Lib.Pipeline.FrameSuffix

@[expose] public section

set_option maxRecDepth 16384

noncomputable section

namespace Cert.Experts

open Cert.Kernel2Ideal Cert.Kernel2Ideal.Gen
open Idealize.ShloMosaic Idealize.ShloMosaic.TcCoe

variable {F : FTy → Type} [FloatOps F]

variable (m : (ℓ : Loc nD τ sig) → Buf (Elt F) ℓ) (c : Dev nD)

/-- The buffers after the first stretch, the second, and so on. -/
def U0 : Valuation τ sig (Elt F) := StableHlo.after hostOps0 (fun b => m (c, b))
def U1 : Valuation τ sig (Elt F) := StableHlo.after hostOps0_1 (U0 m c)
def U2 : Valuation τ sig (Elt F) := StableHlo.after hostOps0_2 (U1 m c)
def U3 : Valuation τ sig (Elt F) := StableHlo.after hostOps0_3 (U2 m c)
def U4 : Valuation τ sig (Elt F) := StableHlo.after hostOps0_4 (U3 m c)
def U5 : Valuation τ sig (Elt F) := StableHlo.after hostOps0_5 (U4 m c)
def U6 : Valuation τ sig (Elt F) := StableHlo.after hostOps0_6 (U5 m c)
def U7 : Valuation τ sig (Elt F) := StableHlo.after hostOps0_7 (U6 m c)
def U8 : Valuation τ sig (Elt F) := StableHlo.after hostOps0_8 (U7 m c)
def U9 : Valuation τ sig (Elt F) := StableHlo.after hostOps0_9 (U8 m c)
def U10 : Valuation τ sig (Elt F) := StableHlo.after hostOps0_10 (U9 m c)
def U11 : Valuation τ sig (Elt F) := StableHlo.after hostOps0_11 (U10 m c)
def U12 : Valuation τ sig (Elt F) := StableHlo.after hostOps0_12 (U11 m c)
def U13 : Valuation τ sig (Elt F) := StableHlo.after hostOps0_13 (U12 m c)
def U14 : Valuation τ sig (Elt F) := StableHlo.after hostOps0_14 (U13 m c)
def U15 : Valuation τ sig (Elt F) := StableHlo.after hostOps0_15 (U14 m c)
def U16 : Valuation τ sig (Elt F) := StableHlo.after hostOps0_16 (U15 m c)
def U17 : Valuation τ sig (Elt F) := StableHlo.after hostOps0_17 (U16 m c)
def U18 : Valuation τ sig (Elt F) := StableHlo.after hostOps0_18 (U17 m c)

/-- The stretches before the call. -/
abbrev stretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

theorem after_stretches : StableHlo.after (stretches (F := F)).flatten (fun b => m (c, b)) = U18 m c := by
  simp only [stretches, List.flatten_cons, List.flatten_nil, List.append_nil, StableHlo.after_append]
  rfl

theorem keep_v1_5 : U5 m c (Proc.devRef .tc main_v1) = U0 m c (Proc.devRef .tc main_v1) := by
  unfold U5 U4 U3 U2 U1
  generalize U0 m c = W
  after_reads_simp

theorem keep_v1_8 : U8 m c (Proc.devRef .tc main_v1) = U0 m c (Proc.devRef .tc main_v1) := by
  unfold U8 U7 U6 U5 U4 U3 U2 U1
  generalize U0 m c = W
  after_reads_simp

theorem keep_v8_1 : U1 m c (Proc.devRef .tc main_v8) = U0 m c (Proc.devRef .tc main_v8) := by
  unfold U1
  generalize U0 m c = W
  after_reads_simp

theorem keep_v13_5 : U5 m c (Proc.devRef .tc main_v13) = U2 m c (Proc.devRef .tc main_v13) := by
  unfold U5 U4 U3
  generalize U2 m c = W
  after_reads_simp

theorem keep_v15_11 : U11 m c (Proc.devRef .tc main_v15) = U2 m c (Proc.devRef .tc main_v15) := by
  unfold U11 U10 U9 U8 U7 U6 U5 U4 U3
  generalize U2 m c = W
  after_reads_simp

theorem keep_v15_13 : U13 m c (Proc.devRef .tc main_v15) = U2 m c (Proc.devRef .tc main_v15) := by
  unfold U13 U12 U11 U10 U9 U8 U7 U6 U5 U4 U3
  generalize U2 m c = W
  after_reads_simp

theorem keep_v22_5 : U5 m c (Proc.devRef .tc main_v22) = U4 m c (Proc.devRef .tc main_v22) := by
  unfold U5
  generalize U4 m c = W
  after_reads_simp

theorem keep_v23_7 : U7 m c (Proc.devRef .tc main_v23) = U5 m c (Proc.devRef .tc main_v23) := by
  unfold U7 U6
  generalize U5 m c = W
  after_reads_simp

theorem keep_v24_9 : U9 m c (Proc.devRef .tc main_v24) = U6 m c (Proc.devRef .tc main_v24) := by
  unfold U9 U8 U7
  generalize U6 m c = W
  after_reads_simp

theorem keep_v32_18 : U18 m c (Proc.devRef .tc main_v32) = U6 m c (Proc.devRef .tc main_v32) := by
  unfold U18 U17 U16 U15 U14 U13 U12 U11 U10 U9 U8 U7
  generalize U6 m c = W
  after_reads_simp

theorem keep_v36_18 : U18 m c (Proc.devRef .tc main_v36) = U8 m c (Proc.devRef .tc main_v36) := by
  unfold U18 U17 U16 U15 U14 U13 U12 U11 U10 U9
  generalize U8 m c = W
  after_reads_simp

theorem keep_v52_18 : U18 m c (Proc.devRef .tc main_v52) = U8 m c (Proc.devRef .tc main_v52) := by
  unfold U18 U17 U16 U15 U14 U13 U12 U11 U10 U9
  generalize U8 m c = W
  after_reads_simp

theorem keep_v52_9 : U9 m c (Proc.devRef .tc main_v52) = U8 m c (Proc.devRef .tc main_v52) := by
  unfold U9
  generalize U8 m c = W
  after_reads_simp

theorem keep_v53_13 : U13 m c (Proc.devRef .tc main_v53) = U9 m c (Proc.devRef .tc main_v53) := by
  unfold U13 U12 U11 U10
  generalize U9 m c = W
  after_reads_simp

theorem keep_v55_11 : U11 m c (Proc.devRef .tc main_v55) = U10 m c (Proc.devRef .tc main_v55) := by
  unfold U11
  generalize U10 m c = W
  after_reads_simp

theorem keep_v55_13 : U13 m c (Proc.devRef .tc main_v55) = U10 m c (Proc.devRef .tc main_v55) := by
  unfold U13 U12 U11
  generalize U10 m c = W
  after_reads_simp

theorem keep_v64_11 : U11 m c (Proc.devRef .tc main_v64) = U10 m c (Proc.devRef .tc main_v64) := by
  unfold U11
  generalize U10 m c = W
  after_reads_simp

theorem keep_v64_13 : U13 m c (Proc.devRef .tc main_v64) = U10 m c (Proc.devRef .tc main_v64) := by
  unfold U13 U12 U11
  generalize U10 m c = W
  after_reads_simp

theorem keep_v83_16 : U16 m c (Proc.devRef .tc main_v83) = U14 m c (Proc.devRef .tc main_v83) := by
  unfold U16 U15
  generalize U14 m c = W
  after_reads_simp

theorem keep_v91_16 : U16 m c (Proc.devRef .tc main_v91) = U15 m c (Proc.devRef .tc main_v91) := by
  unfold U16
  generalize U15 m c = W
  after_reads_simp

theorem keep_v0_17 : U17 m c (Proc.devRef .tc main_v0) = U0 m c (Proc.devRef .tc main_v0) := by
  unfold U17 U16 U15 U14 U13 U12 U11 U10 U9 U8 U7 U6 U5 U4 U3 U2 U1
  generalize U0 m c = W
  after_reads_simp

theorem keep_arg0_18 : U18 m c (Proc.devRef .tc main_arg0) = m ((c : Thread nD τ).loc main_arg0) := by
  have h : ∀ W : Valuation τ sig (Elt F), StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W)))))))))))))))))) (Proc.devRef .tc main_arg0) = W (Proc.devRef .tc main_arg0) := fun W => by
    after_reads_simp
  exact h _

theorem keep_arg1_18 : U18 m c (Proc.devRef .tc main_arg1) = m ((c : Thread nD τ).loc main_arg1) := by
  have h : ∀ W : Valuation τ sig (Elt F), StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W)))))))))))))))))) (Proc.devRef .tc main_arg1) = W (Proc.devRef .tc main_arg1) := fun W => by
    after_reads_simp
  exact h _

theorem keep_arg2_17 : U17 m c (Proc.devRef .tc main_arg2) = m ((c : Thread nD τ).loc main_arg2) := by
  have h : ∀ W : Valuation τ sig (Elt F), StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))))))))))))) (Proc.devRef .tc main_arg2) = W (Proc.devRef .tc main_arg2) := fun W => by
    after_reads_simp
  exact h _

theorem keep_arg2_18 : U18 m c (Proc.devRef .tc main_arg2) = m ((c : Thread nD τ).loc main_arg2) := by
  have h : ∀ W : Valuation τ sig (Elt F), StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W)))))))))))))))))) (Proc.devRef .tc main_arg2) = W (Proc.devRef .tc main_arg2) := fun W => by
    after_reads_simp
  exact h _

theorem keep_arg3_17 : U17 m c (Proc.devRef .tc main_arg3) = m ((c : Thread nD τ).loc main_arg3) := by
  have h : ∀ W : Valuation τ sig (Elt F), StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))))))))))))) (Proc.devRef .tc main_arg3) = W (Proc.devRef .tc main_arg3) := fun W => by
    after_reads_simp
  exact h _

theorem keep_arg3_18 : U18 m c (Proc.devRef .tc main_arg3) = m ((c : Thread nD τ).loc main_arg3) := by
  have h : ∀ W : Valuation τ sig (Elt F), StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W)))))))))))))))))) (Proc.devRef .tc main_arg3) = W (Proc.devRef .tc main_arg3) := fun W => by
    after_reads_simp
  exact h _

theorem keep_arg4_17 : U17 m c (Proc.devRef .tc main_arg4) = m ((c : Thread nD τ).loc main_arg4) := by
  have h : ∀ W : Valuation τ sig (Elt F), StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W))))))))))))))))) (Proc.devRef .tc main_arg4) = W (Proc.devRef .tc main_arg4) := fun W => by
    after_reads_simp
  exact h _

theorem keep_arg4_18 : U18 m c (Proc.devRef .tc main_arg4) = m ((c : Thread nD τ).loc main_arg4) := by
  have h : ∀ W : Valuation τ sig (Elt F), StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 W)))))))))))))))))) (Proc.devRef .tc main_arg4) = W (Proc.devRef .tc main_arg4) := fun W => by
    after_reads_simp
  exact h _

end Cert.Experts

end
-- ==== Proof.ExpertTile.lean ====
/-
  The table of the tiles' experts holds numbers below eight, whatever the routing: it is a count, cut at seven.
-/
module

public import proofs.«01_k».proof.Proof.ExpertHost
public import Idealize.ShloMosaic.Lib.Routing.Ops
public import Idealize.ShloMosaic.Lib.Routing.OpsOne
public import Idealize.ShloMosaic.Lib.Routing.OpsSet
public import Idealize.ShloMosaic.Lib.Routing.OpsPair
public import Idealize.ShloMosaic.Lib.Routing.OpsSearch
public import Idealize.ShloMosaic.Lib.Routing.Words
public import Idealize.ShloMosaic.Lib.PlanTiles.Rows
public import Idealize.ShloMosaic.Lib.ValueIdx

@[expose] public section

set_option maxRecDepth 16384

noncomputable section

namespace Cert.Experts

open Cert.Kernel2Ideal Cert.Kernel2Ideal.Gen
open Idealize.ShloMosaic Idealize.ShloMosaic.TcCoe Idealize.ShloMosaic.ValueIdx Idealize.ShloMosaic.Routing

variable {F : FTy → Type} [FloatOps F]
variable (m : (ℓ : Loc nD τ sig) → Buf (Elt F) ℓ) (c : Dev nD)

/-- The starting rows of the tiles, none past the last in use. -/
def tileStart (na : IVec S1 32) : IVec S264 32 :=
  muli (minsi (iotaInDim S264 32 0) (broadcastInDim S264 ![] bcast_S_S264 (subi (shapeCast S_ na shapeCasts_S1_S_) (constantI S_ 32 1#32))))
    (broadcastInDim S264 ![] bcast_S_S264 (constantI S_ 32 512#32))

/-- Which experts end at or before which tile's start. -/
def endsMask (ends : IVec S8 32) (na : IVec S1 32) : IVec S264x8 1 :=
  cmpi .sge (broadcastInDim S264x8 ![0, 1] bcast_S264x1_S264x8_0_1 (broadcastInDim S264x1 ![0] bcast_S264_S264x1_0 (tileStart na)))
    (broadcastInDim S264x8 ![0, 1] bcast_S1x8_S264x8_0_1 (broadcastInDim S1x8 ![1] bcast_S8_S1x8_1 ends))

/-- The tiles' experts. -/
def tileExpert (ends : IVec S8 32) (na : IVec S1 32) : IVec S264 32 :=
  minsi (Host.reduce IntOp.addi (extui 32 (endsMask ends na) natLt_1_32) (constantI S_ 32 0#32) reducesTo_S264x8_S264_d1 h_S_)
    (broadcastInDim S264 ![] bcast_S_S264 (constantI S_ 32 7#32))

theorem U8_v52 : U8 m c (Proc.devRef .tc main_v52) = tileExpert (U7 m c (Proc.devRef .tc main_v23)) (U8 m c (Proc.devRef .tc main_v36)) := by
  unfold U8
  generalize U7 m c = W
  after_reads_simp
  rfl

/-- The number of set bits below a bound, at a tile. -/
theorem tileExpert_apply (ends : IVec S8 32) (na : IVec S1 32) (t : Fin 264) (Q : ℕ → Prop) [DecidablePred Q]
    (hQ : ∀ q : Fin 8, endsMask ends na (ValueIdx.ix2 t q) = 1#1 ↔ Q q.val) :
    tileExpert ends na (ValueIdx.ix1 t) = BitVec.ofNat 32 (min 7 (Nat.count Q 8)) := by
  have h := reduce_count (n := 264) (m := 8) (by norm_num) (endsMask ends na) natLt_1_32 reducesTo_S264x8_S264_d1 h_S_ t Q hQ
  have hle : Nat.count Q 8 ≤ 8 := Nat.count_le _
  show IntOp.minsi (Host.reduce IntOp.addi (extui 32 (endsMask ends na) natLt_1_32) (constantI S_ 32 0#32) reducesTo_S264x8_S264_d1 h_S_ (ValueIdx.ix1 t))
    (broadcastInDim S264 ![] bcast_S_S264 (constantI S_ 32 7#32) (ValueIdx.ix1 t)) = _
  rw [h, bc0]
  exact PlanTiles.minsi_word (a := Nat.count Q 8) (b := 7) (by omega) (by omega)

theorem tileExpert_lt (ends : IVec S8 32) (na : IVec S1 32) (t : Fin 264) : (tileExpert ends na (ValueIdx.ix1 t)).toNat < 8 := by
  classical
  rw [tileExpert_apply ends na t (fun q => ∃ h : q < 8, endsMask ends na (ValueIdx.ix2 t ⟨q, h⟩) = 1#1) fun q => ⟨fun h => ⟨q.isLt, h⟩, fun ⟨_, h⟩ => h⟩,
    BitVec.toNat_ofNat]
  have := Nat.min_le_left 7 (Nat.count (fun q => ∃ h : q < 8, endsMask ends na (ValueIdx.ix2 t ⟨q, h⟩) = 1#1) 8)
  omega

end Cert.Experts

end
-- ==== Proof.ExpertLaunch.lean ====
/-
  The expert call's launch: the tables it finds, the pipeline's proof data over the body's triple, the run to it and on
  through the operations after it, and the frame — over any float interpretation, so that both the word program and the
  ideal one are read off it.
-/
module

public import proofs.«01_k».proof.Proof.ExpertBody
public import proofs.«01_k».proof.Proof.ExpertTile

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The two tables as the region finds them. -/
def tables (c : Dev nD) : pre0.Contents (Elt F) := fun k => U18 m c (Proc.devRef .tc (pre0.ref k))

theorem tables_zero (c : Dev nD) (x : S264.Idx) : BitVec.toNat (tables m c 0 x) < 8 := by
  have h : tables m c 0 = tileExpert (U7 m c (Proc.devRef .tc main_v23)) (U8 m c (Proc.devRef .tc main_v36)) :=
    (keep_v52_18 m c).trans (U8_v52 m c)
  rw [h]
  have e : x = ValueIdx.ix1 (x 0 : Fin 264) := funext fun a => by match a with | ⟨0, _⟩ => rfl
  rw [e]
  exact tileExpert_lt _ _ _

/-- A plane of eight, whole in its other axes. -/
theorem plane_in (n : ℕ) (hn : n < 8) (B C : ℕ) (a : Fin 3) : (![n, (0#32 : BitVec 32).toNat, (0#32 : BitVec 32).toNat] a + 1) * (![1, B, C] : Fin 3 → ℕ) a ≤ (![8, B, C] : Fin 3 → ℕ) a := by
  fin_cases a
  · show (n + 1) * 1 ≤ 8; omega
  · show (0 + 1) * B ≤ B; omega
  · show (0 + 1) * C ≤ C; omega

theorem tables_ok (c : Dev nD) : ok0 (tables m c) :=
  ⟨fun i => ⟨plane_in _ (tables_zero m c _) 1024 3584, .inr (Affine.block_words_dvd (of_decide_eq_true rfl) (by decide))⟩,
   fun i => ⟨plane_in _ (tables_zero m c _) 1024 3584, .inr (Affine.block_words_dvd (of_decide_eq_true rfl) (by decide))⟩,
   fun i => ⟨plane_in _ (tables_zero m c _) 3584 1024, .inr (Affine.block_words_dvd (of_decide_eq_true rfl) (by decide))⟩⟩

/-- The tables, with their bounds. -/
def adm : (p : Fin 1) → (pcfgs (F := F) p).Adm := fun _ => ⟨tables m 0, tables_ok m 0⟩

/-! ## The pipeline's data, at any admissible tables and contents -/

variable (a : (p : Fin 1) → (pcfgs (F := F) p).Adm) (V : Dev nD → Valuation τ sig (Elt F))

/-- The pipeline at the tables. -/
abbrev pipe : Cfg sig Λ₀ := Pipeline.pin pcfgs a 0

/-- The number of tiles in use. -/
def used : BitVec 32 := ((a 0).1 1 : Vec F S1 .i32) (ValueIdx.ix1 0)

/-- Window `w`'s block at point `t`, off its array as the region finds it. -/
def blockAt (c : Dev nD) (w : Fin (pipe a).W) (t : Fin (pipe a).N) : (((pipe a).win w).xblock ((pipe a).grid.coords t)).Idx → Elt F ((pipe a).win w).elt :=
  (((pipe a).win w).blk t).view.read (Elt F) (V c (Proc.devRef .tc (Pipeline.arrRef spec0 w)))

/-- What the body leaves at point `t`. -/
def leftAt (c : Dev nD) (t : Fin (pipe a).N) : Vec F S512x1024 .bf16 :=
  tileOut (grid0.coords t) (used a) (blockAt a V c 0 t) (blockAt a V c 1 t) (blockAt a V c 2 t) (blockAt a V c 3 t)

def dats : (p : Fin 1) → (c : Dev nD) → Dat τ (Elt F) Unit ℕ (UR sig nD τ) ℕ (Pipeline.pin pcfgs a p) c := fun _ c =>
  { A := fun w => V c (Proc.devRef .tc (Pipeline.arrRef spec0 w))
    after := fun w t => match w with
      | ⟨0, _⟩ => blockAt a V c 0 t
      | ⟨1, _⟩ => blockAt a V c 1 t
      | ⟨2, _⟩ => blockAt a V c 2 t
      | ⟨3, _⟩ => blockAt a V c 3 t
      | ⟨4, _⟩ => leftAt a V c t
    Φ := fun _ => iprop(Pipeline.ΦA spec0 c ∗ Pipeline.ΦT pre0 (a 0).1 c)
    q := fun w => Pipeline.shareOf spec0 w
    owed := fun _ => 0 }

theorem A_eq (c : Dev nD) (w : Fin (pipe a).W) : (dats a V 0 c).A w = V c (Proc.devRef .tc (Pipeline.arrRef spec0 w)) := by
  dsimp only [dats]

theorem after_x (c : Dev nD) (t : Fin (pipe a).N) : (dats a V 0 c).after 0 t = blockAt a V c 0 t := rfl
theorem after_w1 (c : Dev nD) (t : Fin (pipe a).N) : (dats a V 0 c).after 1 t = blockAt a V c 1 t := rfl
theorem after_w3 (c : Dev nD) (t : Fin (pipe a).N) : (dats a V 0 c).after 2 t = blockAt a V c 2 t := rfl
theorem after_w2 (c : Dev nD) (t : Fin (pipe a).N) : (dats a V 0 c).after 3 t = blockAt a V c 3 t := rfl
theorem after_y (c : Dev nD) (t : Fin (pipe a).N) : (dats a V 0 c).after 4 t = leftAt a V c t := rfl

theorem before_x (c : Dev nD) (t : Fin (pipe a).N) (d) : (dats a V 0 c).before 0 t d = blockAt a V c 0 t :=
  ((dats a V 0 c).before_in_eq_fetched 0 rfl (fun _ => rfl) (fun _ _ _ => rfl) (fun t => by rw [after_x]; unfold Dat.blockOf blockAt; rw [A_eq]; try rfl) t d).trans
    (by unfold Dat.fetched Dat.blockOf blockAt; rw [A_eq]; try rfl)
theorem before_w1 (c : Dev nD) (t : Fin (pipe a).N) (d) : (dats a V 0 c).before 1 t d = blockAt a V c 1 t :=
  ((dats a V 0 c).before_in_eq_fetched 1 rfl (fun _ => rfl) (fun _ _ _ => rfl) (fun t => by rw [after_w1]; unfold Dat.blockOf blockAt; rw [A_eq]; try rfl) t d).trans
    (by unfold Dat.fetched Dat.blockOf blockAt; rw [A_eq]; try rfl)
theorem before_w3 (c : Dev nD) (t : Fin (pipe a).N) (d) : (dats a V 0 c).before 2 t d = blockAt a V c 2 t :=
  ((dats a V 0 c).before_in_eq_fetched 2 rfl (fun _ => rfl) (fun _ _ _ => rfl) (fun t => by rw [after_w3]; unfold Dat.blockOf blockAt; rw [A_eq]; try rfl) t d).trans
    (by unfold Dat.fetched Dat.blockOf blockAt; rw [A_eq]; try rfl)
theorem before_w2 (c : Dev nD) (t : Fin (pipe a).N) (d) : (dats a V 0 c).before 3 t d = blockAt a V c 3 t :=
  ((dats a V 0 c).before_in_eq_fetched 3 rfl (fun _ => rfl) (fun _ _ _ => rfl) (fun t => by rw [after_w2]; unfold Dat.blockOf blockAt; rw [A_eq]; try rfl) t d).trans
    (by unfold Dat.fetched Dat.blockOf blockAt; rw [A_eq]; try rfl)

/-! ## The body at a point -/

/-- The two tables held at a share, one by one. -/
theorem tables_held (c : Dev nD) (v : pre0.Contents (Elt F)) : (Pipeline.ΦT pre0 v c : sProp 𝕄)
    = iprop(owns (c : Thread nD τ) (Memref.whole main_v52) fullShare.right (v 0) ∗ owns (c : Thread nD τ) (Memref.whole main_v36) fullShare.right (v 1)) := by
  have e0 : (owns (c : Thread nD τ) (Memref.whole main_v52) fullShare.right (v 0) : sProp 𝕄) = _ := owns_whole (c : Thread nD τ) main_v52 fullShare.right (v 0)
  have e1 : (owns (c : Thread nD τ) (Memref.whole main_v36) fullShare.right (v 1) : sProp 𝕄) = _ := owns_whole (c : Thread nD τ) main_v36 fullShare.right (v 1)
  rw [e0, e1]
  exact bigSep_univ_eq_bigSepL [(0 : Fin 2), (1 : Fin 2)] (by decide) (by decide) _

/-- The staging buffer of window `w` at point `t`. -/
abbrev stageAt (w : Fin (pipe a).W) (t : Fin (pipe a).N) := ((pipe a).win w).stage ((pipe a).slots t w)

def bodyPre (c : Dev nD) (t : Fin (pipe a).N) : sProp 𝕄 :=
  iprop((dats a V 0 c).Φ t.castSucc ∗ (dats a V 0 c).owesAt () t.castSucc
    ∗ (∃ d, owns (c : Thread nD τ) (stageAt a 0 t) fullShare ((dats a V 0 c).before 0 t d))
    ∗ (∃ d, owns (c : Thread nD τ) (stageAt a 1 t) fullShare ((dats a V 0 c).before 1 t d))
    ∗ (∃ d, owns (c : Thread nD τ) (stageAt a 2 t) fullShare ((dats a V 0 c).before 2 t d))
    ∗ (∃ d, owns (c : Thread nD τ) (stageAt a 3 t) fullShare ((dats a V 0 c).before 3 t d))
    ∗ (∃ d, owns (c : Thread nD τ) (stageAt a 4 t) fullShare ((dats a V 0 c).before 4 t d)))

def bodyPost (c : Dev nD) (t : Fin (pipe a).N) : sProp 𝕄 :=
  iprop((dats a V 0 c).Φ t.succ ∗ (dats a V 0 c).owesAt () t.succ
    ∗ owns (c : Thread nD τ) (stageAt a 0 t) fullShare ((dats a V 0 c).after 0 t)
    ∗ owns (c : Thread nD τ) (stageAt a 1 t) fullShare ((dats a V 0 c).after 1 t)
    ∗ owns (c : Thread nD τ) (stageAt a 2 t) fullShare ((dats a V 0 c).after 2 t)
    ∗ owns (c : Thread nD τ) (stageAt a 3 t) fullShare ((dats a V 0 c).after 3 t)
    ∗ owns (c : Thread nD τ) (stageAt a 4 t) fullShare ((dats a V 0 c).after 4 t))

theorem sound_body (c : Dev nD) (t : Fin (pipe a).N) :
    bodyPre a V c t ⊢ wp frame (wpE (defs₀ (F := F)) Variants.none c none) Set.univ
      (defs₀ (F := F) .tc (pipe a).body ((pipe a).bodyArgs t ((pipe a).slots t))) (fun _ => bodyPost a V c t) := by
  unfold bodyPre bodyPost
  simp only [before_x, before_w1, before_w3, before_w2]
  rw [show (dats a V 0 c).Φ t.succ = (dats a V 0 c).Φ t.castSucc from rfl,
    show (dats a V 0 c).Φ t.castSucc = iprop(Pipeline.ΦA spec0 (c : Dev nD) ∗ Pipeline.ΦT pre0 (a 0).1 c) from rfl,
    show (dats a V 0 c).owesAt () t.succ = (dats a V 0 c).owesAt () t.castSucc from rfl,
    after_x, after_w1, after_w3, after_w2, after_y, tables_held]
  unfold defs₀; rw [Defs.onTc_tc]
  iintro ⟨⟨HΦ, HT0, HT1⟩, Ho, ⟨%d0, H0⟩, ⟨%d1, H1⟩, ⟨%d2, H2⟩, ⟨%d3, H3⟩, ⟨%d4, H4⟩⟩
  iapply (sound_kernel c Set.univ (grid0.coords t) _ _ (Memref.whole main_v36) _ _ _ _ _ _ _ _ _ _ _ ((a 0).1 1) fullShare.right (blockAt a V c 0 t) (blockAt a V c 1 t) (blockAt a V c 2 t) (blockAt a V c 3 t) _)
  isplitl [HT1]; · iexact HT1
  isplitl [H0]; · iexact H0
  isplitl [H1]; · iexact H1
  isplitl [H2]; · iexact H2
  isplitl [H3]; · iexact H3
  isplitl [H4]; · iexists _; iexact H4
  iintro ⟨HT1, H0, H1, H2, H3, H4⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The output window is stored at every point. -/
theorem idle_y (t : Fin (pipe a).N) : idle0 (a 0).1 4 (grid0.coords t) = false := by
  show (!(k0_cond1 (grid0.coords t) ((a 0).1.atD 1 ![0]) == 1#1) && !(k0_cond2 (grid0.coords t) ((a 0).1.atD 1 ![0]) == 1#1)) = false
  generalize (a 0).1.atD (1 : Fin 2) ![0] = n
  have h := cond2_iff (grid0.coords t) n
  by_cases h1 : k0_cond1 (grid0.coords t) n = 1#1
  · rw [h1]; rfl
  · rw [h.mpr h1]; simp

theorem body_obligation (c : Dev nD) : BodyObligation (dats a V 0 c) (defs₀ (F := F)) Variants.none () Set.univ := fun t => by
  rw [bigSep_W0, bigSep_W0]
  refine triple_restated (sound_body a V c t) rfl .rfl fun _ => ?_
  have hi := idle_y a t
  show bodyPost a V c t ⊢ iprop((dats a V 0 c).Φ t.succ ∗ (dats a V 0 c).owesAt () t.succ
    ∗ owns (c : Thread nD τ) (stageAt a 0 t) fullShare ((dats a V 0 c).after 0 t)
    ∗ owns (c : Thread nD τ) (stageAt a 1 t) fullShare ((dats a V 0 c).after 1 t)
    ∗ owns (c : Thread nD τ) (stageAt a 2 t) fullShare ((dats a V 0 c).after 2 t)
    ∗ owns (c : Thread nD τ) (stageAt a 3 t) fullShare ((dats a V 0 c).after 3 t)
    ∗ (match idle0 (a 0).1 4 (grid0.coords t) with
        | true => match ((pipe a).win 4).flush t with
          | false => iprop(∃ d, owns (c : Thread nD τ) (stageAt a 4 t) fullShare ((dats a V 0 c).before 4 t d))
          | true => owns (c : Thread nD τ) (stageAt a 4 t) fullShare ((dats a V 0 c).after 4 t)
        | false => owns (c : Thread nD τ) (stageAt a 4 t) fullShare ((dats a V 0 c).after 4 t)))
  rw [hi]
  exact .rfl

/-! ## The run -/

theorem tail_sub : ∀ ops ∈ [hostOps1 (F := F)], ∀ op ∈ ops, op.bufs ⊆ Pipeline.tailRefs sig pre0 spec0 := by
  intro ops ho op hop
  rw [List.mem_singleton] at ho; subst ho
  refine Pipeline.sub_tailRefs pre0 spec0 op ((List.forall_iff_forall_mem.mp hostOps1_sub) op hop) ?_
  revert op
  simp only [List.forall_mem_cons, List.not_mem_nil, false_implies, implies_true, and_true]
  refine ⟨?_, ?_, ?_, ?_, ?_, ?_, ?_, ?_, ?_, ?_⟩ <;> intro k <;>
    simp only [StableHlo.nullary_bufs, StableHlo.unary_bufs, StableHlo.binary_bufs, StableHlo.ternary_bufs, StableHlo.reshape_bufs, Finset.mem_insert, Finset.mem_singleton, not_or] <;>
    repeat' apply And.intro
  all_goals exact StableHlo.devRef_ne_of_ne (by fin_cases k <;> decide)

theorem tail_fresh : ∀ ops ∈ [hostOps1 (F := F)], ∀ op ∈ ops, op.fresh = ∅ := by
  intro ops ho
  rw [List.mem_singleton] at ho; subst ho
  simp only [List.forall_mem_cons, List.not_mem_nil, false_implies, implies_true, and_true]
  refine ⟨?_, ?_, ?_, ?_, ?_, ?_, ?_, ?_, ?_, ?_⟩ <;> rfl

theorem tail_keep : ∀ ops ∈ [hostOps1 (F := F)], ∀ op ∈ ops, ∀ w, Proc.devRef .tc (Pipeline.arrRef spec0 w) ∉ op.writes := by
  intro ops ho
  rw [List.mem_singleton] at ho; subst ho
  simp only [List.forall_mem_cons, List.not_mem_nil, false_implies, implies_true, and_true]
  refine ⟨?_, ?_, ?_, ?_, ?_, ?_, ?_, ?_, ?_, ?_⟩ <;> intro w <;>
    simp only [StableHlo.nullary_writes, StableHlo.unary_writes, StableHlo.binary_writes, StableHlo.ternary_writes, StableHlo.reshape_writes, Finset.mem_singleton] <;>
    exact StableHlo.devRef_ne_of_ne (by fin_cases w <;> decide)

theorem main_around : Pipeline.HMainPK (Ix := Unit) (Name := ℕ) (U := UR sig nD τ) (Lvl := ℕ) pcfgs 0 (defs₀ (F := F)) Variants.none m main
    (fun c b => U18 m c (Proc.devRef .tc b)) (fun _ => Pipeline.chain ([hostOps1].map StableHlo.seq)) := by
  have h := Pipeline.hmainP_around (Ix := Unit) (Name := ℕ) (U := UR sig nD τ) (Lvl := ℕ) pcfgs 0 (defs₀ (F := F)) Variants.none m main stretches [hostOps1]
    (by simp only [List.Forall]
        exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; repeat' constructor) main_chain
  simp only [after_stretches] at h
  exact h

/-- The launch ends with the arrays the proof data names, the other buffers as the operations after it leave them, and every
    counter at zero. -/
theorem run_main : θ_run defs (onTc (τ := τ) (main (F := F))) ⟨m, fun _ => 0, ρ⟩ (fun r =>
    Pipeline.FramePost (Pipeline.pin pcfgs (adm m)) (dats (adm m) (U18 m)) 0 (Pipeline.afterTail pcfgs (adm m) (dats (adm m) (U18 m)) 0 (U18 m) [hostOps1]) r ∧ r.2.sem = fun _ => 0) :=
  Pipeline.θ_run_frameP_around (Q' := _) pcfgs (adm m) (dats (adm m) (U18 m)) (0 : Fin 1) launch0 defs₀ Variants.none m ρ main
    (hbody := fun c => (body_obligation (adm m) (U18 m) c).loose) (hshare := fun c w => by fin_cases w <;> rfl)
    (howed := fun _ _ => rfl) (V₀ := U18 m) (opss := [hostOps1]) (hsub := tail_sub) (hfresh := tail_fresh) (hkeep := tail_keep)
    (hmain := main_around m) (hA := A_eq (adm m) (U18 m)) (hpf := fun c k => by obtain rfl : c = 0 := Subsingleton.elim _ _; rfl)
    (hΦ := fun _ _ => rfl) (hQ' := fun _ h => h)

/-! ## What the run leaves -/

/-- The buffers after the region: its arrays at what the pipeline leaves, the rest as the region found them. -/
def W18 (c : Dev nD) : Valuation τ sig (Elt F) :=
  Pipeline.withArrays (pipe (adm m)).spec c (U18 m c) fun w => (dats (adm m) (U18 m) 0 c).arrAt w (pipe (adm m)).N

theorem W18_rest (c : Dev nD) (b : Ref sig .tc) (hb : ∀ w, Pipeline.arrRef spec0 w ≠ b) : W18 m c (Proc.devRef .tc b) = U18 m c (Proc.devRef .tc b) :=
  Pipeline.withArrays_of_ne _ c (U18 m c) _ b hb

theorem W18_y (c : Dev nD) : W18 m c (Proc.devRef .tc main_v104) = (dats (adm m) (U18 m) 0 c).arrAt 4 (pipe (adm m)).N :=
  Pipeline.withArrays_arr (pipe (adm m)).spec (launch0 (F := F)).win.arr_inj c (U18 m c) _ 4

/-- The rows of `y` at the positions `d`, laid out as the result. -/
def placed (y : Vec F S135168x1024 .bf16) (d : Vec F S131072 .i32) : Vec F S2x8x8192x1024 .bf16 :=
  shapeCast S2x8x8192x1024
    (Host.gather gather_S135168x1024_S131072x1_S131072x1024_1_0_n_n_0_1_11024 y
      (broadcastInDim S131072x1 ![0] bcast_S131072_S131072x1_0
        (select (cmpi .slt d (broadcastInDim S131072 ![] bcast_S_S131072 (constantI S_ 32 0#32)))
          (addi d (broadcastInDim S131072 ![] bcast_S_S131072 (constantI S_ 32 135168#32))) d)))
    shapeCasts_S131072x1024_S2x8x8192x1024

theorem tail_y (W : Valuation τ sig (Elt F)) : StableHlo.after hostOps1 W (Proc.devRef .tc main_v112) = placed (W (Proc.devRef .tc main_v104)) (W (Proc.devRef .tc main_v32)) := by
  after_reads_simp
  rfl

theorem tail_arg0 (W : Valuation τ sig (Elt F)) : StableHlo.after hostOps1 W (Proc.devRef .tc main_arg0) = W (Proc.devRef .tc main_arg0) := by after_reads_simp
theorem tail_arg1 (W : Valuation τ sig (Elt F)) : StableHlo.after hostOps1 W (Proc.devRef .tc main_arg1) = W (Proc.devRef .tc main_arg1) := by after_reads_simp
theorem tail_arg2 (W : Valuation τ sig (Elt F)) : StableHlo.after hostOps1 W (Proc.devRef .tc main_arg2) = W (Proc.devRef .tc main_arg2) := by after_reads_simp
theorem tail_arg3 (W : Valuation τ sig (Elt F)) : StableHlo.after hostOps1 W (Proc.devRef .tc main_arg3) = W (Proc.devRef .tc main_arg3) := by after_reads_simp
theorem tail_arg4 (W : Valuation τ sig (Elt F)) : StableHlo.after hostOps1 W (Proc.devRef .tc main_arg4) = W (Proc.devRef .tc main_arg4) := by after_reads_simp

/-- The one run: the result, the arguments as they were, the counters at zero. -/
theorem run : θ_run defs (onTc (τ := τ) (main (F := F))) ⟨m, fun _ => 0, ρ⟩ (fun r => (∀ c : Dev nD,
      r.2.mem ((c : Thread nD τ).loc main_v112) = placed ((dats (adm m) (U18 m) 0 c).arrAt 4 (pipe (adm m)).N) (U18 m c (Proc.devRef .tc main_v32))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono (fun r h => ⟨fun c => ?_, h.2⟩) (run_main m ρ)
  have hr : ∀ b ∈ Pipeline.restRefs sig spec0, r.2.mem ((c : Thread nD τ).loc b) = StableHlo.after hostOps1 (W18 m c) (Proc.devRef .tc b) := (h.1 c).2
  refine ⟨(hr main_v112 (by decide)).trans ?_, (hr main_arg0 (by decide)).trans ?_, (hr main_arg1 (by decide)).trans ?_, (hr main_arg2 (by decide)).trans ?_,
    (hr main_arg3 (by decide)).trans ?_, (hr main_arg4 (by decide)).trans ?_⟩
  · rw [tail_y, W18_y, W18_rest m c main_v32 (by decide)]
  · rw [tail_arg0, W18_rest m c main_arg0 (by decide), keep_arg0_18]
  · rw [tail_arg1, W18_rest m c main_arg1 (by decide), keep_arg1_18]
  · rw [tail_arg2, W18_rest m c main_arg2 (by decide), keep_arg2_18]
  · rw [tail_arg3, W18_rest m c main_arg3 (by decide), keep_arg3_18]
  · rw [tail_arg4, W18_rest m c main_arg4 (by decide), keep_arg4_18]

/-- The frame: the arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run m ρ)

end Cert.Experts

end
-- ==== Proof.ExpertSame.lean ====
/-
  The expert program as compiled and idealized has one text: the definitions and the programs are equal.
-/
module

public import proofs.«01_k».proof.Kernel2
public import proofs.«01_k».proof.Proof.Gen.Kernel2
public import proofs.«01_k».proof.Proof.Gen.Kernel2Ideal.Launch
public import Idealize.ShloMosaic.Lib.Pipeline.Frame

@[expose] public section

set_option maxRecDepth 65536
set_option maxHeartbeats 1600000

noncomputable section

namespace Cert.Experts

open Cert.Kernel2Ideal Cert.Kernel2Ideal.Gen
open Idealize.ShloMosaic Idealize.SL.Sem

variable (F : FTy → Type) [FloatOps F]

theorem bodies_same : @Cert.Kernel2.defs₀ F _ _ = @Cert.Kernel2Ideal.defs₀ F _ _ :=
  congrArg Defs.onTc (funext fun l => funext fun a => by
    match l, a with
    | 0, (t, s) => rfl)

theorem defs_same : @Cert.Kernel2.defs F _ _ = @Cert.Kernel2Ideal.defs F _ _ :=
  congrArg (Pipeline.defs _) (bodies_same F)

theorem part0_same (c) : @Cert.Kernel2.main_part0 F _ _ c = Cert.Kernel2Ideal.main_part0 (F := F) c := by
  rw [main_part0_chain]
  rewrite [StableHlo.chainK_seq_cons, Pipeline.chainK_cons, StableHlo.chainK_seq_cons, Pipeline.chainK_cons, StableHlo.chainK_seq_cons,
    Pipeline.chainK_cons, StableHlo.chainK_seq_cons, Pipeline.chainK_cons]
  chain_rfl

theorem part1_same (c) : @Cert.Kernel2.main_part1 F _ _ c = Cert.Kernel2Ideal.main_part1 (F := F) c := by
  rw [main_part1_chain]
  rewrite [StableHlo.chainK_seq_cons, Pipeline.chainK_cons, StableHlo.chainK_seq_cons, Pipeline.chainK_cons, StableHlo.chainK_seq_cons,
    Pipeline.chainK_cons, StableHlo.chainK_seq_cons, Pipeline.chainK_cons, StableHlo.chainK_seq_cons, Pipeline.chainK_cons]
  chain_rfl

theorem part2_same (c) : @Cert.Kernel2.main_part2 F _ _ c = Cert.Kernel2Ideal.main_part2 (F := F) c := by
  rw [main_part2_chain]
  chain_rfl

theorem main_same : @Cert.Kernel2.main F _ _ = Cert.Kernel2Ideal.main (F := F) :=
  funext fun c => by
    unfold Cert.Kernel2.main Cert.Kernel2Ideal.main
    rw [part0_same F c, part1_same F c, part2_same F c]
    rfl

end Cert.Experts

end
-- ==== Proof.ExpertSpec.lean ====
/-
  An expert's output for one token: the gated product through its three matrices.
-/
module

public import Idealize.ShloMosaic.PureOps.Ideal

@[expose] public section

noncomputable section

namespace Cert.Experts

open Idealize.ShloMosaic
open scoped BigOperators

/-- A hidden column: the first product through `y · σ(y)`, times the second. -/
def hidden (x : Fin 1024 → EReal) (u v : Fin 1024 → EReal) : EReal :=
  ((∑ i, x i * u i) * Ideal.logistic (∑ i, x i * u i)) * ∑ i, x i * v i

/-- An expert's output at one column. -/
def expertOut (x : Fin 1024 → EReal) (w1 w3 : Fin 1024 → Fin 3584 → EReal) (w2 : Fin 3584 → EReal) : EReal :=
  ∑ k : Fin 3584, hidden x (fun i => w1 i k) (fun i => w3 i k) * w2 k

end Cert.Experts

end
-- ==== Proof.ExpertValue.lean ====
/-
  The body's tile read at a row: an expert's gated product, the two halves of the hidden columns adding up to the whole
  sum.
-/
module

public import proofs.«01_k».proof.Proof.ExpertBody
public import proofs.«01_k».proof.Proof.ExpertSpec
public import Idealize.ShloMosaic.Lib.MatmulPlain
public import Idealize.ShloMosaic.Lib.Pipeline.Value
public import Idealize.ShloMosaic.Lib.Pointwise.ElementwiseCore

@[expose] public section

set_option maxRecDepth 16384

noncomputable section

namespace Cert.Experts

open Cert.Kernel2Ideal Cert.Kernel2Ideal.Gen
open Idealize.ShloMosaic
open scoped BigOperators

/-- A product of the rows with a block of an up matrix's columns. -/
def upDot (x : FVec Ideal S512x1024 .bf16) (a : FVec Ideal S1x1024x1792 .bf16) : FVec Ideal S512x1792 .f32 :=
  matmul dot_S512x1024_S1024x1792_S512x1792_1_0_0_1_n_n none (shapeCast S512x1024 x shapeCasts_S512x1024_S512x1024)
    (shapeCast S1024x1792 a shapeCasts_S1x1024x1792_S1024x1792) (constant S512x1792 .f32 0x00000000#32)

/-- The rows' share of one half of the hidden columns. -/
def half (x : FVec Ideal S512x1024 .bf16) (a b : FVec Ideal S1x1024x1792 .bf16) (d : FVec Ideal S1x1792x1024 .bf16) : FVec Ideal S512x1024 .f32 :=
  matmul dot_S512x1792_S1792x1024_S512x1024_1_0_0_1_n_n none
    (truncf .bf16 (mulf (mulf (upDot x a) (logistic (upDot x a))) (upDot x b)) bitsLt_bf16_f32 : FVec Ideal S512x1792 .bf16)
    (shapeCast S1792x1024 d shapeCasts_S1x1792x1024_S1792x1024) (constant S512x1024 .f32 0x00000000#32)

theorem upDims : dot_S512x1024_S1024x1792_S512x1792_1_0_0_1_n_n = DotDims.plain 512 1024 1792 := rfl
theorem downDims : dot_S512x1792_S1792x1024_S512x1024_1_0_0_1_n_n = DotDims.plain 512 1792 1024 := rfl

theorem upDot_apply (x : FVec Ideal S512x1024 .bf16) (a : FVec Ideal S1x1024x1792 .bf16) (r : Fin 512) (k : Fin 1792) :
    upDot x a (ValueIdx.ix2 r k) = ∑ i : Fin 1024, (x (ValueIdx.ix2 r i) : EReal) * a (ValueIdx.ix3 (0 : Fin 1) i k) := by
  unfold upDot
  rw [upDims, shapeCast_self]
  refine (Ideal.matmul_plain_apply _ _ _ _ _ _).trans ?_
  rw [show (constant S512x1792 .f32 0x00000000#32 : FVec Ideal S512x1792 .f32) (ValueIdx.ix2 r k) = (0 : EReal) from Ideal.ofBits_zero_f32, zero_add]
  refine Finset.sum_congr rfl fun i _ => congrArg ((x (ValueIdx.ix2 r i) : EReal) * ·) ?_
  refine shapeCast_apply a _ _ (ValueIdx.ix3 (0 : Fin 1) i k) ?_
  rw [Shape.rowMajor_val_three, Shape.rowMajor_val_two]
  show (0 * 1024 + i.val) * 1792 + k.val = i.val * 1792 + k.val
  omega

theorem half_apply (x : FVec Ideal S512x1024 .bf16) (a b : FVec Ideal S1x1024x1792 .bf16) (d : FVec Ideal S1x1792x1024 .bf16) (r : Fin 512) (q : Fin 1024) :
    half x a b d (ValueIdx.ix2 r q) = ∑ k : Fin 1792, hidden (fun i => x (ValueIdx.ix2 r i)) (fun i => a (ValueIdx.ix3 (0 : Fin 1) i k))
      (fun i => b (ValueIdx.ix3 (0 : Fin 1) i k)) * (d (ValueIdx.ix3 (0 : Fin 1) k q) : EReal) := by
  unfold half
  rw [downDims]
  refine (Ideal.matmul_plain_apply _ _ _ _ _ _).trans ?_
  rw [show (constant S512x1024 .f32 0x00000000#32 : FVec Ideal S512x1024 .f32) (ValueIdx.ix2 r q) = (0 : EReal) from Ideal.ofBits_zero_f32, zero_add]
  refine Finset.sum_congr rfl fun k _ => congrArg₂ (fun a b : EReal => a * b) ?_ ?_
  · show (upDot x a (ValueIdx.ix2 r k) * Ideal.logistic (upDot x a (ValueIdx.ix2 r k))) * upDot x b (ValueIdx.ix2 r k) = _
    rw [upDot_apply, upDot_apply]
    rfl
  · refine shapeCast_apply d _ _ (ValueIdx.ix3 (0 : Fin 1) k q) ?_
    rw [Shape.rowMajor_val_three, Shape.rowMajor_val_two]
    show (0 * 1792 + k.val) * 1024 + q.val = k.val * 1024 + q.val
    omega

theorem tile_halves (x : FVec Ideal S512x1024 .bf16) (a b : FVec Ideal S1x1024x1792 .bf16) (d : FVec Ideal S1x1792x1024 .bf16)
    (a' b' : FVec Ideal S1x1024x1792 .bf16) (d' : FVec Ideal S1x1792x1024 .bf16) :
    k0_pay2 x a b d a' b' d' = truncf .bf16 (addf (half x a b d) (half x a' b' d')) bitsLt_bf16_f32 := rfl

/-- A tile in use, read at a row and a column. -/
theorem usedTile_apply (x0 : Vec Ideal S512x1024 .bf16) (x1 x2 : Vec Ideal S1x1024x3584 .bf16) (x3 : Vec Ideal S1x3584x1024 .bf16) (r : Fin 512) (q : Fin 1024) :
    usedTile (F := Ideal) x0 x1 x2 x3 (ValueIdx.ix2 r q)
      = expertOut (fun i => x0 (ValueIdx.ix2 r i)) (fun i k => x1 (ValueIdx.ix3 (0 : Fin 1) i k)) (fun i k => x2 (ValueIdx.ix3 (0 : Fin 1) i k))
          (fun k => x3 (ValueIdx.ix3 (0 : Fin 1) k q)) := by
  have hx : View.ld (Val := Elt Ideal) x0 rowsR = x0 := by
    funext y
    refine congrArg x0 (funext fun a => Fin.ext ?_)
    match a with
    | ⟨0, _⟩ => show 0 + 1 * (y 0).val = (y 0).val; omega
    | ⟨1, _⟩ => show 0 + 1 * (y 1).val = (y 1).val; omega
  have u0 : ∀ (x : Vec Ideal S1x1024x3584 .bf16) (i : Fin 1024) (k : Fin 1792), View.ld (Val := Elt Ideal) x upR0 (ValueIdx.ix3 (0 : Fin 1) i k) = x (ValueIdx.ix3 (0 : Fin 1) i (Fin.castAdd 1792 k)) :=
    fun x i k => congrArg x (funext fun a => Fin.ext (by
      match a with
      | ⟨0, _⟩ => rfl
      | ⟨1, _⟩ => show 0 + 1 * i.val = i.val; omega
      | ⟨2, _⟩ => show 0 + 1 * k.val = k.val; omega))
  have u1 : ∀ (x : Vec Ideal S1x1024x3584 .bf16) (i : Fin 1024) (k : Fin 1792), View.ld (Val := Elt Ideal) x upR1 (ValueIdx.ix3 (0 : Fin 1) i k) = x (ValueIdx.ix3 (0 : Fin 1) i (Fin.natAdd 1792 k)) :=
    fun x i k => congrArg x (funext fun a => Fin.ext (by
      match a with
      | ⟨0, _⟩ => rfl
      | ⟨1, _⟩ => show 0 + 1 * i.val = i.val; omega
      | ⟨2, _⟩ => show 1792 + 1 * k.val = 1792 + k.val; omega))
  have d0 : ∀ (k : Fin 1792), View.ld (Val := Elt Ideal) x3 downR0 (ValueIdx.ix3 (0 : Fin 1) k q) = x3 (ValueIdx.ix3 (0 : Fin 1) (Fin.castAdd 1792 k) q) :=
    fun k => congrArg x3 (funext fun a => Fin.ext (by
      match a with
      | ⟨0, _⟩ => rfl
      | ⟨1, _⟩ => show 0 + 1 * k.val = k.val; omega
      | ⟨2, _⟩ => show 0 + 1 * q.val = q.val; omega))
  have d1 : ∀ (k : Fin 1792), View.ld (Val := Elt Ideal) x3 downR1 (ValueIdx.ix3 (0 : Fin 1) k q) = x3 (ValueIdx.ix3 (0 : Fin 1) (Fin.natAdd 1792 k) q) :=
    fun k => congrArg x3 (funext fun a => Fin.ext (by
      match a with
      | ⟨0, _⟩ => rfl
      | ⟨1, _⟩ => show 1792 + 1 * k.val = 1792 + k.val; omega
      | ⟨2, _⟩ => show 0 + 1 * q.val = q.val; omega))
  unfold usedTile
  rw [hx, tile_halves]
  show half x0 (View.ld (Val := Elt Ideal) x1 upR0) (View.ld (Val := Elt Ideal) x2 upR0) (View.ld (Val := Elt Ideal) x3 downR0) (ValueIdx.ix2 r q)
    + half x0 (View.ld (Val := Elt Ideal) x1 upR1) (View.ld (Val := Elt Ideal) x2 upR1) (View.ld (Val := Elt Ideal) x3 downR1) (ValueIdx.ix2 r q) = _
  rw [half_apply, half_apply]
  unfold expertOut
  rw [show (∑ k : Fin 3584, hidden (fun i => x0 (ValueIdx.ix2 r i)) (fun i => x1 (ValueIdx.ix3 (0 : Fin 1) i k)) (fun i => x2 (ValueIdx.ix3 (0 : Fin 1) i k))
      * (x3 (ValueIdx.ix3 (0 : Fin 1) k q) : EReal)) = _ from Fin.sum_univ_add (a := 1792) (b := 1792) _]
  exact congrArg₂ (fun a b : EReal => a + b)
    (Finset.sum_congr rfl fun k _ => congrArg₂ (fun a b : EReal => a * b) (congrArg₂ (hidden _) (funext fun i => u0 x1 i k) (funext fun i => u0 x2 i k)) (d0 k))
    (Finset.sum_congr rfl fun k _ => congrArg₂ (fun a b : EReal => a * b) (congrArg₂ (hidden _) (funext fun i => u1 x1 i k) (funext fun i => u1 x2 i k)) (d1 k))

end Cert.Experts

end
-- ==== Proof.ExpertArray.lean ====
/-
  The call's output array: every tile's block is what the body leaves there, the blocks cover the array, and a tile's
  blocks of the inputs are its own rows and the planes of its own expert.
-/
module

public import proofs.«01_k».proof.Proof.ExpertValue
public import proofs.«01_k».proof.Proof.ExpertLaunch
public import Idealize.ShloMosaic.Lib.Pipeline.ValueKit
public import Idealize.ShloMosaic.Lib.Pipeline.Covers
public import Idealize.ShloMosaic.Lib.Pipeline.Kit

@[expose] public section

set_option maxRecDepth 16384

noncomputable section

namespace Cert.Experts

open Cert.Kernel2Ideal Cert.Kernel2Ideal.Gen
open Idealize.ShloMosaic Idealize.ShloMosaic.TcCoe
open Idealize.ShloMosaic.Pipeline (Window Dat Grid)

theorem point_val (t : Fin grid0.N) : (grid0.coords t 0).val = t.val := by
  have h := Pipeline.Grid.coords_val (G := grid0) t 0 (S := 1) (B := 264) (by rfl) (by rfl)
  have hN : grid0.N = 264 := by decide
  have := t.isLt
  omega

variable (a : (p : Fin 1) → (pcfgs (F := Ideal) p).Adm) (V : Dev nD → Valuation τ sig (Elt Ideal)) (c : Dev nD)

theorem point_lt (t : Fin (pipe a).N) : t.val < 264 := by
  have h := point_val t
  have h' : (grid0.coords t 0).val < 264 := (grid0.coords t 0).isLt
  omega

theorem word_point (t : Fin (pipe a).N) : (BitVec.ofNat 32 (grid0.coords t 0).val).toNat = t.val := by
  have h := point_lt a t
  rw [point_val, BitVec.toNat_ofNat]
  omega

/-- The rows' block of a point: the tile's own rows. -/
theorem rows_block (t : Fin (pipe a).N) (r : Fin 512) (q : Fin 1024) (p : Fin 135168) (hp : p.val = t.val * 512 + r.val) :
    blockAt a V c 0 t (ValueIdx.ix2 r q) = (V c (Proc.devRef .tc main_v100) : Vec Ideal S135168x1024 .bf16) (ValueIdx.ix2 p q) := by
  refine congrArg (V c (Proc.devRef .tc main_v100) : Vec Ideal S135168x1024 .bf16) (funext fun e => Fin.ext ?_)
  match e with
  | ⟨0, _⟩ =>
    refine (Window.rect_emb_val ((pipe a).win 0) t (ValueIdx.ix2 r q) (0 : Fin 2)).trans ?_
    show (BitVec.ofNat 32 (grid0.coords t 0).val).toNat * 512 + r.val = p.val
    rw [word_point, hp]
  | ⟨1, _⟩ =>
    refine (Window.rect_emb_val ((pipe a).win 0) t (ValueIdx.ix2 r q) (1 : Fin 2)).trans ?_
    show 0 * 1024 + q.val = q.val
    omega

/-- The expert of a point's tile. -/
def planeAt (t : Fin (pipe a).N) : ℕ := (((a 0).1 0 : Vec Ideal S264 .i32) (ValueIdx.ix1 ⟨t.val, point_lt a t⟩)).toNat

theorem plane_index (t : Fin (pipe a).N) : ((pipe a).win 1).index t (0 : Fin 3) = planeAt a t := by
  show (((a 0).1 0 : Vec Ideal S264 .i32) _).toNat = _
  unfold planeAt
  refine congrArg (fun i => (((a 0).1 0 : Vec Ideal S264 .i32) i).toNat) (funext fun e => Fin.ext ?_)
  match e with
  | ⟨0, _⟩ =>
    show (BitVec.ofNat 32 (grid0.coords t 0).val).toNat + 1 * 0 = t.val
    rw [word_point]
    rfl

theorem up_block (t : Fin (pipe a).N) (n : Fin 8) (hn : planeAt a t = n.val) (i : Fin 1024) (k : Fin 3584) :
    blockAt a V c 1 t (ValueIdx.ix3 (0 : Fin 1) i k) = (V c (Proc.devRef .tc main_v101) : Vec Ideal S8x1024x3584 .bf16) (ValueIdx.ix3 n i k) := by
  refine congrArg (V c (Proc.devRef .tc main_v101) : Vec Ideal S8x1024x3584 .bf16) (funext fun e => Fin.ext ?_)
  match e with
  | ⟨0, _⟩ =>
    refine (Window.rect_emb_val ((pipe a).win 1) t (ValueIdx.ix3 (0 : Fin 1) i k) (0 : Fin 3)).trans ?_
    show ((pipe a).win 1).index t (0 : Fin 3) * 1 + 0 = n.val
    rw [plane_index, hn]; omega
  | ⟨1, _⟩ =>
    refine (Window.rect_emb_val ((pipe a).win 1) t (ValueIdx.ix3 (0 : Fin 1) i k) (1 : Fin 3)).trans ?_
    show 0 * 1024 + i.val = i.val
    omega
  | ⟨2, _⟩ =>
    refine (Window.rect_emb_val ((pipe a).win 1) t (ValueIdx.ix3 (0 : Fin 1) i k) (2 : Fin 3)).trans ?_
    show 0 * 3584 + k.val = k.val
    omega

theorem gate_block (t : Fin (pipe a).N) (n : Fin 8) (hn : planeAt a t = n.val) (i : Fin 1024) (k : Fin 3584) :
    blockAt a V c 2 t (ValueIdx.ix3 (0 : Fin 1) i k) = (V c (Proc.devRef .tc main_v102) : Vec Ideal S8x1024x3584 .bf16) (ValueIdx.ix3 n i k) := by
  refine congrArg (V c (Proc.devRef .tc main_v102) : Vec Ideal S8x1024x3584 .bf16) (funext fun e => Fin.ext ?_)
  match e with
  | ⟨0, _⟩ =>
    refine (Window.rect_emb_val ((pipe a).win 2) t (ValueIdx.ix3 (0 : Fin 1) i k) (0 : Fin 3)).trans ?_
    show ((pipe a).win 1).index t (0 : Fin 3) * 1 + 0 = n.val
    rw [plane_index, hn]; omega
  | ⟨1, _⟩ =>
    refine (Window.rect_emb_val ((pipe a).win 2) t (ValueIdx.ix3 (0 : Fin 1) i k) (1 : Fin 3)).trans ?_
    show 0 * 1024 + i.val = i.val
    omega
  | ⟨2, _⟩ =>
    refine (Window.rect_emb_val ((pipe a).win 2) t (ValueIdx.ix3 (0 : Fin 1) i k) (2 : Fin 3)).trans ?_
    show 0 * 3584 + k.val = k.val
    omega

theorem down_block (t : Fin (pipe a).N) (n : Fin 8) (hn : planeAt a t = n.val) (k : Fin 3584) (q : Fin 1024) :
    blockAt a V c 3 t (ValueIdx.ix3 (0 : Fin 1) k q) = (V c (Proc.devRef .tc main_v103) : Vec Ideal S8x3584x1024 .bf16) (ValueIdx.ix3 n k q) := by
  refine congrArg (V c (Proc.devRef .tc main_v103) : Vec Ideal S8x3584x1024 .bf16) (funext fun e => Fin.ext ?_)
  match e with
  | ⟨0, _⟩ =>
    refine (Window.rect_emb_val ((pipe a).win 3) t (ValueIdx.ix3 (0 : Fin 1) k q) (0 : Fin 3)).trans ?_
    show ((pipe a).win 1).index t (0 : Fin 3) * 1 + 0 = n.val
    rw [plane_index, hn]; omega
  | ⟨1, _⟩ =>
    refine (Window.rect_emb_val ((pipe a).win 3) t (ValueIdx.ix3 (0 : Fin 1) k q) (1 : Fin 3)).trans ?_
    show 0 * 3584 + k.val = k.val
    omega
  | ⟨2, _⟩ =>
    refine (Window.rect_emb_val ((pipe a).win 3) t (ValueIdx.ix3 (0 : Fin 1) k q) (2 : Fin 3)).trans ?_
    show 0 * 1024 + q.val = q.val
    omega

/-- The array the blocks make up. -/
def rowsOut : Vec Ideal S135168x1024 .bf16 := fun i =>
  leftAt a V c ⟨(i 0).val / 512, by
    have h : (i 0).val < 135168 := (i 0).isLt
    have hN : (pipe a).N = 264 := by show grid0.N = 264; decide
    omega⟩ (ValueIdx.ix2 ⟨(i 0).val % 512, Nat.mod_lt _ (by norm_num)⟩ ⟨(i 1).val, (i 1).isLt⟩)

theorem covers : ((pipe a).win 4).Covers :=
  Window.covers_of_indexMap_surj _ rfl (fun e => by
    match e with
    | ⟨0, _⟩ => show 0 < 512; norm_num
    | ⟨1, _⟩ => show 0 < 1024; norm_num) fun β => by
    have h0 : (β (0 : Fin 2)).val < 264 := lt_of_lt_of_eq (β (0 : Fin 2)).isLt (by show (135168 + 512 - 1) / 512 = 264; norm_num)
    have h1 : (β (1 : Fin 2)).val < 1 := lt_of_lt_of_eq (β (1 : Fin 2)).isLt (by show (1024 + 1024 - 1) / 1024 = 1; norm_num)
    refine ⟨fun d => ⟨(β (0 : Fin 2)).val, by obtain rfl : d = 0 := Subsingleton.elim _ _; exact h0⟩, fun e => ?_⟩
    match e with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega

theorem out_array : (dats a V 0 c).arrAt 4 (pipe a).N = rowsOut a V c := by
  refine (dats a V 0 c).arrAt_eq_of_covers 4 _ (covers a) fun t _ (y : S512x1024.Idx) => ?_
  have h0 : (y 0).val < 512 := (y 0).isLt
  have h1 : (y 1).val < 1024 := (y 1).isLt
  have ht := point_lt a t
  rw [after_y]
  have e0 : ((((pipe a).win 4).rect t).emb y (0 : Fin 2)).val = t.val * 512 + (y 0).val := by
    refine (Window.rect_emb_val ((pipe a).win 4) t y (0 : Fin 2)).trans ?_
    show (BitVec.ofNat 32 (grid0.coords t 0).val).toNat * 512 + (y 0).val = _
    rw [word_point]
  have e1 : ((((pipe a).win 4).rect t).emb y (1 : Fin 2)).val = (y 1).val := by
    refine (Window.rect_emb_val ((pipe a).win 4) t y (1 : Fin 2)).trans ?_
    show 0 * 1024 + (y 1).val = _
    omega
  show leftAt a V c t y = rowsOut a V c ((((pipe a).win 4).rect t).emb y)
  unfold rowsOut
  have key : ∀ (p : ℕ) (hp : p < (pipe a).N) (r q : ℕ) (hr : r < 512) (hq : q < 1024), p = t.val → r = (y 0).val → q = (y 1).val →
      leftAt a V c t y = leftAt a V c ⟨p, hp⟩ (ValueIdx.ix2 ⟨r, hr⟩ ⟨q, hq⟩) := by
    intro p hp r q hr hq ep er eq
    subst ep er eq
    refine congrArg (leftAt a V c t) (funext fun e => ?_)
    match e with
    | ⟨0, _⟩ => rfl
    | ⟨1, _⟩ => rfl
  exact key _ _ _ _ _ _ (by rw [e0]; omega) (by rw [e0]; omega) e1

end Cert.Experts

end
-- ==== Proof.ExpertPlan.lean ====
/-
  The routing on natural numbers: how many rows before row `j` go to its expert, where each expert's padded block of rows
  begins, which tile belongs to whom, and where the stable sort by expert puts row `j`.
-/
module

public import Idealize.ShloMosaic.Lib.Routing.Ops
public import Idealize.ShloMosaic.Lib.Routing.OpsOne
public import Idealize.ShloMosaic.Lib.Routing.OpsSet
public import Idealize.ShloMosaic.Lib.Routing.OpsPair
public import Idealize.ShloMosaic.Lib.Routing.Count
public import Idealize.ShloMosaic.Lib.PlanTiles.Sort4
public import Idealize.ShloMosaic.Lib.ValueIdx

@[expose] public section

namespace Cert.Experts

open Idealize.ShloMosaic Idealize.ShloMosaic.Routing

/-- How many of the first `n` rows go to expert `x`. -/
def cnt (e : Nat → Nat) (x n : Nat) : Nat := Nat.count (fun i => e i = x) n

/-- The sum of the first `k` values. -/
def pre (f : Nat → Nat) (k : Nat) : Nat := ((List.range k).map f).sum

/-- A count raised to a whole number of tiles. -/
def pad (n : Nat) : Nat := (n + 511) / 512 * 512

theorem pre_succ (f : Nat → Nat) (k : Nat) : pre f (k + 1) = pre f k + f k := by
  simp [pre, List.range_succ]

theorem pre_mono (f : Nat → Nat) {a b : Nat} (h : a ≤ b) : pre f a ≤ pre f b := by
  induction b with
  | zero => rw [Nat.le_zero.1 h]
  | succ b ih =>
    rcases Nat.lt_or_eq_of_le h with h' | rfl
    · rw [pre_succ]; have := ih (by omega); omega
    · exact le_rfl

theorem le_pad (n : Nat) : n ≤ pad n := by unfold pad; omega

theorem pad_le (n : Nat) : pad n ≤ n + 511 := by unfold pad; omega

theorem pre_pad_le (f : Nat → Nat) (k : Nat) : pre (fun x => pad (f x)) k ≤ pre f k + 511 * k := by
  induction k with
  | zero => simp [pre]
  | succ k ih => rw [pre_succ, pre_succ]; have := pad_le (f k); omega

theorem pre_pad_tiles (f : Nat → Nat) (k : Nat) : pre (fun x => pad (f x)) k % 512 = 0 := by
  induction k with
  | zero => simp [pre]
  | succ k ih => rw [pre_succ]; unfold pad at *; omega

theorem cnt_succ (e : Nat → Nat) (x n : Nat) : cnt e x (n + 1) = cnt e x n + if e n = x then 1 else 0 := Nat.count_succ _ _

theorem cnt_le (e : Nat → Nat) (x n : Nat) : cnt e x n ≤ n := Nat.count_le _

theorem cnt_lt (e : Nat → Nat) {j n : Nat} (h : j < n) : cnt e (e j) j < cnt e (e j) n := Nat.count_strict_mono rfl h

theorem count_below (e : Nat → Nat) (n y : Nat) : Nat.count (fun i => e i < y) n = pre (fun x => cnt e x n) y := by
  cases y with
  | zero => simp [pre]
  | succ y =>
    have := sum_count_eq e y n
    unfold pre cnt
    rw [this]
    exact count_congr_of_lt n fun i _ => Nat.lt_succ_iff

theorem pre_cnt (e : Nat → Nat) (n : Nat) (he : ∀ i, i < n → e i < 8) : pre (fun x => cnt e x n) 8 = n := by
  rw [← count_below]
  exact Nat.count_iff_forall.2 fun {i} hi => he i hi

theorem count_or (A B : Nat → Prop) [DecidablePred A] [DecidablePred B] (n : Nat) (h : ∀ i, A i → ¬ B i) :
    Nat.count (fun i => A i ∨ B i) n = Nat.count A n + Nat.count B n := by
  induction n with
  | zero => simp
  | succ n ih =>
    rw [Nat.count_succ, Nat.count_succ, Nat.count_succ, ih]
    have := h n
    by_cases ha : A n <;> by_cases hb : B n <;> simp_all <;> omega

/-- Where row `j` stands once the rows are sorted by expert: after the rows of lower experts and the earlier rows of its own. -/
def sortPlace (e : Nat → Nat) (n j : Nat) : Nat := pre (fun x => cnt e x n) (e j) + cnt e (e j) j

theorem count_before (e : Nat → Nat) {n j : Nat} (h : j < n) :
    Nat.count (fun i => e i < e j ∨ (i < j ∧ e i = e j)) n = sortPlace e n j := by
  rw [count_or _ _ _ (fun i a b => by omega), count_below]
  unfold sortPlace
  congr 1
  exact count_and e h
where
  count_and (e : Nat → Nat) {n j : Nat} (h : j < n) : Nat.count (fun i => i < j ∧ e i = e j) n = cnt e (e j) j := by
    obtain ⟨d, rfl⟩ := Nat.exists_eq_add_of_le h.le
    have h2 : Nat.count (fun k => j + k < j ∧ e (j + k) = e j) d = 0 := Nat.count_iff_forall_not.mpr fun m _ hq => by have := hq.1; omega
    rw [Nat.count_add, h2, Nat.add_zero]
    exact count_congr_of_lt j fun i hi => ⟨fun h => h.2, fun h => ⟨hi, h⟩⟩

theorem sortPlace_lt (e : Nat → Nat) {n j : Nat} (h : j < n) : sortPlace e n j < n := by
  rw [← count_before e h]
  rcases Nat.lt_or_eq_of_le (Nat.count_le (p := fun i => e i < e j ∨ (i < j ∧ e i = e j)) (n := n)) with hh | hh
  · exact hh
  · have := Nat.count_iff_forall.1 hh j h
    omega

/-- The stable sort by expert puts row `j` at its place. -/
theorem sorted_at (e : Nat → Nat) {n : Nat} (he : ∀ i, i < n → e i < 8) (j : Fin n) :
    sortedFrom (fun a b : Fin n => decide (e a.val < e b.val)) ⟨sortPlace e n j.val, sortPlace_lt e j.isLt⟩ = j := by
  set T : Fin n → Fin n → Bool := fun a b => decide (e a.val < e b.val) with hT
  have hT' : T = fun a b => decide ((fun k : Fin n => 7 - e k.val) b < (fun k : Fin n => 7 - e k.val) a) := by
    funext a b
    have := he a.val a.isLt; have := he b.val b.isLt
    simp only [hT, decide_eq_decide]
    omega
  have hpw : (sortPositions n T).Pairwise (fun a b : Fin n => e a.val < e b.val ∨ (a.val < b.val ∧ e a.val = e b.val)) := by
    have := PlanTiles.pairwise_stableSort_lex (fun k : Fin n => 7 - e k.val) (· < ·) (List.finRange n) (List.pairwise_lt_finRange n)
    unfold sortPositions
    rw [hT']
    refine this.imp fun {a b} h => ?_
    have := he a.val a.isLt; have := he b.val b.isLt
    rcases h with h | ⟨h, h'⟩
    · left; simp only at h; omega
    · right; exact ⟨h', by simp only at h; omega⟩
  have hmono : ∀ a b : Fin n, a < b → (e (sortedFrom T a).val < e (sortedFrom T b).val ∨
      ((sortedFrom T a).val < (sortedFrom T b).val ∧ e (sortedFrom T a).val = e (sortedFrom T b).val)) := fun a b hab => by
    unfold sortedFrom
    exact List.pairwise_iff_get.1 hpw _ _ (by simpa using hab)
  obtain ⟨r, hr⟩ := sortedFrom_surjective T j
  have hinj : Function.Injective (sortedFrom T) := sortedFrom_injective T
  have hcard : r.val = sortPlace e n j.val := by
    rw [← count_before e j.isLt, ← card_filter_fin, ← Fin.card_Iio r]
    refine Finset.card_bij (fun a _ => sortedFrom T a) (fun a ha => ?_) (fun a _ b _ h => hinj h) (fun b hb => ?_)
    · refine Finset.mem_filter.2 ⟨Finset.mem_univ _, ?_⟩
      have := hmono a r (Finset.mem_Iio.1 ha)
      rw [hr] at this
      exact this
    · obtain ⟨a, ha⟩ := sortedFrom_surjective T b
      refine ⟨a, ?_, ha⟩
      have hb' := (Finset.mem_filter.1 hb).2
      rw [Finset.mem_Iio]
      rcases lt_trichotomy a r with h | h | h
      · exact h
      · exfalso
        rw [← ha, h, hr] at hb'
        omega
      · exfalso
        have := hmono r a h
        rw [hr, ha] at this
        omega
  have : (⟨sortPlace e n j.val, sortPlace_lt e j.isLt⟩ : Fin n) = r := Fin.ext hcard.symm
  rw [this, hr]

/-- Of the experts, those whose blocks end at or before the tile holding row `k` of block `x` are the ones before `x`. -/
theorem tile_of_row (f : Nat → Nat) {x k : Nat} (hx : x < 8) (hk : k < pad (f x)) :
    Nat.count (fun q => pre (fun y => pad (f y)) (q + 1) ≤ (pre (fun y => pad (f y)) x + k) / 512 * 512) 8 = x := by
  have h0 := pre_pad_tiles f x
  have h1 := pre_succ (fun y => pad (f y)) x
  have h2 : ∀ q, q < 8 → (pre (fun y => pad (f y)) (q + 1) ≤ (pre (fun y => pad (f y)) x + k) / 512 * 512 ↔ q < x) := fun q _ => by
    constructor
    · intro h
      by_contra hq
      have := pre_mono (fun y => pad (f y)) (show x + 1 ≤ q + 1 by omega)
      omega
    · intro h
      have := pre_mono (fun y => pad (f y)) (show q + 1 ≤ x by omega)
      omega
  rw [count_congr_of_lt 8 h2]
  interval_cases x <;> decide

/-- The sum of a row that holds one number, zeros besides, is that number. -/
theorem reduce_single {n k : Nat} (x : IVec (shape2 n k) 32) (h : (shape2 n k).ReducesTo [1] (shape1 n)) (hu : 0 < shape0.numel)
    (i : Fin n) (q0 : Fin k) (v : BitVec 32) (hx : ∀ q : Fin k, x (ValueIdx.ix2 i q) = if q = q0 then v else 0#32) :
    Host.reduce IntOp.addi x (constantI shape0 32 0#32) h hu (ValueIdx.ix1 i) = v := by
  have hdrop : ∀ j : (shape2 n k).Idx, h.drop j = ValueIdx.ix1 i ↔ j 0 = i := fun j => by
    have hv : (h.drop j 0 : Nat) = j 0 := Shape.ReducesTo.drop_apply_val h j 0
    constructor
    · intro e; rw [e] at hv; exact Fin.ext hv.symm
    · intro e; funext b; have hb : b = 0 := Subsingleton.elim _ _; subst hb; exact Fin.ext (by rw [hv, e]; rfl)
  have hval : ∀ j : (shape2 n k).Idx, h.drop j = ValueIdx.ix1 i → x j = BitVec.ofNat 32 (if j = ValueIdx.ix2 i q0 then v.toNat else 0) := fun j hj => by
    have h0 := (hdrop j).1 hj
    obtain ⟨q, hq⟩ : ∃ q : Fin k, q = j 1 := ⟨_, rfl⟩
    have hj' : j = ValueIdx.ix2 i q := by
      funext b; match b with
      | ⟨0, _⟩ => exact h0
      | ⟨1, _⟩ => exact hq.symm
    rw [hj', hx]
    by_cases hq : q = q0
    · rw [if_pos hq, hq, if_pos rfl]; simp
    · rw [if_neg hq, if_neg (fun e => hq (congrFun e 1))]
  unfold Host.reduce
  set l := (List.finRange (shape2 n k).numel).filter fun a => h.drop ((shape2 n k).rowMajor.symm a) = ValueIdx.ix1 i with hl
  refine (foldl_addi_ofNat l _ (fun a => if a = (shape2 n k).rowMajor (ValueIdx.ix2 i q0) then v.toNat else 0) (fun a ha => ?_) _ 0 rfl).trans ?_
  · rw [hval _ (by simpa [hl] using ha)]
    simp only [Equiv.symm_apply_eq]
  · have hmem : (shape2 n k).rowMajor (ValueIdx.ix2 i q0) ∈ l := by
      rw [hl, List.mem_filter]
      refine ⟨List.mem_finRange _, ?_⟩
      rw [Equiv.symm_apply_apply]
      exact decide_eq_true ((hdrop _).2 rfl)
    have hnd : l.Nodup := (List.nodup_finRange _).filter _
    have : (l.map fun a => if a = (shape2 n k).rowMajor (ValueIdx.ix2 i q0) then v.toNat else 0).sum = v.toNat := by
      rw [← List.sum_toFinset _ hnd, Finset.sum_ite_eq' , if_pos (List.mem_toFinset.2 hmem)]
    rw [this, Nat.zero_add]
    simp

end Cert.Experts

end
-- ==== Proof.ExpertRanks.lean ====
/-
  The first half of the routing as the host computes it, read on natural numbers: the rank of each row within its expert,
  the experts' padded blocks, the row each gathered row goes to, and the number of tiles in use.
-/
module

public import proofs.«01_k».proof.Proof.ExpertPlan
public import proofs.«01_k».proof.Proof.ExpertTile
public import Idealize.ShloMosaic.Lib.Routing.Model

@[expose] public section

set_option maxRecDepth 16384

noncomputable section

namespace Cert.Experts

open Cert.Kernel2Ideal Cert.Kernel2Ideal.Gen
open Idealize.ShloMosaic Idealize.ShloMosaic.TcCoe Idealize.ShloMosaic.Routing

/-- A difference of words that does not pass zero. -/
theorem sub_word {a b : ℕ} (h : b ≤ a) : BitVec.ofNat 32 a - BitVec.ofNat 32 b = BitVec.ofNat 32 (a - b) := by
  obtain ⟨d, rfl⟩ := Nat.exists_eq_add_of_le h
  rw [Nat.add_sub_cancel_left, BitVec.ofNat_add, BitVec.add_comm, BitVec.add_sub_cancel]

/-- An index that is no negative number stays as it is when negative ones are raised. -/
theorem wrapped_ap {n : ℕ} (v z k : IVec (shape1 n) 32) (p : Fin n) {a : ℕ} (ha : a < 2 ^ 31) (hv : v (ValueIdx.ix1 p) = BitVec.ofNat 32 a)
    (hz : z (ValueIdx.ix1 p) = 0#32) : select (cmpi .slt v z) (addi v k) v (ValueIdx.ix1 p) = BitVec.ofNat 32 a := by
  show Scalar.select (IntOp.cmpi .slt (v (ValueIdx.ix1 p)) (z (ValueIdx.ix1 p))) (addi v k (ValueIdx.ix1 p)) (v (ValueIdx.ix1 p)) = _
  rw [hz, wrap_of_lt _ _ (by rw [hv, BitVec.toNat_ofNat]; omega), hv]

/-- Which expert each row goes to, as ones and zeros. -/
def oneHot (r : IVec S131072 32) : IVec S131072x8 32 :=
  extui 32 (cmpi .eq (broadcastInDim S131072x8 ![0, 1] bcast_S131072x1_S131072x8_0_1 (broadcastInDim S131072x1 ![0] bcast_S131072_S131072x1_0 r))
    (broadcastInDim S131072x8 ![0, 1] bcast_S1x8_S131072x8_0_1 (broadcastInDim S1x8 ![1] bcast_S8_S1x8_1 (iotaInDim S8 32 0)))) natLt_1_32

/-- The starts looked up at each row's expert, and the row's rank added. -/
def destOf (starts : IVec S8 32) (r rank : IVec S131072 32) : IVec S131072 32 :=
  addi (Host.gather gather_S8_S131072x1_S131072_n_0_n_n_0_1_1 starts (broadcastInDim S131072x1 ![0] bcast_S131072_S131072x1_0
    (select (cmpi .slt r (broadcastInDim S131072 ![] bcast_S_S131072 (constantI S_ 32 0#32)))
      (addi r (broadcastInDim S131072 ![] bcast_S_S131072 (constantI S_ 32 8#32))) r))) rank

section Reads
variable {F : FTy → Type} [FloatOps F]
variable (m : (ℓ : Loc nD τ sig) → Buf (Elt F) ℓ) (c : Dev nD)

theorem U0_v8 : U0 m c (Proc.devRef .tc main_v8) = oneHot (U0 m c (Proc.devRef .tc main_v1)) := by
  unfold U0
  generalize (fun b => m (c, b)) = W
  after_reads_simp
  rfl

theorem U1_v9 : U1 m c (Proc.devRef .tc main_v9) = Host.reduceWindow IntOp.addi ![131072, 1] ![1, 1] ![131071, 0] ![0, 0] (U0 m c (Proc.devRef .tc main_v8) : IVec S131072x8 32)
    (broadcastInDim S_ ![] bcast_S_S_ (constantI S_ 32 0#32)) reduceWindows_S131072x8_S131072x8_w131072s1p131071_0_w1s1p0_0 h_S_ := by
  unfold U1
  generalize U0 m c = W
  after_reads_simp
  simp -implicitDefEqProofs only [StableHlo.TRef.ofBuf_toBuf, StableHlo.TRef.ofBuf, StableHlo.TRef.toBuf, cast_eq, id]

theorem U2_v13 : U2 m c (Proc.devRef .tc main_v13) = Host.reduce IntOp.addi (muli (U1 m c (Proc.devRef .tc main_v8) : IVec S131072x8 32)
    (subi (U1 m c (Proc.devRef .tc main_v9) : IVec S131072x8 32) (broadcastInDim S131072x8 ![] bcast_S_S131072x8 (constantI S_ 32 1#32)))) (constantI S_ 32 0#32)
    reducesTo_S131072x8_S131072_d1 h_S_ := by
  unfold U2
  generalize U1 m c = W
  after_reads_simp

theorem U2_v15 : U2 m c (Proc.devRef .tc main_v15) = shapeCast S8 (extractStridedSlice S1x8 ![131071, 0] (U1 m c (Proc.devRef .tc main_v9) : IVec S131072x8 32)
    slices_S131072x8_S1x8_131071_0) shapeCasts_S1x8_S8 := by
  unfold U2
  generalize U1 m c = W
  after_reads_simp
  rfl

theorem U2_v19 : U2 m c (Proc.devRef .tc main_v19) = subi (addi (U2 m c (Proc.devRef .tc main_v15) : IVec S8 32) (broadcastInDim S8 ![] bcast_S_S8 (constantI S_ 32 512#32)))
    (broadcastInDim S8 ![] bcast_S_S8 (constantI S_ 32 1#32)) := by
  unfold U2
  generalize U1 m c = W
  after_reads_simp

theorem U2_c3 : U2 m c (Proc.devRef .tc main_c_3) = constantI S_ 32 512#32 := by
  unfold U2
  generalize U1 m c = W
  after_reads_simp

theorem U3_v20 : U3 m c (Proc.devRef .tc main_v20) = pyDiv bcast_S_S8 (U2 m c (Proc.devRef .tc main_v19) : IVec S8 32) (U2 m c (Proc.devRef .tc main_c_3) : IVec S_ 32) := by
  unfold U3
  generalize U2 m c = W
  after_reads_simp
  simp -implicitDefEqProofs only [StableHlo.TRef.ofBuf_toBuf, StableHlo.TRef.ofBuf, StableHlo.TRef.toBuf, cast_eq, id]
  rfl

theorem U4_v22 : U4 m c (Proc.devRef .tc main_v22) = muli (U3 m c (Proc.devRef .tc main_v20) : IVec S8 32) (broadcastInDim S8 ![] bcast_S_S8 (constantI S_ 32 512#32)) := by
  unfold U4
  generalize U3 m c = W
  after_reads_simp

theorem U5_v23 : U5 m c (Proc.devRef .tc main_v23) = Host.reduceWindow IntOp.addi ![8] ![1] ![7] ![0] (U4 m c (Proc.devRef .tc main_v22) : IVec S8 32)
    (broadcastInDim S_ ![] bcast_S_S_ (constantI S_ 32 0#32)) reduceWindows_S8_S8_w8s1p7_0 h_S_ := by
  unfold U5
  generalize U4 m c = W
  after_reads_simp
  simp -implicitDefEqProofs only [StableHlo.TRef.ofBuf_toBuf, StableHlo.TRef.ofBuf, StableHlo.TRef.toBuf, cast_eq, id]

theorem U6_v24 : U6 m c (Proc.devRef .tc main_v24) = subi (U5 m c (Proc.devRef .tc main_v23) : IVec S8 32) (U5 m c (Proc.devRef .tc main_v22)) := by
  unfold U6
  generalize U5 m c = W
  after_reads_simp

theorem U6_v32 : U6 m c (Proc.devRef .tc main_v32) = destOf (U6 m c (Proc.devRef .tc main_v24)) (U5 m c (Proc.devRef .tc main_v1)) (U5 m c (Proc.devRef .tc main_v13)) := by
  unfold U6
  generalize U5 m c = W
  after_reads_simp
  rfl

theorem U6_v34 : U6 m c (Proc.devRef .tc main_v34) = shapeCast S_ (extractStridedSlice S1 ![7] (U5 m c (Proc.devRef .tc main_v23) : IVec S8 32) slices_S8_S1_7) shapeCasts_S1_S_ := by
  unfold U6
  generalize U5 m c = W
  after_reads_simp
  rfl

theorem U6_c7 : U6 m c (Proc.devRef .tc main_c_7) = constantI S_ 32 512#32 := by
  unfold U6
  generalize U5 m c = W
  after_reads_simp

theorem U7_v35 : U7 m c (Proc.devRef .tc main_v35) = pyDiv0 (U6 m c (Proc.devRef .tc main_v34) : IVec S_ 32) (U6 m c (Proc.devRef .tc main_c_7) : IVec S_ 32) := by
  unfold U7
  generalize U6 m c = W
  after_reads_simp
  simp -implicitDefEqProofs only [StableHlo.TRef.ofBuf_toBuf, StableHlo.TRef.ofBuf, StableHlo.TRef.toBuf, cast_eq, id]
  rfl

theorem U8_v36 : U8 m c (Proc.devRef .tc main_v36) = shapeCast S1 (U7 m c (Proc.devRef .tc main_v35) : IVec S_ 32) shapeCasts_S_S1 := by
  unfold U8
  generalize U7 m c = W
  after_reads_simp
  rfl

end Reads

section Values
variable {F : FTy → Type} [FloatOps F]
variable (m : (ℓ : Loc nD τ sig) → Buf (Elt F) ℓ) (c : Dev nD)
variable (e : ℕ → ℕ) (he : ∀ i, i < 131072 → e i < 8)
  (hv : ∀ j : Fin 131072, (U0 m c (Proc.devRef .tc main_v1) : IVec S131072 32) (ValueIdx.ix1 j) = BitVec.ofNat 32 (e j.val))

theorem init_zero : (broadcastInDim S_ ![] bcast_S_S_ (constantI S_ 32 0#32) : IVec S_ 32) ValueIdx.ix0 = 0#32 := by rw [bc0]; rfl

include he hv in
theorem v8_at (j : Fin 131072) (x : Fin 8) :
    (U0 m c (Proc.devRef .tc main_v8) : IVec S131072x8 32) (ValueIdx.ix2 j x) = BitVec.ofNat 32 (if e j.val = x.val then 1 else 0) := by
  rw [U0_v8]
  unfold oneHot
  refine (WordCmp.extui_at ..).trans ?_
  rw [WordCmp.cmpi_at, bcRows, bcCols, hv]
  have h1 := he j.val j.isLt
  have h2 := x.isLt
  show BitVec.setWidth 32 (IntOp.cmpi .eq (BitVec.ofNat 32 (e j.val)) (BitVec.ofNat 32 x.val)) = _
  by_cases h : e j.val = x.val
  · rw [if_pos h, h]; simp [IntOp.cmpi]
  · have : BitVec.ofNat 32 (e j.val) ≠ BitVec.ofNat 32 x.val := fun hh => h (by
      have := congrArg BitVec.toNat hh
      rw [BitVec.toNat_ofNat, BitVec.toNat_ofNat, Nat.mod_eq_of_lt (by omega), Nat.mod_eq_of_lt (by omega)] at this
      exact this)
    rw [if_neg h]; simp [IntOp.cmpi, beq_eq_false_iff_ne.2 this]

theorem pre_ones (e : ℕ → ℕ) (x n : ℕ) : ((List.range n).map fun i => if e i = x then 1 else 0).sum = cnt e x n := sum_map_ite _ _

include he hv in
theorem v9_at (j : Fin 131072) (x : Fin 8) :
    (U1 m c (Proc.devRef .tc main_v9) : IVec S131072x8 32) (ValueIdx.ix2 j x) = BitVec.ofNat 32 (cnt e x.val (j.val + 1)) := by
  rw [U1_v9]
  exact (cumsum_rows (R := 131072) (Rm1 := 131071) (C := 8) (by norm_num) _ (fun i x => if e i = x then 1 else 0) (v8_at m c e he hv) _ init_zero
    reduceWindows_S131072x8_S131072x8_w131072s1p131071_0_w1s1p0_0 h_S_ j x).trans (by rw [pre_ones])

include he hv in
theorem v13_at (j : Fin 131072) :
    (U2 m c (Proc.devRef .tc main_v13) : IVec S131072 32) (ValueIdx.ix1 j) = BitVec.ofNat 32 (cnt e (e j.val) j.val) := by
  rw [U2_v13, keep_v8_1]
  refine reduce_single (n := 131072) (k := 8) _ reducesTo_S131072x8_S131072_d1 h_S_ j ⟨e j.val, he _ j.isLt⟩ _ fun q => ?_
  have h8 := v8_at m c e he hv j q
  have h9 := v9_at m c e he hv j q
  rw [muli_ap, subi_ap, bc0]
  refine (congrArg₂ (fun a b : BitVec 32 => a * (b - 1#32)) h8 h9).trans ?_
  rw [cnt_succ]
  by_cases h : e j.val = q.val
  · rw [if_pos h, if_pos (Fin.ext h.symm), h]
    show BitVec.ofNat 32 1 * (BitVec.ofNat 32 (cnt e q.val j.val + 1) - BitVec.ofNat 32 1) = _
    rw [sub_word (by omega), Nat.add_sub_cancel]
    exact BitVec.one_mul _
  · rw [if_neg h, if_neg (fun hh => h (congrArg Fin.val hh).symm)]
    exact BitVec.zero_mul

include he hv in
theorem v15_at (x : Fin 8) : (U2 m c (Proc.devRef .tc main_v15) : IVec S8 32) (ValueIdx.ix1 x) = BitVec.ofNat 32 (cnt e x.val 131072) := by
  rw [U2_v15]
  refine (cast21 (a := 1) (b := 8) (n := 8) _ shapeCasts_S1x8_S8 0 x x (by simp)).trans ?_
  have : (extractStridedSlice S1x8 ![131071, 0] (U1 m c (Proc.devRef .tc main_v9) : IVec S131072x8 32) slices_S131072x8_S1x8_131071_0 : IVec S1x8 32) (ValueIdx.ix2 0 x)
      = (U1 m c (Proc.devRef .tc main_v9) : IVec S131072x8 32) (ValueIdx.ix2 ⟨131071, by norm_num⟩ x) := by
    unfold extractStridedSlice
    refine congrArg _ (funext fun a => Fin.ext ?_)
    match a with
    | ⟨0, _⟩ => rfl
    | ⟨1, _⟩ => exact Nat.zero_add _
  exact this.trans (v9_at m c e he hv _ x)

include he hv in
theorem v22_at (x : Fin 8) : (U4 m c (Proc.devRef .tc main_v22) : IVec S8 32) (ValueIdx.ix1 x) = BitVec.ofNat 32 (pad (cnt e x.val 131072)) := by
  have hle := cnt_le e x.val 131072
  have h19 : (U2 m c (Proc.devRef .tc main_v19) : IVec S8 32) (ValueIdx.ix1 x) = BitVec.ofNat 32 (cnt e x.val 131072 + 511) := by
    rw [U2_v19, subi_ap, addi_ap, bc0, bc0, v15_at m c e he hv x]
    show BitVec.ofNat 32 _ + BitVec.ofNat 32 512 - BitVec.ofNat 32 1 = _
    rw [← BitVec.ofNat_add, sub_word (by omega)]
    rfl
  have h20 : (U3 m c (Proc.devRef .tc main_v20) : IVec S8 32) (ValueIdx.ix1 x) = BitVec.ofNat 32 ((cnt e x.val 131072 + 511) / 512) := by
    rw [U3_v20, U2_c3]
    exact pyDiv_ap bcast_S_S8 _ _ _ h19 rfl (by omega) (by norm_num) (by norm_num)
  rw [U4_v22, muli_ap, bc0, h20]
  show BitVec.ofNat 32 _ * BitVec.ofNat 32 512 = _
  rw [← BitVec.ofNat_mul]
  rfl

/-- The experts' padded counts. -/
abbrev pads (e : ℕ → ℕ) : ℕ → ℕ := fun x => pad (cnt e x 131072)

include he hv in
theorem v23_at (x : Fin 8) : (U5 m c (Proc.devRef .tc main_v23) : IVec S8 32) (ValueIdx.ix1 x) = BitVec.ofNat 32 (pre (pads e) (x.val + 1)) := by
  rw [U5_v23]
  exact cumsum1 (N := 8) (Nm1 := 7) (by norm_num) _ (pads e) (v22_at m c e he hv) _ init_zero reduceWindows_S8_S8_w8s1p7_0 h_S_ x

include he hv in
theorem v24_at (x : Fin 8) : (U6 m c (Proc.devRef .tc main_v24) : IVec S8 32) (ValueIdx.ix1 x) = BitVec.ofNat 32 (pre (pads e) x.val) := by
  rw [U6_v24, subi_ap, keep_v22_5, v23_at m c e he hv, v22_at m c e he hv, pre_succ]
  exact (sub_word (Nat.le_add_left _ _)).trans (congrArg _ (Nat.add_sub_cancel _ _))

/-- The row that row `j` goes to. -/
def dest (e : ℕ → ℕ) (j : ℕ) : ℕ := pre (pads e) (e j) + cnt e (e j) j

include he in
theorem pre_all : pre (pads e) 8 ≤ 135160 := by
  have := pre_pad_le (fun x => cnt e x 131072) 8
  rw [pre_cnt e 131072 he] at this
  exact this.trans (by norm_num)

include he in
theorem dest_lt (j : Fin 131072) : dest e j.val < 135168 := by
  have h1 := cnt_lt e j.isLt
  have h2 := le_pad (cnt e (e j.val) 131072)
  have h3 := pre_mono (pads e) (show e j.val + 1 ≤ 8 from he _ j.isLt)
  have h4 := pre_all e he
  rw [pre_succ] at h3
  unfold dest
  simp only [pads] at h3 h4 ⊢
  omega

include he hv in
theorem v32_at (j : Fin 131072) : (U6 m c (Proc.devRef .tc main_v32) : IVec S131072 32) (ValueIdx.ix1 j) = BitVec.ofNat 32 (dest e j.val) := by
  have hj := he _ j.isLt
  rw [U6_v32, keep_v1_5, keep_v13_5]
  unfold destOf
  rw [addi_ap, v13_at m c e he hv j]
  rw [take_ap (N := 8) (n := 131072) gather_S8_S131072x1_S131072_n_0_n_n_0_1_1 rfl rfl rfl rfl _ _ j (k := e j.val) hj (by omega)
    (by rw [bcCol]; exact wrapped_ap _ _ _ j (by omega) (hv j) (by rw [bc0]; rfl))]
  rw [v24_at m c e he hv, ← BitVec.ofNat_add]
  rfl

include he hv in
theorem v36_at : (U8 m c (Proc.devRef .tc main_v36) : IVec S1 32) (ValueIdx.ix1 0) = BitVec.ofNat 32 (pre (pads e) 8 / 512) := by
  have h4 := pre_all e he
  have h34 : (U6 m c (Proc.devRef .tc main_v34) : IVec S_ 32) ValueIdx.ix0 = BitVec.ofNat 32 (pre (pads e) 8) := by
    rw [U6_v34]
    refine (shapeCast_apply _ shapeCasts_S1_S_ _ (ValueIdx.ix1 0) (by rfl)).trans ?_
    refine (slice1 (m := 8) (n := 1) 7 _ slices_S8_S1_7 0 (by norm_num)).trans ?_
    exact v23_at m c e he hv ⟨7, by norm_num⟩
  have h35 : (U7 m c (Proc.devRef .tc main_v35) : IVec S_ 32) ValueIdx.ix0 = BitVec.ofNat 32 (pre (pads e) 8 / 512) := by
    rw [U7_v35, U6_c7]
    exact pyDiv0_ap _ _ h34 rfl (by omega) (by norm_num) (by norm_num)
  rw [U8_v36]
  exact (shapeCast_apply _ shapeCasts_S_S1 _ ValueIdx.ix0 (by rfl)).trans h35

include he hv in
/-- The tile that row `j` goes to is in use, and belongs to the row's expert. -/
theorem v52_at (j : Fin 131072) (t : Fin 264) (ht : t.val = dest e j.val / 512) :
    t.val < pre (pads e) 8 / 512 ∧ (U8 m c (Proc.devRef .tc main_v52) : IVec S264 32) (ValueIdx.ix1 t) = BitVec.ofNat 32 (e j.val) := by
  have hj := he _ j.isLt
  have h1 := cnt_lt e j.isLt
  have h2 := le_pad (cnt e (e j.val) 131072)
  have h3 := pre_mono (pads e) (show e j.val + 1 ≤ 8 from hj)
  have h4 := pre_all e he
  have h5 : pre (pads e) 8 % 512 = 0 := pre_pad_tiles (fun x => cnt e x 131072) 8
  have h6 := tile_of_row (fun x => cnt e x 131072) hj (k := cnt e (e j.val) j.val) (by omega)
  rw [pre_succ] at h3
  have hlt : t.val < pre (pads e) 8 / 512 := by
    rw [ht]
    show (pre (pads e) (e j.val) + cnt e (e j.val) j.val) / 512 < _
    have h3' : pre (pads e) (e j.val) + pad (cnt e (e j.val) 131072) ≤ pre (pads e) 8 := h3
    omega
  refine ⟨hlt, ?_⟩
  have hstart : tileStart (U8 m c (Proc.devRef .tc main_v36)) (ValueIdx.ix1 t) = BitVec.ofNat 32 (t.val * 512) := by
    unfold tileStart
    rw [muli_ap, bc0]
    show IntOp.minsi (BitVec.ofNat 32 t.val) (broadcastInDim S264 ![] bcast_S_S264 (subi (shapeCast S_ (U8 m c (Proc.devRef .tc main_v36) : IVec S1 32) shapeCasts_S1_S_) (constantI S_ 32 1#32)) (ValueIdx.ix1 t)) * BitVec.ofNat 32 512 = _
    rw [bc0, subi_ap, shapeCast_apply _ shapeCasts_S1_S_ _ (ValueIdx.ix1 0) (by rfl), v36_at m c e he hv]
    show IntOp.minsi (BitVec.ofNat 32 t.val) (BitVec.ofNat 32 _ - BitVec.ofNat 32 1) * _ = _
    rw [sub_word (by omega), PlanTiles.minsi_word (by omega) (by omega), Nat.min_eq_right (by omega), ← BitVec.ofNat_mul]
  rw [U8_v52, tileExpert_apply _ _ t (fun q => pre (pads e) (q + 1) ≤ t.val * 512) fun q => ?_]
  · have : Nat.count (fun q => pre (pads e) (q + 1) ≤ t.val * 512) 8 = e j.val := by rw [ht]; exact h6
    rw [this, Nat.min_eq_right (by omega)]
  · have hq := pre_mono (pads e) (show q.val + 1 ≤ 8 from q.isLt)
    unfold endsMask
    show IntOp.cmpi .sge (broadcastInDim S264x8 ![0, 1] bcast_S264x1_S264x8_0_1 (broadcastInDim S264x1 ![0] bcast_S264_S264x1_0 (tileStart (U8 m c (Proc.devRef .tc main_v36)))) (ValueIdx.ix2 t q))
      (broadcastInDim S264x8 ![0, 1] bcast_S1x8_S264x8_0_1 (broadcastInDim S1x8 ![1] bcast_S8_S1x8_1 (U7 m c (Proc.devRef .tc main_v23) : IVec S8 32)) (ValueIdx.ix2 t q)) = 1#1 ↔ _
    rw [bcRows, bcCols, hstart, keep_v23_7, v23_at m c e he hv, WordCmp.cmpi_sge_ofNat (by omega) (by omega)]
    by_cases h : pre (pads e) (q.val + 1) ≤ t.val * 512 <;> simp [h]

end Values

end Cert.Experts

end
-- ==== Proof.ExpertRows.lean ====
/-
  The second half of the routing: at the row that row `j` goes to, the host finds row `j` again, through the stable sort by
  expert, and gathers its token's activations there.
-/
module

public import proofs.«01_k».proof.Proof.ExpertRanks

@[expose] public section

set_option maxRecDepth 16384

noncomputable section

namespace Cert.Experts

open Cert.Kernel2Ideal Cert.Kernel2Ideal.Gen
open Idealize.ShloMosaic Idealize.ShloMosaic.TcCoe Idealize.ShloMosaic.Routing

/-- A table of eight looked up at each row's expert. -/
def perRow (x : IVec S8 32) (te : IVec S135168 32) : IVec S135168 32 :=
  Host.gather gather_S8_S135168x1_S135168_n_0_n_n_0_1_1 x (broadcastInDim S135168x1 ![0] bcast_S135168_S135168x1_0
    (select (cmpi .slt te (broadcastInDim S135168 ![] bcast_S_S135168 (constantI S_ 32 0#32)))
      (addi te (broadcastInDim S135168 ![] bcast_S_S135168 (constantI S_ 32 8#32))) te))

theorem perRow_at (x : IVec S8 32) (te : IVec S135168 32) (p : Fin 135168) {k : ℕ} (hk : k < 8) (h : te (ValueIdx.ix1 p) = BitVec.ofNat 32 k) :
    perRow x te (ValueIdx.ix1 p) = x (ValueIdx.ix1 ⟨k, hk⟩) :=
  take_ap (N := 8) (n := 135168) gather_S8_S135168x1_S135168_n_0_n_n_0_1_1 rfl rfl rfl rfl _ _ p (k := k) hk (by omega)
    (by rw [bcCol]; exact wrapped_ap _ _ _ p (by omega) h (by rw [bc0]; rfl))

/-- The sorted positions looked up. -/
def rowOf (order : IVec S131072 32) (src : IVec S135168 32) : IVec S135168 32 :=
  Host.gather gather_S131072_S135168x1_S135168_n_0_n_n_0_1_1 order (broadcastInDim S135168x1 ![0] bcast_S135168_S135168x1_0
    (select (cmpi .slt src (broadcastInDim S135168 ![] bcast_S_S135168 (constantI S_ 32 0#32)))
      (addi src (broadcastInDim S135168 ![] bcast_S_S135168 (constantI S_ 32 131072#32))) src))

theorem rowOf_at (x : IVec S131072 32) (src : IVec S135168 32) (p : Fin 135168) {k : ℕ} (hk : k < 131072) (h : src (ValueIdx.ix1 p) = BitVec.ofNat 32 k) :
    rowOf x src (ValueIdx.ix1 p) = x (ValueIdx.ix1 ⟨k, hk⟩) :=
  take_ap (N := 131072) (n := 135168) gather_S131072_S135168x1_S135168_n_0_n_n_0_1_1 rfl rfl rfl rfl _ _ p (k := k) hk (by omega)
    (by rw [bcCol]; exact wrapped_ap _ _ _ p (by omega) h (by rw [bc0]; rfl))

section Reads
variable {F : FTy → Type} [FloatOps F]

/-- The tokens' activations looked up. -/
def tokenRows (x : Vec F S8x8192x1024 .bf16) (tok : IVec S135168 32) : Vec F S135168x1024 .bf16 :=
  Host.gather gather_S65536x1024_S135168x1_S135168x1024_1_0_n_n_0_1_11024 (shapeCast S65536x1024 x shapeCasts_S8x8192x1024_S65536x1024)
    (broadcastInDim S135168x1 ![0] bcast_S135168_S135168x1_0
      (select (cmpi .slt tok (broadcastInDim S135168 ![] bcast_S_S135168 (constantI S_ 32 0#32)))
        (addi tok (broadcastInDim S135168 ![] bcast_S_S135168 (constantI S_ 32 65536#32))) tok))

variable (m : (ℓ : Loc nD τ sig) → Buf (Elt F) ℓ) (c : Dev nD)

theorem U9_v53 : U9 m c (Proc.devRef .tc main_v53) = (Host.sort2 S131072 0 comparator_i32_i32_d0 (U8 m c (Proc.devRef .tc main_v1) : IVec S131072 32) (iotaInDim S131072 32 0)).2 := by
  unfold U9
  generalize U8 m c = W
  after_reads_simp
  simp -implicitDefEqProofs only [StableHlo.TRef.ofBuf_toBuf, StableHlo.TRef.ofBuf, StableHlo.TRef.toBuf, cast_eq, id]

theorem U10_v55 : U10 m c (Proc.devRef .tc main_v55) = shapeCast S135168 (broadcastInDim S264x512 ![0] bcast_S264_S264x512_0 (U9 m c (Proc.devRef .tc main_v52) : IVec S264 32)) shapeCasts_S264x512_S135168 := by
  unfold U10
  generalize U9 m c = W
  after_reads_simp
  rfl

theorem U10_v64 : U10 m c (Proc.devRef .tc main_v64) = subi (iotaInDim S135168 32 0) (perRow (U9 m c (Proc.devRef .tc main_v24)) (U10 m c (Proc.devRef .tc main_v55))) := by
  unfold U10
  generalize U9 m c = W
  after_reads_simp
  rfl

theorem U11_v65 : U11 m c (Proc.devRef .tc main_v65) = Host.reduceWindow IntOp.addi ![8] ![1] ![7] ![0] (U10 m c (Proc.devRef .tc main_v15) : IVec S8 32)
    (broadcastInDim S_ ![] bcast_S_S_ (constantI S_ 32 0#32)) reduceWindows_S8_S8_w8s1p7_0 h_S_ := by
  unfold U11
  generalize U10 m c = W
  after_reads_simp
  simp -implicitDefEqProofs only [StableHlo.TRef.ofBuf_toBuf, StableHlo.TRef.ofBuf, StableHlo.TRef.toBuf, cast_eq, id]

theorem U12_v74 : U12 m c (Proc.devRef .tc main_v74) = addi (perRow (subi (U11 m c (Proc.devRef .tc main_v65) : IVec S8 32) (U11 m c (Proc.devRef .tc main_v15))) (U11 m c (Proc.devRef .tc main_v55)))
    (U11 m c (Proc.devRef .tc main_v64)) := by
  unfold U12
  generalize U11 m c = W
  after_reads_simp
  rfl

theorem U12_c16 : U12 m c (Proc.devRef .tc main_c_16) = constantI S_ 32 0#32 := by
  unfold U12
  generalize U11 m c = W
  after_reads_simp

theorem U12_c17 : U12 m c (Proc.devRef .tc main_c_17) = constantI S_ 32 131071#32 := by
  unfold U12
  generalize U11 m c = W
  after_reads_simp

theorem U13_v75 : U13 m c (Proc.devRef .tc main_v75) = minsi (broadcastInDim S135168 ![] bcast_S_S135168 (U12 m c (Proc.devRef .tc main_c_17) : IVec S_ 32))
    (maxsi (broadcastInDim S135168 ![] bcast_S_S135168 (U12 m c (Proc.devRef .tc main_c_16) : IVec S_ 32)) (U12 m c (Proc.devRef .tc main_v74))) := by
  unfold U13
  generalize U12 m c = W
  after_reads_simp
  simp -implicitDefEqProofs only [StableHlo.TRef.ofBuf_toBuf, StableHlo.TRef.ofBuf, StableHlo.TRef.toBuf, cast_eq, id]

theorem U14_v83 : U14 m c (Proc.devRef .tc main_v83) = cmpi .slt (U13 m c (Proc.devRef .tc main_v64) : IVec S135168 32) (perRow (U13 m c (Proc.devRef .tc main_v15)) (U13 m c (Proc.devRef .tc main_v55))) := by
  unfold U14
  generalize U13 m c = W
  after_reads_simp
  rfl

theorem U14_v90 : U14 m c (Proc.devRef .tc main_v90) = rowOf (U13 m c (Proc.devRef .tc main_v53)) (U13 m c (Proc.devRef .tc main_v75)) := by
  unfold U14
  generalize U13 m c = W
  after_reads_simp
  rfl

theorem U14_c22 : U14 m c (Proc.devRef .tc main_c_22) = constantI S_ 32 65536#32 := by
  unfold U14
  generalize U13 m c = W
  after_reads_simp

theorem U15_v91 : U15 m c (Proc.devRef .tc main_v91) = pyRem bcast_S_S135168 (U14 m c (Proc.devRef .tc main_v90) : IVec S135168 32) (U14 m c (Proc.devRef .tc main_c_22) : IVec S_ 32) := by
  unfold U15
  generalize U14 m c = W
  after_reads_simp
  simp -implicitDefEqProofs only [StableHlo.TRef.ofBuf_toBuf, StableHlo.TRef.ofBuf, StableHlo.TRef.toBuf, cast_eq, id]
  rfl

theorem U16_c23 : U16 m c (Proc.devRef .tc main_c_23) = constantI S_ 32 0#32 := by
  unfold U16
  generalize U15 m c = W
  after_reads_simp

theorem U17_v92 : U17 m c (Proc.devRef .tc main_v92) = select (U16 m c (Proc.devRef .tc main_v83) : IVec S135168 1) (U16 m c (Proc.devRef .tc main_v91) : IVec S135168 32)
    (broadcastInDim S135168 ![] bcast_S_S135168 (U16 m c (Proc.devRef .tc main_c_23) : IVec S_ 32)) := by
  unfold U17
  generalize U16 m c = W
  after_reads_simp
  simp -implicitDefEqProofs only [StableHlo.TRef.ofBuf_toBuf, StableHlo.TRef.ofBuf, StableHlo.TRef.toBuf, cast_eq, id]

theorem U18_v100 : U18 m c (Proc.devRef .tc main_v100) = tokenRows (U17 m c (Proc.devRef .tc main_v0)) (U17 m c (Proc.devRef .tc main_v92)) := by
  unfold U18
  generalize U17 m c = W
  after_reads_simp
  rfl

theorem U18_v101 : U18 m c (Proc.devRef .tc main_v101) = truncf .bf16 (U17 m c (Proc.devRef .tc main_arg2) : Vec F S8x1024x3584 .f32) bitsLt_bf16_f32 := by
  unfold U18
  generalize U17 m c = W
  after_reads_simp

theorem U18_v102 : U18 m c (Proc.devRef .tc main_v102) = truncf .bf16 (U17 m c (Proc.devRef .tc main_arg3) : Vec F S8x1024x3584 .f32) bitsLt_bf16_f32 := by
  unfold U18
  generalize U17 m c = W
  after_reads_simp

theorem U18_v103 : U18 m c (Proc.devRef .tc main_v103) = truncf .bf16 (U17 m c (Proc.devRef .tc main_arg4) : Vec F S8x3584x1024 .f32) bitsLt_bf16_f32 := by
  unfold U18
  generalize U17 m c = W
  after_reads_simp

theorem U0_v0 : U0 m c (Proc.devRef .tc main_v0) = truncf .bf16 (m ((c : Thread nD τ).loc main_arg0) : Vec F S8x8192x1024 .f32) bitsLt_bf16_f32 := by
  unfold U0
  after_reads_simp

theorem U0_v1 : U0 m c (Proc.devRef .tc main_v1) = shapeCast S131072 (m ((c : Thread nD τ).loc main_arg1) : IVec S2x8x8192 32) shapeCasts_S2x8x8192_S131072 := by
  unfold U0
  after_reads_simp
  rfl

theorem keep_v15_10 : U10 m c (Proc.devRef .tc main_v15) = U2 m c (Proc.devRef .tc main_v15) := by
  unfold U10 U9 U8 U7 U6 U5 U4 U3
  generalize U2 m c = W
  after_reads_simp

end Reads

section Values
variable {F : FTy → Type} [FloatOps F]
variable (m : (ℓ : Loc nD τ sig) → Buf (Elt F) ℓ) (c : Dev nD)
variable (e : ℕ → ℕ) (he : ∀ i, i < 131072 → e i < 8)
  (hv : ∀ j : Fin 131072, (U0 m c (Proc.devRef .tc main_v1) : IVec S131072 32) (ValueIdx.ix1 j) = BitVec.ofNat 32 (e j.val))

/-- Row `j`'s destination. -/
abbrev place (j : Fin 131072) : Fin 135168 := ⟨dest e j.val, dest_lt e he j⟩

include he hv in
theorem v55_at (j : Fin 131072) : (U10 m c (Proc.devRef .tc main_v55) : IVec S135168 32) (ValueIdx.ix1 (place e he j)) = BitVec.ofNat 32 (e j.val) := by
  have hlt := dest_lt e he j
  have h := (v52_at m c e he hv j ⟨dest e j.val / 512, by omega⟩ rfl).2
  rw [U10_v55, keep_v52_9]
  refine (cast21 (a := 264) (b := 512) (n := 135168) _ shapeCasts_S264x512_S135168 ⟨dest e j.val / 512, by omega⟩ ⟨dest e j.val % 512, by omega⟩ (place e he j)
    (by show dest e j.val = dest e j.val / 512 * 512 + dest e j.val % 512; omega)).trans ?_
  refine Eq.trans ?_ h
  refine broadcastInDim_apply _ bcast_S264_S264x512_0 _ _ (ValueIdx.ix1 ⟨dest e j.val / 512, by omega⟩) fun a => ?_
  match a with
  | ⟨0, _⟩ => rfl

include he hv in
theorem v64_at (j : Fin 131072) : (U10 m c (Proc.devRef .tc main_v64) : IVec S135168 32) (ValueIdx.ix1 (place e he j)) = BitVec.ofNat 32 (cnt e (e j.val) j.val) := by
  rw [U10_v64, subi_ap, perRow_at _ _ _ (he _ j.isLt) (v55_at m c e he hv j), keep_v24_9, v24_at m c e he hv]
  exact (sub_word (Nat.le_add_right _ _)).trans (congrArg _ (Nat.add_sub_cancel_left _ _))

include he hv in
theorem v75_at (j : Fin 131072) : (U13 m c (Proc.devRef .tc main_v75) : IVec S135168 32) (ValueIdx.ix1 (place e he j)) = BitVec.ofNat 32 (sortPlace e 131072 j.val) := by
  have hlt := sortPlace_lt e j.isLt
  have hoff : (subi (U11 m c (Proc.devRef .tc main_v65) : IVec S8 32) (U11 m c (Proc.devRef .tc main_v15))) (ValueIdx.ix1 ⟨e j.val, he _ j.isLt⟩)
      = BitVec.ofNat 32 (pre (fun x => cnt e x 131072) (e j.val)) := by
    have h65 : (U11 m c (Proc.devRef .tc main_v65) : IVec S8 32) (ValueIdx.ix1 ⟨e j.val, he _ j.isLt⟩) = BitVec.ofNat 32 (pre (fun x => cnt e x 131072) (e j.val + 1)) := by
      rw [U11_v65, keep_v15_10]
      exact cumsum1 (N := 8) (Nm1 := 7) (by norm_num) _ (fun x => cnt e x 131072) (v15_at m c e he hv) _ init_zero reduceWindows_S8_S8_w8s1p7_0 h_S_ ⟨e j.val, he _ j.isLt⟩
    rw [subi_ap, h65, keep_v15_11, v15_at m c e he hv, pre_succ]
    exact (sub_word (Nat.le_add_left _ _)).trans (congrArg _ (Nat.add_sub_cancel _ _))
  have h74 : (U12 m c (Proc.devRef .tc main_v74) : IVec S135168 32) (ValueIdx.ix1 (place e he j)) = BitVec.ofNat 32 (sortPlace e 131072 j.val) := by
    rw [U12_v74, addi_ap, perRow_at _ _ _ (he _ j.isLt) (by rw [keep_v55_11]; exact v55_at m c e he hv j), hoff, keep_v64_11, v64_at m c e he hv, ← BitVec.ofNat_add]
    rfl
  rw [U13_v75, U12_c16, U12_c17]
  show IntOp.minsi (broadcastInDim S135168 ![] bcast_S_S135168 (constantI S_ 32 131071#32) (ValueIdx.ix1 (place e he j)))
    (IntOp.maxsi (broadcastInDim S135168 ![] bcast_S_S135168 (constantI S_ 32 0#32) (ValueIdx.ix1 (place e he j))) ((U12 m c (Proc.devRef .tc main_v74) : IVec S135168 32) (ValueIdx.ix1 (place e he j)))) = _
  rw [bc0, bc0, h74]
  refine (clip_word (x := sortPlace e 131072 j.val) (lo := 0) (hi := 131071) (by omega) (by norm_num) (by norm_num)).trans ?_
  congr 1
  omega

include he hv in
theorem v53_at (j : Fin 131072) : (U9 m c (Proc.devRef .tc main_v53) : IVec S131072 32) (ValueIdx.ix1 ⟨sortPlace e 131072 j.val, sortPlace_lt e j.isLt⟩) = BitVec.ofNat 32 j.val := by
  rw [U9_v53, keep_v1_8, Host.sort2_eq_sortBy]
  dsimp only
  unfold Host.sortBy
  rw [dif_pos (show 0 < S131072.rank from Nat.zero_lt_one)]
  have hal : ∀ (i : S131072.Idx) (k : Fin 131072), i.along (⟨0, Nat.zero_lt_one⟩ : Fin S131072.rank) k = ValueIdx.ix1 k := fun i k =>
    (Shape.Idx.along_rank1 i k).trans (ofFin_eq_ix1 k)
  refine (congrArg (iotaInDim S131072 32 0) (hal _ _)).trans ?_
  refine congrArg (fun k : Fin 131072 => BitVec.ofNat 32 k.val) ?_
  refine Eq.trans ?_ (sorted_at e he j)
  refine congrFun (congrArg (fun b => sortedFrom (n := 131072) b) (funext fun a => funext fun b => ?_)) _
  dsimp only
  rw [hal, hal, hv, hv]
  have h1 := he a.val a.isLt
  have h2 := he b.val b.isLt
  unfold comparator_i32_i32_d0
  dsimp only
  rw [WordCmp.cmpi_slt_ofNat (by omega) (by omega)]
  by_cases h : e a.val < e b.val <;> simp [h]

include he hv in
theorem v92_at (j : Fin 131072) : (U17 m c (Proc.devRef .tc main_v92) : IVec S135168 32) (ValueIdx.ix1 (place e he j)) = BitVec.ofNat 32 (j.val % 65536) := by
  have h1 := cnt_lt e j.isLt
  have h2 := cnt_le e (e j.val) 131072
  have h83 : (U14 m c (Proc.devRef .tc main_v83) : IVec S135168 1) (ValueIdx.ix1 (place e he j)) = 1#1 := by
    rw [U14_v83, WordCmp.cmpi_at, keep_v64_13, v64_at m c e he hv, perRow_at _ _ _ (he _ j.isLt) (by rw [keep_v55_13]; exact v55_at m c e he hv j), keep_v15_13,
      v15_at m c e he hv, WordCmp.cmpi_slt_ofNat (a := cnt e (e j.val) j.val) (b := cnt e (e j.val) 131072) (by omega) (by omega)]
    simp [h1]
  have h90 : (U14 m c (Proc.devRef .tc main_v90) : IVec S135168 32) (ValueIdx.ix1 (place e he j)) = BitVec.ofNat 32 j.val := by
    rw [U14_v90, rowOf_at _ _ _ (sortPlace_lt e j.isLt) (v75_at m c e he hv j), keep_v53_13, v53_at m c e he hv]
  have h91 : (U15 m c (Proc.devRef .tc main_v91) : IVec S135168 32) (ValueIdx.ix1 (place e he j)) = BitVec.ofNat 32 (j.val % 65536) := by
    have hj := j.isLt
    rw [U15_v91, U14_c22]
    exact pyRem_ap bcast_S_S135168 _ _ _ h90 rfl (by omega) (by norm_num) (by norm_num)
  rw [U17_v92, WordCmp.select_at, keep_v83_16, h83, keep_v91_16, h91]
  rfl

include he hv in
/-- At its destination stands the activation of row `j`'s token. -/
theorem v100_at (j : Fin 131072) (q : Fin 1024) (b : Fin 8) (s : Fin 8192) (hbs : j.val % 65536 = b.val * 8192 + s.val) :
    (U18 m c (Proc.devRef .tc main_v100) : Vec F S135168x1024 .bf16) (ValueIdx.ix2 (place e he j) q)
      = truncf .bf16 (m ((c : Thread nD τ).loc main_arg0) : Vec F S8x8192x1024 .f32) bitsLt_bf16_f32 (ValueIdx.ix3 b s q) := by
  have hlt : j.val % 65536 < 65536 := Nat.mod_lt _ (by norm_num)
  rw [U18_v100, keep_v0_17, U0_v0]
  unfold tokenRows
  refine (gather_row (nb := 65536) (B := 1024) (n := 135168) gather_S65536x1024_S135168x1_S135168x1024_1_0_n_n_0_1_11024 rfl rfl rfl rfl rfl _ _ (place e he j) q ⟨j.val % 65536, hlt⟩
    (by rw [bcCol]; exact wrapped_ap _ _ _ (place e he j) (by omega) (v92_at m c e he hv j) (by rw [bc0]; rfl)) (by norm_num)).trans ?_
  refine shapeCast_apply _ shapeCasts_S8x8192x1024_S65536x1024 _ (ValueIdx.ix3 b s q) ?_
  rw [Shape.rowMajor_val_three, Shape.rowMajor_val_two]
  show (b.val * 8192 + s.val) * 1024 + q.val = j.val % 65536 * 1024 + q.val
  rw [hbs]

end Values

end Cert.Experts

end
-- ==== Proof.ExpertReference.lean ====
/-
  The reference's result at an index: of the eight terms the one of the token's own expert remains, and it is that
  expert's output for the token.
-/
module

public import proofs.«01_k».proof.Proof.Gen.Reference2Ideal.Read
public import proofs.«01_k».proof.Proof.ExpertSpec
public import Idealize.ShloMosaic.Lib.WordCmp
public import Idealize.ShloMosaic.Lib.Pipeline.Value

@[expose] public section

set_option maxRecDepth 16384

noncomputable section

namespace Cert.Experts

open Cert.Reference2Ideal Cert.Reference2Ideal.Gen Cert.Reference2Ideal.Read
open Idealize.ShloMosaic
open scoped BigOperators

/-- The tokens through an up matrix. -/
def refUp (x : FVec Ideal S8x8192x1024 .f32) (a : FVec Ideal S1x1024x3584 .f32) : FVec Ideal S8x8192x3584 .f32 :=
  Host.dotGeneral dot_S8x8192x1024_S1024x3584_S8x8192x3584_2_0_01_1_n_n none x (shapeCast S1024x3584 a shapeCasts_S1x1024x3584_S1024x3584)

/-- All ones. -/
def refOnes : FVec Ideal S8x8192x3584 .f32 := broadcastInDim S8x8192x3584 ![] bcast_S_S8x8192x3584 (constant S_ .f32 0x3F800000#32)

/-- The hidden columns. -/
def refHidden (x : FVec Ideal S8x8192x1024 .f32) (a b : FVec Ideal S1x1024x3584 .f32) : FVec Ideal S8x8192x3584 .f32 :=
  mulf (mulf (refUp x a) (Host.divf refOnes (addf refOnes (Host.exp (Host.negf (refUp x a)))))) (refUp x b)

/-- One expert on every token. -/
def refExpert (x : FVec Ideal S8x8192x1024 .f32) (a b : FVec Ideal S1x1024x3584 .f32) (d : FVec Ideal S1x3584x1024 .f32) : FVec Ideal S8x8192x1024 .f32 :=
  Host.dotGeneral dot_S8x8192x3584_S3584x1024_S8x8192x1024_2_0_01_1_n_n none (refHidden x a b) (shapeCast S3584x1024 d shapeCasts_S1x3584x1024_S3584x1024)

/-- One expert's term: its output where the token chose it, zero elsewhere. -/
def refTerm (k : BitVec 32) (top : IVec S2x8x8192 32) (y : FVec Ideal S8x8192x1024 .f32) : FVec Ideal S2x8x8192x1024 .f32 :=
  select (broadcastInDim S2x8x8192x1024 ![0, 1, 2, 3] bcast_S2x8x8192x1_S2x8x8192x1024_0_1_2_3
      (broadcastInDim S2x8x8192x1 ![0, 1, 2] bcast_S2x8x8192_S2x8x8192x1_0_1_2 (cmpi .eq top (broadcastInDim S2x8x8192 ![] bcast_S_S2x8x8192 (constantI S_ 32 k)))))
    (broadcastInDim S2x8x8192x1024 ![0, 1, 2, 3] bcast_S1x8x8192x1024_S2x8x8192x1024_0_1_2_3 (broadcastInDim S1x8x8192x1024 ![1, 2, 3] bcast_S8x8192x1024_S1x8x8192x1024_1_2_3 y))
    (broadcastInDim S2x8x8192x1024 ![] bcast_S_S2x8x8192x1024 (constant S_ .f32 0x00000000#32))

theorem upPlane {n : ℕ} (hn : n < 8) : S8x1024x3584.Slices ![n, 0, 0] S1x1024x3584 := by
  interval_cases n <;> decide
theorem downPlane {n : ℕ} (hn : n < 8) : S8x3584x1024.Slices ![n, 0, 0] S1x3584x1024 := by
  interval_cases n <;> decide

variable (x0 : FVec Ideal S8x8192x1024 .f32) (x1 : IVec S2x8x8192 32) (x2 x3 : FVec Ideal S8x1024x3584 .f32) (x4 : FVec Ideal S8x3584x1024 .f32)

/-- Expert `n`'s term. -/
def refTermAt (n : ℕ) (hn : n < 8) : FVec Ideal S2x8x8192x1024 .f32 :=
  refTerm (BitVec.ofNat 32 n) x1 (refExpert x0 (extractStridedSlice S1x1024x3584 ![n, 0, 0] x2 (upPlane hn)) (extractStridedSlice S1x1024x3584 ![n, 0, 0] x3 (upPlane hn))
    (extractStridedSlice S1x3584x1024 ![n, 0, 0] x4 (downPlane hn)))

theorem term0 : val_main_v16 (F := Ideal) x0 x1 x2 x3 x4 = refTermAt x0 x1 x2 x3 x4 0 (by norm_num) := rfl
theorem term1 : val_main_v33 (F := Ideal) x0 x1 x2 x3 x4 = refTermAt x0 x1 x2 x3 x4 1 (by norm_num) := rfl
theorem term2 : val_main_v50 (F := Ideal) x0 x1 x2 x3 x4 = refTermAt x0 x1 x2 x3 x4 2 (by norm_num) := rfl
theorem term3 : val_main_v67 (F := Ideal) x0 x1 x2 x3 x4 = refTermAt x0 x1 x2 x3 x4 3 (by norm_num) := rfl
theorem term4 : val_main_v84 (F := Ideal) x0 x1 x2 x3 x4 = refTermAt x0 x1 x2 x3 x4 4 (by norm_num) := rfl
theorem term5 : val_main_v101 (F := Ideal) x0 x1 x2 x3 x4 = refTermAt x0 x1 x2 x3 x4 5 (by norm_num) := rfl
theorem term6 : val_main_v118 (F := Ideal) x0 x1 x2 x3 x4 = refTermAt x0 x1 x2 x3 x4 6 (by norm_num) := rfl
theorem term7 : val_main_v135 (F := Ideal) x0 x1 x2 x3 x4 = refTermAt x0 x1 x2 x3 x4 7 (by norm_num) := rfl

theorem refUp_apply (x : FVec Ideal S8x8192x1024 .f32) (a : FVec Ideal S1x1024x3584 .f32) (b : Fin 8) (s : Fin 8192) (k : Fin 3584) :
    refUp x a (ValueIdx.ix3 b s k) = ∑ i : Fin 1024, (x (ValueIdx.ix3 b s i) : EReal) * a (ValueIdx.ix3 (0 : Fin 1) i k) := by
  unfold refUp
  simp only [Host.dotGeneral]
  rw [Ideal.dotGeneral_apply, ← Equiv.sum_comp (ValueIdx.contrEquiv1 dot_S8x8192x1024_S1024x3584_S8x8192x3584_2_0_01_1_n_n 1024 rfl rfl).symm]
  refine Finset.sum_congr rfl fun i _ => congrArg₂ (fun a b : EReal => a * b) (congrArg x (funext fun e => Fin.ext ?_)) ?_
  · have hi := ValueIdx.contrEquiv1_symm_val dot_S8x8192x1024_S1024x3584_S8x8192x3584_2_0_01_1_n_n 1024 rfl rfl i
    match e with
    | ⟨0, _⟩ => exact lhs_main_v3_0 _ _
    | ⟨1, _⟩ => exact lhs_main_v3_1 _ _
    | ⟨2, _⟩ => exact (lhs_main_v3_2 _ _).trans hi
  · have hi := ValueIdx.contrEquiv1_symm_val dot_S8x8192x1024_S1024x3584_S8x8192x3584_2_0_01_1_n_n 1024 rfl rfl i
    refine shapeCast_apply a _ _ (ValueIdx.ix3 (0 : Fin 1) i k) ?_
    rw [Shape.rowMajor_val_three, Shape.rowMajor_val_two, rhs_main_v3_0, rhs_main_v3_1, hi]
    show (0 * 1024 + i.val) * 3584 + k.val = i.val * 3584 + k.val
    omega

theorem refOnes_apply (i : S8x8192x3584.Idx) : refOnes i = (1 : EReal) := by
  refine (broadcastInDim_apply _ bcast_S_S8x8192x3584 _ i (fun a => a.elim0) (fun a => a.elim0)).trans ?_
  show Ideal.ofBits .f32 0x3F800000#32 = 1
  simp [Ideal.ofBits, Ideal.ieee]
  rw [← EReal.coe_mul]
  norm_num

theorem refHidden_apply (x : FVec Ideal S8x8192x1024 .f32) (a a' : FVec Ideal S1x1024x3584 .f32) (b : Fin 8) (s : Fin 8192) (k : Fin 3584) :
    refHidden x a a' (ValueIdx.ix3 b s k) = hidden (fun i => x (ValueIdx.ix3 b s i)) (fun i => a (ValueIdx.ix3 (0 : Fin 1) i k)) (fun i => a' (ValueIdx.ix3 (0 : Fin 1) i k)) := by
  show (refUp x a (ValueIdx.ix3 b s k) * Ideal.div (refOnes (ValueIdx.ix3 b s k)) (refOnes (ValueIdx.ix3 b s k) + Ideal.exp (-refUp x a (ValueIdx.ix3 b s k))))
    * refUp x a' (ValueIdx.ix3 b s k) = _
  rw [refOnes_apply, refUp_apply, refUp_apply]
  rfl

theorem refExpert_apply (x : FVec Ideal S8x8192x1024 .f32) (a a' : FVec Ideal S1x1024x3584 .f32) (d : FVec Ideal S1x3584x1024 .f32) (b : Fin 8) (s : Fin 8192) (q : Fin 1024) :
    refExpert x a a' d (ValueIdx.ix3 b s q)
      = expertOut (fun i => x (ValueIdx.ix3 b s i)) (fun i k => a (ValueIdx.ix3 (0 : Fin 1) i k)) (fun i k => a' (ValueIdx.ix3 (0 : Fin 1) i k)) (fun k => d (ValueIdx.ix3 (0 : Fin 1) k q)) := by
  unfold refExpert expertOut
  simp only [Host.dotGeneral]
  rw [Ideal.dotGeneral_apply, ← Equiv.sum_comp (ValueIdx.contrEquiv1 dot_S8x8192x3584_S3584x1024_S8x8192x1024_2_0_01_1_n_n 3584 rfl rfl).symm]
  refine Finset.sum_congr rfl fun k _ => congrArg₂ (fun a b : EReal => a * b) ?_ ?_
  · have hk := ValueIdx.contrEquiv1_symm_val dot_S8x8192x3584_S3584x1024_S8x8192x1024_2_0_01_1_n_n 3584 rfl rfl k
    refine (congrArg (refHidden x a a') (funext fun e => Fin.ext ?_)).trans (refHidden_apply x a a' b s k)
    match e with
    | ⟨0, _⟩ => exact lhs_main_v11_0 _ _
    | ⟨1, _⟩ => exact lhs_main_v11_1 _ _
    | ⟨2, _⟩ => exact (lhs_main_v11_2 _ _).trans hk
  · have hk := ValueIdx.contrEquiv1_symm_val dot_S8x8192x3584_S3584x1024_S8x8192x1024_2_0_01_1_n_n 3584 rfl rfl k
    refine shapeCast_apply d _ _ (ValueIdx.ix3 (0 : Fin 1) k q) ?_
    rw [Shape.rowMajor_val_three, Shape.rowMajor_val_two, rhs_main_v11_0, rhs_main_v11_1, hk]
    show (0 * 3584 + k.val) * 1024 + q.val = k.val * 1024 + q.val
    omega

/-- A term at an index. -/
theorem refTerm_apply (k : BitVec 32) (y : FVec Ideal S8x8192x1024 .f32) (h : Fin 2) (b : Fin 8) (s : Fin 8192) (q : Fin 1024) :
    refTerm k x1 y (ValueIdx.ix4 h b s q) = if x1 (ValueIdx.ix3 h b s) = k then (y (ValueIdx.ix3 b s q) : EReal) else 0 := by
  unfold refTerm
  rw [WordCmp.select_at]
  have hc : (broadcastInDim S2x8x8192x1024 ![0, 1, 2, 3] bcast_S2x8x8192x1_S2x8x8192x1024_0_1_2_3
      (broadcastInDim S2x8x8192x1 ![0, 1, 2] bcast_S2x8x8192_S2x8x8192x1_0_1_2 (cmpi .eq x1 (broadcastInDim S2x8x8192 ![] bcast_S_S2x8x8192 (constantI S_ 32 k)))))
      (ValueIdx.ix4 h b s q) = BitVec.ofBool (x1 (ValueIdx.ix3 h b s) == k) := by
    refine (broadcastInDim_apply _ bcast_S2x8x8192x1_S2x8x8192x1024_0_1_2_3 _ _ (ValueIdx.ix4 h b s (0 : Fin 1)) fun a => ?_).trans ?_
    · match a with
      | ⟨0, _⟩ => rfl
      | ⟨1, _⟩ => rfl
      | ⟨2, _⟩ => rfl
      | ⟨3, _⟩ => rfl
    refine (broadcastInDim_apply _ bcast_S2x8x8192_S2x8x8192x1_0_1_2 _ _ (ValueIdx.ix3 h b s) fun a => ?_).trans ?_
    · match a with
      | ⟨0, _⟩ => rfl
      | ⟨1, _⟩ => rfl
      | ⟨2, _⟩ => rfl
    show BitVec.ofBool (x1 (ValueIdx.ix3 h b s) == broadcastInDim S2x8x8192 ![] bcast_S_S2x8x8192 (constantI S_ 32 k) (ValueIdx.ix3 h b s)) = _
    rw [broadcastInDim_apply ![] bcast_S_S2x8x8192 (constantI S_ 32 k) (ValueIdx.ix3 h b s) (fun a => a.elim0) (fun a => a.elim0)]
    rfl
  have hy : (broadcastInDim S2x8x8192x1024 ![0, 1, 2, 3] bcast_S1x8x8192x1024_S2x8x8192x1024_0_1_2_3 (broadcastInDim S1x8x8192x1024 ![1, 2, 3] bcast_S8x8192x1024_S1x8x8192x1024_1_2_3 y))
      (ValueIdx.ix4 h b s q) = y (ValueIdx.ix3 b s q) := by
    refine (broadcastInDim_apply _ bcast_S1x8x8192x1024_S2x8x8192x1024_0_1_2_3 _ _ (ValueIdx.ix4 (0 : Fin 1) b s q) fun a => ?_).trans ?_
    · match a with
      | ⟨0, _⟩ => rfl
      | ⟨1, _⟩ => rfl
      | ⟨2, _⟩ => rfl
      | ⟨3, _⟩ => rfl
    refine broadcastInDim_apply _ bcast_S8x8192x1024_S1x8x8192x1024_1_2_3 _ _ (ValueIdx.ix3 b s q) fun a => ?_
    match a with
    | ⟨0, _⟩ => rfl
    | ⟨1, _⟩ => rfl
    | ⟨2, _⟩ => rfl
  have hz : (broadcastInDim S2x8x8192x1024 ![] bcast_S_S2x8x8192x1024 (constant S_ .f32 0x00000000#32) : FVec Ideal S2x8x8192x1024 .f32) (ValueIdx.ix4 h b s q) = (0 : EReal) :=
    (broadcastInDim_apply _ bcast_S_S2x8x8192x1024 _ _ (fun a => a.elim0) (fun a => a.elim0)).trans Ideal.ofBits_zero_f32
  rw [hc, hy, hz]
  by_cases hk : x1 (ValueIdx.ix3 h b s) = k
  · rw [if_pos hk, beq_iff_eq.2 hk]; rfl
  · rw [if_neg hk, beq_eq_false_iff_ne.2 hk]; rfl

/-- Expert `n`'s output for a token. -/
def outOf (n : Fin 8) (b : Fin 8) (s : Fin 8192) (q : Fin 1024) : EReal :=
  expertOut (fun i => x0 (ValueIdx.ix3 b s i)) (fun i k => x2 (ValueIdx.ix3 n i k)) (fun i k => x3 (ValueIdx.ix3 n i k)) (fun k => x4 (ValueIdx.ix3 n k q))

theorem refTermAt_apply (n : ℕ) (hn : n < 8) (h : Fin 2) (b : Fin 8) (s : Fin 8192) (q : Fin 1024) :
    refTermAt x0 x1 x2 x3 x4 n hn (ValueIdx.ix4 h b s q) = if x1 (ValueIdx.ix3 h b s) = BitVec.ofNat 32 n then outOf x0 x2 x3 x4 ⟨n, hn⟩ b s q else 0 := by
  have hu : ∀ (x : FVec Ideal S8x1024x3584 .f32) (i : Fin 1024) (k : Fin 3584),
      extractStridedSlice S1x1024x3584 ![n, 0, 0] x (upPlane hn) (ValueIdx.ix3 (0 : Fin 1) i k) = x (ValueIdx.ix3 ⟨n, hn⟩ i k) := fun x i k =>
    extractStridedSlice_apply _ _ _ _ (ValueIdx.ix3 ⟨n, hn⟩ i k) fun a => by
      match a with
      | ⟨0, _⟩ => rfl
      | ⟨1, _⟩ => show i.val = 0 + i.val; omega
      | ⟨2, _⟩ => show k.val = 0 + k.val; omega
  have hd : ∀ (k : Fin 3584), extractStridedSlice S1x3584x1024 ![n, 0, 0] x4 (downPlane hn) (ValueIdx.ix3 (0 : Fin 1) k q) = x4 (ValueIdx.ix3 ⟨n, hn⟩ k q) := fun k =>
    extractStridedSlice_apply _ _ _ _ (ValueIdx.ix3 ⟨n, hn⟩ k q) fun a => by
      match a with
      | ⟨0, _⟩ => rfl
      | ⟨1, _⟩ => show k.val = 0 + k.val; omega
      | ⟨2, _⟩ => show q.val = 0 + q.val; omega
  unfold refTermAt
  rw [refTerm_apply, refExpert_apply]
  simp only [hu, hd]
  rfl

/-- The reference at an index whose token chose expert `n`. -/
theorem reference_apply (h : Fin 2) (b : Fin 8) (s : Fin 8192) (q : Fin 1024) (n : ℕ) (hn : n < 8) (hx : x1 (ValueIdx.ix3 h b s) = BitVec.ofNat 32 n) :
    val_main_v137 (F := Ideal) x0 x1 x2 x3 x4 (ValueIdx.ix4 h b s q) = outOf x0 x2 x3 x4 ⟨n, hn⟩ b s q := by
  have hz : val_main_v0 (F := Ideal) (ValueIdx.ix4 h b s q) = (0 : EReal) :=
    (val_main_v0_apply _).trans Ideal.ofBits_zero_f32
  show (((((((((val_main_v0 (F := Ideal) (ValueIdx.ix4 h b s q) : EReal) + val_main_v16 (F := Ideal) x0 x1 x2 x3 x4 (ValueIdx.ix4 h b s q)) + val_main_v33 (F := Ideal) x0 x1 x2 x3 x4 (ValueIdx.ix4 h b s q))
    + val_main_v50 (F := Ideal) x0 x1 x2 x3 x4 (ValueIdx.ix4 h b s q)) + val_main_v67 (F := Ideal) x0 x1 x2 x3 x4 (ValueIdx.ix4 h b s q)) + val_main_v84 (F := Ideal) x0 x1 x2 x3 x4 (ValueIdx.ix4 h b s q))
    + val_main_v101 (F := Ideal) x0 x1 x2 x3 x4 (ValueIdx.ix4 h b s q)) + val_main_v118 (F := Ideal) x0 x1 x2 x3 x4 (ValueIdx.ix4 h b s q)) + val_main_v135 (F := Ideal) x0 x1 x2 x3 x4 (ValueIdx.ix4 h b s q)) = _
  rw [term0, term1, term2, term3, term4, term5, term6, term7, hz]
  simp only [refTermAt_apply, hx]
  interval_cases n <;> simp

end Cert.Experts

end
-- ==== Proof.ExpertResult.lean ====
/-
  The call's result at an index, under the routing's bound: the output of the token's own expert.
-/
module

public import proofs.«01_k».proof.Proof.ExpertArray
public import proofs.«01_k».proof.Proof.ExpertRows
public import proofs.«01_k».proof.Proof.ExpertReference

@[expose] public section

set_option maxRecDepth 16384

noncomputable section

namespace Cert.Experts

open Cert.Kernel2Ideal Cert.Kernel2Ideal.Gen
open Idealize.ShloMosaic Idealize.ShloMosaic.TcCoe Idealize.ShloMosaic.Routing

theorem expertOut_congr {x x' : Fin 1024 → EReal} {u u' v v' : Fin 1024 → Fin 3584 → EReal} {w w' : Fin 3584 → EReal} (hx : ∀ i, x i = x' i)
    (hu : ∀ i k, u i k = u' i k) (hv : ∀ i k, v i k = v' i k) (hw : ∀ k, w k = w' k) : expertOut x u v w = expertOut x' u' v' w' := by
  obtain rfl : x = x' := funext hx
  obtain rfl : u = u' := funext fun i => funext (hu i)
  obtain rfl : v = v' := funext fun i => funext (hv i)
  obtain rfl : w = w' := funext hw
  rfl

section Places
variable (m : (ℓ : Loc nD τ sig) → Buf (Elt Ideal) ℓ)
variable (e : ℕ → ℕ) (he : ∀ i, i < 131072 → e i < 8)
  (hv : ∀ j : Fin 131072, (U0 m 0 (Proc.devRef .tc main_v1) : IVec S131072 32) (ValueIdx.ix1 j) = BitVec.ofNat 32 (e j.val))

theorem used_eq : used (adm m) = (U18 m 0 (Proc.devRef .tc main_v36) : IVec S1 32) (ValueIdx.ix1 0) := by
  unfold used adm tables
  dsimp only
  rfl

theorem plane_eq (t : Fin (pipe (adm m)).N) : planeAt (adm m) t = ((U18 m 0 (Proc.devRef .tc main_v52) : IVec S264 32) (ValueIdx.ix1 ⟨t.val, point_lt (adm m) t⟩)).toNat := by
  unfold planeAt adm tables
  dsimp only
  rfl

include he hv in
/-- The tile of a row's place is in use, and its expert is the row's. -/
theorem tile_at (j : Fin 131072) (t : Fin (pipe (adm m)).N) (ht : t.val = dest e j.val / 512) :
    k0_cond1 (grid0.coords t) (used (adm m)) = 1#1 ∧ planeAt (adm m) t = e j.val := by
  have hp := point_lt (adm m) t
  have h := v52_at m 0 e he hv j ⟨t.val, hp⟩ ht
  have h4 := pre_all e he
  have hj := he _ j.isLt
  refine ⟨?_, ?_⟩
  · rw [used_eq, keep_v36_18, v36_at m 0 e he hv]
    unfold k0_cond1
    dsimp only
    have hc : Scalar.cmpi .slt (BitVec.ofNat 32 (grid0.coords t 0).val) (BitVec.ofNat 32 (pre (pads e) 8 / 512)) = 1#1 := by
      rw [point_val]
      exact (WordCmp.cmpi_slt_ofNat_eq_one_iff (w := 32) (a := t.val) (b := pre (pads e) 8 / 512) (by norm_num; omega) (by
        have : pre (pads e) 8 / 512 ≤ 264 := by
          have h5 : pre (pads e) 8 ≤ 135168 := by
            have h6 : pre (pads e) 8 = pre (fun x => pad (cnt e x 131072)) 8 := rfl
            omega
          omega
        norm_num; omega)).2 h.1
    rw [hc]
    rfl
  · rw [plane_eq, keep_v52_18, h.2, BitVec.toNat_ofNat]
    omega

/-- The matrices as launched, at machine storage: an idealized cast is the identity. -/
theorem up_eq : (U18 m 0 (Proc.devRef .tc main_v101) : Vec Ideal S8x1024x3584 .bf16) = (m (((0 : Dev nD) : Thread nD τ).loc main_arg2) : Vec Ideal S8x1024x3584 .f32) := by
  rw [U18_v101, keep_arg2_17]
  rfl
theorem gate_eq : (U18 m 0 (Proc.devRef .tc main_v102) : Vec Ideal S8x1024x3584 .bf16) = (m (((0 : Dev nD) : Thread nD τ).loc main_arg3) : Vec Ideal S8x1024x3584 .f32) := by
  rw [U18_v102, keep_arg3_17]
  rfl
theorem down_eq : (U18 m 0 (Proc.devRef .tc main_v103) : Vec Ideal S8x3584x1024 .bf16) = (m (((0 : Dev nD) : Thread nD τ).loc main_arg4) : Vec Ideal S8x3584x1024 .f32) := by
  rw [U18_v103, keep_arg4_17]
  rfl

include hv in
/-- The output array at a row's place. -/
theorem rowsOut_at (j : Fin 131072) (b : Fin 8) (s : Fin 8192) (q : Fin 1024) (hbs : j.val % 65536 = b.val * 8192 + s.val) :
    rowsOut (adm m) (U18 m) 0 (ValueIdx.ix2 (place e he j) q)
      = outOf (m (((0 : Dev nD) : Thread nD τ).loc main_arg0)) (m (((0 : Dev nD) : Thread nD τ).loc main_arg2)) (m (((0 : Dev nD) : Thread nD τ).loc main_arg3))
          (m (((0 : Dev nD) : Thread nD τ).loc main_arg4)) ⟨e j.val, he _ j.isLt⟩ b s q := by
  have hd := dest_lt e he j
  have hN : (pipe (adm m)).N = 264 := by show grid0.N = 264; decide
  show leftAt (adm m) (U18 m) 0 ⟨dest e j.val / 512, by omega⟩ (ValueIdx.ix2 ⟨dest e j.val % 512, Nat.mod_lt _ (by norm_num)⟩ q) = _
  generalize ht : (⟨dest e j.val / 512, by omega⟩ : Fin (pipe (adm m)).N) = t
  have htv : t.val = dest e j.val / 512 := by rw [← ht]
  obtain ⟨hc, hn⟩ := tile_at m e he hv j t htv
  unfold leftAt tileOut
  rw [if_pos hc]
  have hx : ∀ i : Fin 1024, blockAt (adm m) (U18 m) 0 0 t (ValueIdx.ix2 ⟨dest e j.val % 512, Nat.mod_lt _ (by norm_num)⟩ i)
      = (m (((0 : Dev nD) : Thread nD τ).loc main_arg0) : Vec Ideal S8x8192x1024 .f32) (ValueIdx.ix3 b s i) := fun i =>
    (rows_block (adm m) (U18 m) 0 t ⟨dest e j.val % 512, Nat.mod_lt _ (by norm_num)⟩ i (place e he j)
      (by show dest e j.val = t.val * 512 + dest e j.val % 512; omega)).trans (v100_at m 0 e he hv j i b s hbs)
  have h1 : ∀ (i : Fin 1024) (k : Fin 3584), blockAt (adm m) (U18 m) 0 1 t (ValueIdx.ix3 (0 : Fin 1) i k)
      = (m (((0 : Dev nD) : Thread nD τ).loc main_arg2) : Vec Ideal S8x1024x3584 .f32) (ValueIdx.ix3 ⟨e j.val, he _ j.isLt⟩ i k) := fun i k =>
    (up_block (adm m) (U18 m) 0 t ⟨e j.val, he _ j.isLt⟩ hn i k).trans (congrFun (up_eq m) _)
  have h2 : ∀ (i : Fin 1024) (k : Fin 3584), blockAt (adm m) (U18 m) 0 2 t (ValueIdx.ix3 (0 : Fin 1) i k)
      = (m (((0 : Dev nD) : Thread nD τ).loc main_arg3) : Vec Ideal S8x1024x3584 .f32) (ValueIdx.ix3 ⟨e j.val, he _ j.isLt⟩ i k) := fun i k =>
    (gate_block (adm m) (U18 m) 0 t ⟨e j.val, he _ j.isLt⟩ hn i k).trans (congrFun (gate_eq m) _)
  have h3 : ∀ (k : Fin 3584), blockAt (adm m) (U18 m) 0 3 t (ValueIdx.ix3 (0 : Fin 1) k q)
      = (m (((0 : Dev nD) : Thread nD τ).loc main_arg4) : Vec Ideal S8x3584x1024 .f32) (ValueIdx.ix3 ⟨e j.val, he _ j.isLt⟩ k q) := fun k =>
    (down_block (adm m) (U18 m) 0 t ⟨e j.val, he _ j.isLt⟩ hn k q).trans (congrFun (down_eq m) _)
  exact (usedTile_apply _ _ _ _ _ q).trans (expertOut_congr hx h1 h2 h3)

include he hv in
/-- The result at an index. -/
theorem placed_at (y : Vec Ideal S135168x1024 .bf16) (h : Fin 2) (b : Fin 8) (s : Fin 8192) (q : Fin 1024) (j : Fin 131072) (hj : j.val = (h.val * 8 + b.val) * 8192 + s.val) :
    placed y (U18 m 0 (Proc.devRef .tc main_v32)) (ValueIdx.ix4 h b s q) = y (ValueIdx.ix2 (place e he j) q) := by
  unfold placed
  refine (shapeCast_apply _ shapeCasts_S131072x1024_S2x8x8192x1024 _ (ValueIdx.ix2 j q) ?_).trans ?_
  · rw [Shape.rowMajor_val_four, Shape.rowMajor_val_two]
    show j.val * 1024 + q.val = ((h.val * 8 + b.val) * 8192 + s.val) * 1024 + q.val
    rw [hj]
  · have hd := dest_lt e he j
    exact gather_row (nb := 135168) (B := 1024) (n := 131072) gather_S135168x1024_S131072x1_S131072x1024_1_0_n_n_0_1_11024 rfl rfl rfl rfl rfl _ _ j q (place e he j)
      (by rw [bcCol]; exact wrapped_ap _ _ _ j (by omega) (by rw [keep_v32_18]; exact v32_at m 0 e he hv j) (by rw [bc0]; rfl)) (by norm_num)

end Places

/-- Every route names one of the eight experts. -/
def InRange (x1 : IVec S2x8x8192 32) : Prop := ∀ i, (x1 i).toNat < 8

/-- Each index's own expert's output. -/
def resultOf (x0 : FVec Ideal S8x8192x1024 .f32) (x1 : IVec S2x8x8192 32) (x2 x3 : FVec Ideal S8x1024x3584 .f32) (x4 : FVec Ideal S8x3584x1024 .f32) :
    S2x8x8192x1024.Idx → EReal := fun i =>
  outOf x0 x2 x3 x4 ⟨(x1 (ValueIdx.ix3 (i 0 : Fin 2) (i 1 : Fin 8) (i 2 : Fin 8192))).toNat % 8, Nat.mod_lt _ (by norm_num)⟩ (i 1) (i 2) (i 3)

/-- The expert of row `j` of the flattened routes. -/
def expertOf (x1 : IVec S2x8x8192 32) (j : ℕ) : ℕ :=
  (x1 (ValueIdx.ix3 (⟨j / 65536 % 2, Nat.mod_lt _ (by norm_num)⟩ : Fin 2) (⟨j / 8192 % 8, Nat.mod_lt _ (by norm_num)⟩ : Fin 8) (⟨j % 8192, Nat.mod_lt _ (by norm_num)⟩ : Fin 8192))).toNat

theorem expertOf_row (x1 : IVec S2x8x8192 32) (h : Fin 2) (b : Fin 8) (s : Fin 8192) :
    expertOf x1 ((h.val * 8 + b.val) * 8192 + s.val) = (x1 (ValueIdx.ix3 h b s)).toNat := by
  unfold expertOf
  have h0 := h.isLt
  have h1 := b.isLt
  have h2 := s.isLt
  refine congrArg (fun i => (x1 i).toNat) (funext fun a => Fin.ext ?_)
  match a with
  | ⟨0, _⟩ => show ((h.val * 8 + b.val) * 8192 + s.val) / 65536 % 2 = h.val; omega
  | ⟨1, _⟩ => show ((h.val * 8 + b.val) * 8192 + s.val) / 8192 % 8 = b.val; omega
  | ⟨2, _⟩ => show ((h.val * 8 + b.val) * 8192 + s.val) % 8192 = s.val; omega

theorem route_word (m : (ℓ : Loc nD τ sig) → Buf (Elt Ideal) ℓ) (j : Fin 131072) :
    (U0 m 0 (Proc.devRef .tc main_v1) : IVec S131072 32) (ValueIdx.ix1 j) = BitVec.ofNat 32 (expertOf (m (((0 : Dev nD) : Thread nD τ).loc main_arg1)) j.val) := by
  have hj := j.isLt
  rw [U0_v1]
  refine (shapeCast_apply _ shapeCasts_S2x8x8192_S131072 _ (ValueIdx.ix3 (⟨j.val / 65536 % 2, Nat.mod_lt _ (by norm_num)⟩ : Fin 2)
    (⟨j.val / 8192 % 8, Nat.mod_lt _ (by norm_num)⟩ : Fin 8) (⟨j.val % 8192, Nat.mod_lt _ (by norm_num)⟩ : Fin 8192)) ?_).trans ?_
  · rw [Shape.rowMajor_val_three, Shape.rowMajor_val_one]
    show (j.val / 65536 % 2 * 8 + j.val / 8192 % 8) * 8192 + j.val % 8192 = j.val
    omega
  · unfold expertOf
    exact BitVec.eq_of_toNat_eq (by rw [BitVec.toNat_ofNat, Nat.mod_eq_of_lt (BitVec.isLt _)])

/-- The kernel's result. -/
theorem kernel_result (m : (ℓ : Loc nD τ sig) → Buf (Elt Ideal) ℓ) (H : InRange (m (((0 : Dev nD) : Thread nD τ).loc main_arg1))) :
    placed ((dats (adm m) (U18 m) 0 0).arrAt 4 (pipe (adm m)).N) (U18 m 0 (Proc.devRef .tc main_v32))
      = resultOf (m (((0 : Dev nD) : Thread nD τ).loc main_arg0)) (m (((0 : Dev nD) : Thread nD τ).loc main_arg1)) (m (((0 : Dev nD) : Thread nD τ).loc main_arg2))
          (m (((0 : Dev nD) : Thread nD τ).loc main_arg3)) (m (((0 : Dev nD) : Thread nD τ).loc main_arg4)) := by
  have he : ∀ i, i < 131072 → expertOf (m (((0 : Dev nD) : Thread nD τ).loc main_arg1)) i < 8 := fun i _ => H _
  have key : ∀ (h : Fin 2) (b : Fin 8) (s : Fin 8192) (q : Fin 1024),
      placed ((dats (adm m) (U18 m) 0 0).arrAt 4 (pipe (adm m)).N) (U18 m 0 (Proc.devRef .tc main_v32)) (ValueIdx.ix4 h b s q)
        = resultOf (m (((0 : Dev nD) : Thread nD τ).loc main_arg0)) (m (((0 : Dev nD) : Thread nD τ).loc main_arg1)) (m (((0 : Dev nD) : Thread nD τ).loc main_arg2))
          (m (((0 : Dev nD) : Thread nD τ).loc main_arg3)) (m (((0 : Dev nD) : Thread nD τ).loc main_arg4)) (ValueIdx.ix4 h b s q) := by
    intro h b s q
    have h0 := h.isLt
    have h1 := b.isLt
    have h2 := s.isLt
    have hjl : (h.val * 8 + b.val) * 8192 + s.val < 131072 := by omega
    rw [out_array, placed_at m _ he (route_word m) _ h b s q ⟨_, hjl⟩ rfl,
      rowsOut_at m _ he (route_word m) ⟨_, hjl⟩ b s q (by show ((h.val * 8 + b.val) * 8192 + s.val) % 65536 = _; omega)]
    unfold resultOf
    refine congrArg (fun n => outOf _ _ _ _ n b s q) (Fin.ext ?_)
    show expertOf _ ((h.val * 8 + b.val) * 8192 + s.val) = (BitVec.toNat _) % 8
    rw [expertOf_row]
    exact (Nat.mod_eq_of_lt (H _)).symm
  funext i
  have hi : i = ValueIdx.ix4 (i 0 : Fin 2) (i 1 : Fin 8) (i 2 : Fin 8192) (i 3 : Fin 1024) := funext fun a => by
    match a with
    | ⟨0, _⟩ => rfl
    | ⟨1, _⟩ => rfl
    | ⟨2, _⟩ => rfl
    | ⟨3, _⟩ => rfl
  rw [hi]
  exact key _ _ _ _

/-- The reference's result. -/
theorem reference_result (x0 : FVec Ideal S8x8192x1024 .f32) (x1 : IVec S2x8x8192 32) (x2 x3 : FVec Ideal S8x1024x3584 .f32) (x4 : FVec Ideal S8x3584x1024 .f32) (H : InRange x1) :
    Cert.Reference2Ideal.Read.val_main_v137 (F := Ideal) x0 x1 x2 x3 x4 = resultOf x0 x1 x2 x3 x4 := by
  funext i
  have hi : i = ValueIdx.ix4 (i 0 : Fin 2) (i 1 : Fin 8) (i 2 : Fin 8192) (i 3 : Fin 1024) := funext fun a => by
    match a with
    | ⟨0, _⟩ => rfl
    | ⟨1, _⟩ => rfl
    | ⟨2, _⟩ => rfl
    | ⟨3, _⟩ => rfl
  rw [hi]
  refine (reference_apply x0 x1 x2 x3 x4 (i 0) (i 1) (i 2) (i 3) _ (H (ValueIdx.ix3 (i 0 : Fin 2) (i 1 : Fin 8) (i 2 : Fin 8192)))
    (BitVec.eq_of_toNat_eq (by rw [BitVec.toNat_ofNat, Nat.mod_eq_of_lt (BitVec.isLt _)]))).trans ?_
  unfold resultOf
  exact congrArg (fun n => outOf x0 x2 x3 x4 n (i 1) (i 2) (i 3)) (Fin.ext (Nat.mod_eq_of_lt (H _)).symm)

end Cert.Experts

end
-- ==== Proof.ExpertEquation.lean ====
/-
  The expert call's two results are one array, and what the precondition says of the routes.
-/
module

public import proofs.«01_k».proof.Defs
public import proofs.«01_k».proof.Proof.ExpertResult
public import proofs.«01_k».proof.Proof.Gen.Reference2Ideal.Run
public import Idealize.ShloMosaic.Lib.ReduceAll

@[expose] public section

noncomputable section

namespace Cert.Experts

open Idealize.ShloMosaic Idealize.SL.Sem

/-- A word between zero and seven, read signed, is below eight. -/
theorem word_lt (x : BitVec 32) (h0 : IntOp.cmpi .sge x 0#32 = 1#1) (h8 : IntOp.cmpi .slt x 8#32 = 1#1) : x.toNat < 8 := by
  rw [WordCmp.cmpi_sge_zero, WordCmp.ofBool_decide_eq_one_iff] at h0
  rw [WordCmp.cmpi_slt_of_lt (w := 32) h0 (by decide), WordCmp.ofBool_decide_eq_one_iff] at h8
  exact h8

open Cert.Pre_experts_in_range in
theorem inRange_of_pre [Cert.Pre_experts_in_range.Facts] (x0 : FVec Ideal S8x8192x1024 .f32) (x1 : IVec S2x8x8192 32) (x2 x3 : FVec Ideal S8x1024x3584 .f32) (x4 : FVec Ideal S8x3584x1024 .f32)
    (h : Cert.Pre_experts_in_range.fn (F := Ideal) x0 x1 x2 x3 x4 = fun _ => 1#1) : InRange x1 := fun i => by
  have : Subsingleton S_.Idx := ⟨fun _ _ => funext fun a => a.elim0⟩
  obtain ⟨ha, hb⟩ := IntOp.andi_eq_one.1 (congrFun h ValueIdx.ix0)
  exact word_lt (x1 i) (Host.reduce_andi_all _ _ _ _ _ ha i) (Host.reduce_andi_all _ _ _ _ _ hb i)

/-- The kernel ends with each token's expert's output in its result and its arguments as they were. -/
theorem kernel_run (m : (ℓ : Loc Cert.Kernel2Ideal.nD Cert.Kernel2Ideal.τ Cert.Kernel2Ideal.sig) → Buf (Elt Ideal) ℓ) (ρ : Dev Cert.Kernel2Ideal.nD → PrngReg)
    (H : ∀ c : Dev Cert.Kernel2Ideal.nD, InRange (m ((c.tc : Thread Cert.Kernel2Ideal.nD Cert.Kernel2Ideal.τ).loc Cert.Kernel2Ideal.main_arg1))) :
    θ_run (Cert.Kernel2Ideal.defs (F := Ideal)) (onTc (τ := Cert.Kernel2Ideal.τ) (Cert.Kernel2Ideal.main (F := Ideal))) ⟨m, fun _ => 0, ρ⟩ (fun r => ∀ c : Dev Cert.Kernel2Ideal.nD,
      r.2.mem ((c.tc : Thread Cert.Kernel2Ideal.nD Cert.Kernel2Ideal.τ).loc Cert.Kernel2Ideal.main_v112)
        = resultOf (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
            (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
            (m ((c.tc : Thread Cert.Kernel2Ideal.nD Cert.Kernel2Ideal.τ).loc Cert.Kernel2Ideal.main_arg4))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)) :=
  (θ_run Cert.Kernel2Ideal.defs _ _).mono (fun _ h c => by
    have hc := h.1 c
    obtain rfl : c = 0 := Subsingleton.elim _ _
    exact ⟨hc.1.trans (kernel_result m (H 0)), hc.2⟩)
    (run m ρ)

/-- The reference ends with each token's expert's output in its result and its arguments as they were. -/
theorem reference_run (m : (ℓ : Loc Cert.Reference2Ideal.nD Cert.Reference2Ideal.τ Cert.Reference2Ideal.sig) → Buf (Elt Ideal) ℓ) (ρ : Dev Cert.Reference2Ideal.nD → PrngReg)
    (x0 : Dev Cert.Reference2Ideal.nD → FVec Ideal Cert.Reference2Ideal.S8x8192x1024 .f32) (x1 : Dev Cert.Reference2Ideal.nD → IVec Cert.Reference2Ideal.S2x8x8192 32)
    (x2 x3 : Dev Cert.Reference2Ideal.nD → FVec Ideal Cert.Reference2Ideal.S8x1024x3584 .f32) (x4 : Dev Cert.Reference2Ideal.nD → FVec Ideal Cert.Reference2Ideal.S8x3584x1024 .f32)
    (h0 : ∀ c : Dev Cert.Reference2Ideal.nD, m ((c.tc : Thread Cert.Reference2Ideal.nD Cert.Reference2Ideal.τ).loc Cert.Reference2Ideal.main_arg0) = x0 c)
    (h1 : ∀ c : Dev Cert.Reference2Ideal.nD, m ((c.tc : Thread Cert.Reference2Ideal.nD Cert.Reference2Ideal.τ).loc Cert.Reference2Ideal.main_arg1) = x1 c)
    (h2 : ∀ c : Dev Cert.Reference2Ideal.nD, m ((c.tc : Thread Cert.Reference2Ideal.nD Cert.Reference2Ideal.τ).loc Cert.Reference2Ideal.main_arg2) = x2 c)
    (h3 : ∀ c : Dev Cert.Reference2Ideal.nD, m ((c.tc : Thread Cert.Reference2Ideal.nD Cert.Reference2Ideal.τ).loc Cert.Reference2Ideal.main_arg3) = x3 c)
    (h4 : ∀ c : Dev Cert.Reference2Ideal.nD, m ((c.tc : Thread Cert.Reference2Ideal.nD Cert.Reference2Ideal.τ).loc Cert.Reference2Ideal.main_arg4) = x4 c)
    (H : ∀ c, InRange (x1 c)) :
    θ_run (Cert.Reference2Ideal.defs (F := Ideal)) (onTc (τ := Cert.Reference2Ideal.τ) (Cert.Reference2Ideal.main (F := Ideal))) ⟨m, fun _ => 0, ρ⟩ (fun r => ∀ c : Dev Cert.Reference2Ideal.nD,
      r.2.mem ((c.tc : Thread Cert.Reference2Ideal.nD Cert.Reference2Ideal.τ).loc Cert.Reference2Ideal.main_v137) = resultOf (x0 c) (x1 c) (x2 c) (x3 c) (x4 c)
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)) :=
  (θ_run Cert.Reference2Ideal.defs _ _).mono (fun _ h c => by
    refine ⟨(h c).1.trans ((Cert.Reference2Ideal.Read.val_main_v137_eq (StableHlo.launchContents m c)).trans ?_), (h c).2⟩
    rw [StableHlo.launchContents_devRef, StableHlo.launchContents_devRef, StableHlo.launchContents_devRef, StableHlo.launchContents_devRef,
      StableHlo.launchContents_devRef, h0 c, h1 c, h2 c, h3 c, h4 c]
    exact reference_result _ _ _ _ _ (H c))
    (Cert.Reference2Ideal.Value.run (F := Ideal) m ρ)

end Cert.Experts

end
-- ==== Proof.lean ====
/-
  The claims: frames of the kernel (as compiled and idealized) and of the reference, that the idealized kernel is the
  kernel's own text, and the equation of the two results.
-/
module

public import proofs.«01_k».proof.Proof.Gen.ReferenceIdeal.Run
public import proofs.«01_k».proof.Proof.Gen.Reference2Ideal.Run
public import proofs.«01_k».proof.Proof.Gen.Kernel2
public import proofs.«01_k».proof.Defs
public import proofs.«01_k».proof.Proof.Gen.Kernel
public import proofs.«01_k».proof.Proof.Launch
public import proofs.«01_k».proof.Proof.Same
public import proofs.«01_k».proof.Proof.Equation
public import proofs.«01_k».proof.Proof.ExpertLaunch
public import proofs.«01_k».proof.Proof.ExpertSame
public import proofs.«01_k».proof.Proof.ExpertEquation

@[expose] public section

noncomputable section

namespace Cert.Proof

open Idealize.ShloMosaic Idealize.SL.Sem Cert.Kernel

/-- The side conditions of the precondition's own operations. -/
theorem preFacts : Cert.Pre_finite_scores.Facts where
  slices_S8x8192x1536_S8x8192x1024_0_0_0 := by decide
  bcast_S_S8x8192x1024 := by decide
  bcast_S_S8x15x31 := by decide

/-- A run of one program is the run of an equal one. -/
theorem run_same {d d' : Defs Cert.KernelIdeal.nD Cert.KernelIdeal.τ Cert.KernelIdeal.sig (Elt Bits) (Pipeline.Sig Cert.KernelIdeal.Λ₀ (Fin 1) fun p => (Cert.KernelIdeal.pcfgs (F := Bits) p).Adm)}
    {p p' : Dev Cert.KernelIdeal.nD → Prog (TpuEff Cert.KernelIdeal.nD Cert.KernelIdeal.τ Cert.KernelIdeal.sig (Elt Bits) (Pipeline.Sig Cert.KernelIdeal.Λ₀ (Fin 1) fun p => (Cert.KernelIdeal.pcfgs (F := Bits) p).Adm) .tc) PUnit}
    (hd : d' = d) (hp : p' = p) (s) (post) (h : θ_run d (onTc (τ := Cert.KernelIdeal.τ) p) s post) : θ_run d' (onTc (τ := Cert.KernelIdeal.τ) p') s post := by
  subst hd hp
  exact h

/-- The kernel as compiled has the idealized kernel's text, so its frame is the one run read at machine words. -/
theorem frame_kernel : Cert.quiescent_Kernel := fun m ρ _ =>
  run_same (Cert.Attention.defs_same Bits) (Cert.Attention.main_same Bits) _ _ (Cert.Attention.frame (F := Bits) m ρ)

theorem frame_kernelIdeal : Cert.quiescent_KernelIdeal := fun m ρ _ => Cert.Attention.frame (F := Ideal) m ρ

/-- The reference ends with its arguments unchanged, and it has no semaphores. -/
theorem frame_reference : Cert.quiescent_ReferenceIdeal := fun m ρ _ =>
  (θ_run Cert.ReferenceIdeal.defs _ _).mono (fun r h =>
    ⟨fun c => ⟨(h c).2.1, (h c).2.2⟩, Idealize.ShloMosaic.sem_eq_zero_of_no_sems (by decide) r.2⟩)
    (Cert.ReferenceIdeal.Value.run (F := Ideal) m ρ)

/-- Under the precondition the two results are the attention of the arguments. -/
theorem equation : Cert.algebraic_KernelIdeal_ReferenceIdeal_pre_finite_scores (hPre_finite_scores := preFacts) := fun m ρ m' ρ' hpre hargs => by
  have H : ∀ c, Cert.Attention.Finite (Cert.Attention.proj m c) (Cert.Attention.bias m c) := fun c =>
    @Cert.Attention.finite_of_pre _ _ preFacts (hpre c).1 (hpre c).2
  exact ⟨fun c => Cert.Attention.attendedAll (Cert.Attention.proj m c) (Cert.Attention.bias m c), Cert.Attention.kernel_run m ρ H,
    Cert.Attention.reference_run m' ρ' _ _ (fun c => (hargs c).1) (fun c => (hargs c).2) H⟩

/-! ## The experts -/

/-- The side conditions of the routes' precondition. -/
theorem preFacts2 : Cert.Pre_experts_in_range.Facts where
  bcast_S_S2x8x8192 := by decide
  reducesTo_S2x8x8192_S_d0_1_2 := by decide
  h_S_ := by decide

/-- A run of one expert program is the run of an equal one. -/
theorem run_same2 {d d' : Defs Cert.Kernel2Ideal.nD Cert.Kernel2Ideal.τ Cert.Kernel2Ideal.sig (Elt Bits) (Pipeline.Sig Cert.Kernel2Ideal.Λ₀ (Fin 1) fun p => (Cert.Kernel2Ideal.pcfgs (F := Bits) p).Adm)}
    {p p' : Dev Cert.Kernel2Ideal.nD → Prog (TpuEff Cert.Kernel2Ideal.nD Cert.Kernel2Ideal.τ Cert.Kernel2Ideal.sig (Elt Bits) (Pipeline.Sig Cert.Kernel2Ideal.Λ₀ (Fin 1) fun p => (Cert.Kernel2Ideal.pcfgs (F := Bits) p).Adm) .tc) PUnit}
    (hd : d' = d) (hp : p' = p) (s) (post) (h : θ_run d (onTc (τ := Cert.Kernel2Ideal.τ) p) s post) : θ_run d' (onTc (τ := Cert.Kernel2Ideal.τ) p') s post := by
  subst hd hp
  exact h

/-- The expert kernel as compiled has the idealized one's text, so its frame is the one run read at machine words. -/
theorem frame_kernel2 : Cert.quiescent_Kernel2 := fun m ρ _ =>
  run_same2 (Cert.Experts.defs_same Bits) (Cert.Experts.main_same Bits) _ _ (Cert.Experts.frame (F := Bits) m ρ)

theorem frame_kernel2Ideal : Cert.quiescent_Kernel2Ideal := fun m ρ _ => Cert.Experts.frame (F := Ideal) m ρ

/-- The experts' reference ends with its arguments unchanged, and it has no semaphores. -/
theorem frame_reference2 : Cert.quiescent_Reference2Ideal := fun m ρ _ =>
  (θ_run Cert.Reference2Ideal.defs _ _).mono (fun r h =>
    ⟨fun c => (h c).2, Idealize.ShloMosaic.sem_eq_zero_of_no_sems (by decide) r.2⟩)
    (Cert.Reference2Ideal.Value.run (F := Ideal) m ρ)

/-- Under the precondition the two results are each token's own experts' outputs. -/
theorem equation2 : Cert.algebraic_Kernel2Ideal_Reference2Ideal_pre_experts_in_range (hPre_experts_in_range := preFacts2) := fun m ρ m' ρ' hpre hargs => by
  have H : ∀ c : Dev Cert.Kernel2Ideal.nD, Cert.Experts.InRange (m ((c.tc : Thread Cert.Kernel2Ideal.nD Cert.Kernel2Ideal.τ).loc Cert.Kernel2Ideal.main_arg1)) := fun c =>
    @Cert.Experts.inRange_of_pre preFacts2 _ _ _ _ _ (hpre c)
  exact ⟨fun c => _, Cert.Experts.kernel_run m ρ H,
    Cert.Experts.reference_run m' ρ' _ _ _ _ _ (fun c => (hargs c).1) (fun c => (hargs c).2.1) (fun c => (hargs c).2.2.1) (fun c => (hargs c).2.2.2.1)
      (fun c => (hargs c).2.2.2.2) H⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, preFacts, preFacts2,
  frame_kernel, frame_kernelIdeal, fun m ρ _ => frame_kernelIdeal m ρ trivial,
  frame_reference, fun m ρ _ => frame_reference m ρ trivial,
  frame_kernel2, frame_kernel2Ideal, fun m ρ _ => frame_kernel2Ideal m ρ trivial,
  frame_reference2, fun m ρ _ => frame_reference2 m ρ trivial,
  trivial, equation, trivial, equation2⟩

end Cert.Proof

end
